-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_tables_ok : Cert.Pre_tables_ok.Facts] (m : (ℓ : Loc Cert.Kernel4.nD Cert.Kernel4.τ Cert.Kernel4.sig) → Buf (Elt Bits) ℓ) : Prop :=
  ∀ c : Dev Cert.Kernel4.nD,
    (Cert.Pre_tables_ok.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))) = (fun _ => 1#1)

def Pre_Kernel4Ideal [hPre_tables_ok : Cert.Pre_tables_ok.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tables_ok.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_tables_ok [hPre_tables_ok : Cert.Pre_tables_ok.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tables_ok.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] [hPre_tables_ok : Cert.Pre_tables_ok.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] [hPre_tables_ok : Cert.Pre_tables_ok.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_tables_ok [hReference4Ideal : Cert.Reference4Ideal.Facts] [hPre_tables_ok : Cert.Pre_tables_ok.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_tables_ok m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] [hPre_tables_ok : Cert.Pre_tables_ok.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_ok : Cert.Pre_tables_ok.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_tables_ok := hPre_tables_ok)
    ∧ quiescent_Kernel4Ideal (hKernel4Ideal := hKernel4Ideal) (hPre_tables_ok := hPre_tables_ok)
    ∧ quiescent_Reference4Ideal (hReference4Ideal := hReference4Ideal)
    ∧ quiescent_Reference4Ideal_pre_tables_ok (hReference4Ideal := hReference4Ideal) (hPre_tables_ok := hPre_tables_ok)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_tables_ok := hPre_tables_ok)
-- ==== Pre_tables_ok.lean ====
abbrev S192 : Shape := ⟨1, ![192]⟩
abbrev S1 : Shape := ⟨1, ![1]⟩
abbrev S49152x2048 : Shape := ⟨2, ![49152, 2048]⟩
abbrev S64x2048x512 : Shape := ⟨3, ![64, 2048, 512]⟩
abbrev S64x512x2048 : Shape := ⟨3, ![64, 512, 2048]⟩
abbrev S191 : Shape := ⟨1, ![191]⟩
abbrev S_ : Shape := ⟨0, ![]⟩

class Facts : Prop where
  shapeCasts_S1_S_ : S1.ShapeCasts S_
  slices_S192_S191_0 : S192.Slices ![0] S191
  slices_S192_S191_1 : S192.Slices ![1] S191
  bcast_S_S191 : S_.BroadcastsInDim S191 (![] : Fin 0 → Fin S191.rank)

variable [Facts]

def fn_part3 {F : FTy → Type} [FloatOps F] (main_v0 : IVec S191 32) (main_v1 : IVec S_ 32) (main_v7 : IVec S191 32) (main_v10 : IVec S_ 1) (main_v21 : IVec S191 1) (main_v32 : IVec S191 1) (main_v37 : IVec S191 1) (main_v44 : IVec S191 1) (main_v51 : IVec S191 1) (main_v56 : IVec S191 1) : IVec S191 1 :=
  let main_c_14 : IVec S_ 32 := constantI S_ 32 0#32
  let main_v57 : IVec S191 32 := broadcastInDim S191 ![] bcast_S_S191 main_c_14
  let main_v58 : IVec S191 1 := cmpi .slt main_v7 main_v57
  let main_v59 : IVec S191 1 := ori main_v56 main_v58
  let main_v60 : IVec S191 1 := andi main_v51 main_v59
  let main_v61 : IVec S191 1 := broadcastInDim S191 ![] bcast_S_S191 main_v10
  let main_v62 : IVec S191 1 := andi main_v61 main_v21
  let main_v63 : IVec S191 1 := andi main_v62 main_v32
  let main_v64 : IVec S191 1 := andi main_v63 main_v60
  let main_c_15 : IVec S_ 32 := constantI S_ 32 1#32
  let main_v65 : IVec S191 32 := broadcastInDim S191 ![] bcast_S_S191 main_c_15
  let main_v66 : IVec S191 32 := addi main_v0 main_v65
  let main_v67 : IVec S191 32 := broadcastInDim S191 ![] bcast_S_S191 main_v1
  let main_v68 : IVec S191 1 := cmpi .sge main_v66 main_v67
  let main_v69 : IVec S191 1 := ori main_v68 main_v37
  let main_v70 : IVec S191 1 := ori main_v69 main_v44
  let main_v71 : IVec S191 1 := andi main_v64 main_v70
  main_v71

def fn_part2 {F : FTy → Type} [FloatOps F] (main_v0 : IVec S191 32) (main_v1 : IVec S_ 32) (main_v2 : IVec S191 32) (main_v3 : IVec S191 32) (main_v4 : IVec S191 32) (main_v5 : IVec S191 32) (main_v6 : IVec S191 32) (main_v7 : IVec S191 32) (main_v10 : IVec S_ 1) (main_v21 : IVec S191 1) (main_v32 : IVec S191 1) (main_v37 : IVec S191 1) : IVec S191 1 :=
  let main_v38 : IVec S191 1 := cmpi .ne main_v2 main_v3
  let main_v39 : IVec S191 1 := cmpi .eq main_v6 main_v3
  let main_v40 : IVec S191 1 := andi main_v38 main_v39
  let main_c_9 : IVec S_ 32 := constantI S_ 32 1#32
  let main_v41 : IVec S191 32 := broadcastInDim S191 ![] bcast_S_S191 main_c_9
  let main_v42 : IVec S191 32 := addi main_v4 main_v41
  let main_v43 : IVec S191 1 := cmpi .eq main_v5 main_v42
  let main_v44 : IVec S191 1 := andi main_v40 main_v43
  let main_c_10 : IVec S_ 32 := constantI S_ 32 1#32
  let main_v45 : IVec S191 32 := broadcastInDim S191 ![] bcast_S_S191 main_c_10
  let main_v46 : IVec S191 32 := addi main_v0 main_v45
  let main_v47 : IVec S191 32 := broadcastInDim S191 ![] bcast_S_S191 main_v1
  let main_v48 : IVec S191 1 := cmpi .ne main_v46 main_v47
  let main_c_11 : IVec S_ 32 := constantI S_ 32 0#32
  let main_v49 : IVec S191 32 := broadcastInDim S191 ![] bcast_S_S191 main_c_11
  let main_v50 : IVec S191 1 := cmpi .slt main_v6 main_v49
  let main_v51 : IVec S191 1 := ori main_v48 main_v50
  let main_c_12 : IVec S_ 32 := constantI S_ 32 192#32
  let main_v52 : IVec S_ 1 := cmpi .ne main_v1 main_c_12
  let main_c_13 : IVec S_ 32 := constantI S_ 32 190#32
  let main_v53 : IVec S191 32 := broadcastInDim S191 ![] bcast_S_S191 main_c_13
  let main_v54 : IVec S191 1 := cmpi .ne main_v0 main_v53
  let main_v55 : IVec S191 1 := broadcastInDim S191 ![] bcast_S_S191 main_v52
  let main_v56 : IVec S191 1 := ori main_v55 main_v54
  fn_part3 (F := F) main_v0 main_v1 main_v7 main_v10 main_v21 main_v32 main_v37 main_v44 main_v51 main_v56

def fn_part1 {F : FTy → Type} [FloatOps F] (main_v0 : IVec S191 32) (main_v1 : IVec S_ 32) (main_v2 : IVec S191 32) (main_v3 : IVec S191 32) (main_v4 : IVec S191 32) (main_v5 : IVec S191 32) (main_v6 : IVec S191 32) (main_v7 : IVec S191 32) (main_v10 : IVec S_ 1) (main_v18 : IVec S191 1) : IVec S191 1 :=
  let main_c_4 : IVec S_ 32 := constantI S_ 32 64#32
  let main_v19 : IVec S191 32 := broadcastInDim S191 ![] bcast_S_S191 main_c_4
  let main_v20 : IVec S191 1 := cmpi .slt main_v3 main_v19
  let main_v21 : IVec S191 1 := andi main_v18 main_v20
  let main_c_5 : IVec S_ 32 := constantI S_ 32 0#32
  let main_v22 : IVec S191 32 := broadcastInDim S191 ![] bcast_S_S191 main_c_5
  let main_v23 : IVec S191 1 := cmpi .sge main_v4 main_v22
  let main_c_6 : IVec S_ 32 := constantI S_ 32 64#32
  let main_v24 : IVec S191 32 := broadcastInDim S191 ![] bcast_S_S191 main_c_6
  let main_v25 : IVec S191 1 := cmpi .slt main_v4 main_v24
  let main_v26 : IVec S191 1 := andi main_v23 main_v25
  let main_c_7 : IVec S_ 32 := constantI S_ 32 0#32
  let main_v27 : IVec S191 32 := broadcastInDim S191 ![] bcast_S_S191 main_c_7
  let main_v28 : IVec S191 1 := cmpi .sge main_v5 main_v27
  let main_v29 : IVec S191 1 := andi main_v26 main_v28
  let main_c_8 : IVec S_ 32 := constantI S_ 32 64#32
  let main_v30 : IVec S191 32 := broadcastInDim S191 ![] bcast_S_S191 main_c_8
  let main_v31 : IVec S191 1 := cmpi .slt main_v5 main_v30
  let main_v32 : IVec S191 1 := andi main_v29 main_v31
  let main_v33 : IVec S191 1 := cmpi .eq main_v2 main_v3
  let main_v34 : IVec S191 1 := cmpi .eq main_v4 main_v5
  let main_v35 : IVec S191 1 := andi main_v33 main_v34
  let main_v36 : IVec S191 1 := cmpi .eq main_v6 main_v7
  let main_v37 : IVec S191 1 := andi main_v35 main_v36
  fn_part2 (F := F) main_v0 main_v1 main_v2 main_v3 main_v4 main_v5 main_v6 main_v7 main_v10 main_v21 main_v32 main_v37

def fn {F : FTy → Type} [FloatOps F] (main_arg0 : IVec S192 32) (main_arg1 : IVec S192 32) (main_arg2 : IVec S192 32) (main_arg3 : IVec S1 32) (main_arg4 : FVec F S49152x2048 .f32) (main_arg5 : FVec F S64x2048x512 .f32) (main_arg6 : FVec F S64x2048x512 .f32) (main_arg7 : FVec F S64x512x2048 .f32) : IVec S191 1 :=
  let main_v0 : IVec S191 32 := iotaInDim S191 32 0
  let main_v1 : IVec S_ 32 := shapeCast S_ main_arg3 shapeCasts_S1_S_
  let main_v2 : IVec S191 32 := (extractStridedSlice S191 ![0] · slices_S192_S191_0) main_arg0
  let main_v3 : IVec S191 32 := (extractStridedSlice S191 ![1] · slices_S192_S191_1) main_arg0
  let main_v4 : IVec S191 32 := (extractStridedSlice S191 ![0] · slices_S192_S191_0) main_arg1
  let main_v5 : IVec S191 32 := (extractStridedSlice S191 ![1] · slices_S192_S191_1) main_arg1
  let main_v6 : IVec S191 32 := (extractStridedSlice S191 ![0] · slices_S192_S191_0) main_arg2
  let main_v7 : IVec S191 32 := (extractStridedSlice S191 ![1] · slices_S192_S191_1) main_arg2
  let main_c : IVec S_ 32 := constantI S_ 32 1#32
  let main_v8 : IVec S_ 1 := cmpi .sge main_v1 main_c
  let main_c_0 : IVec S_ 32 := constantI S_ 32 192#32
  let main_v9 : IVec S_ 1 := cmpi .sle main_v1 main_c_0
  let main_v10 : IVec S_ 1 := andi main_v8 main_v9
  let main_c_1 : IVec S_ 32 := constantI S_ 32 0#32
  let main_v11 : IVec S191 32 := broadcastInDim S191 ![] bcast_S_S191 main_c_1
  let main_v12 : IVec S191 1 := cmpi .sge main_v2 main_v11
  let main_c_2 : IVec S_ 32 := constantI S_ 32 64#32
  let main_v13 : IVec S191 32 := broadcastInDim S191 ![] bcast_S_S191 main_c_2
  let main_v14 : IVec S191 1 := cmpi .slt main_v2 main_v13
  let main_v15 : IVec S191 1 := andi main_v12 main_v14
  let main_c_3 : IVec S_ 32 := constantI S_ 32 0#32
  let main_v16 : IVec S191 32 := broadcastInDim S191 ![] bcast_S_S191 main_c_3
  let main_v17 : IVec S191 1 := cmpi .sge main_v3 main_v16
  let main_v18 : IVec S191 1 := andi main_v15 main_v17
  fn_part1 (F := F) main_v0 main_v1 main_v2 main_v3 main_v4 main_v5 main_v6 main_v7 main_v10 main_v18
-- ==== Kernel.lean ====
abbrev S16384x6656 : Shape := ⟨2, ![16384, 6656]⟩
abbrev S1024 : Shape := ⟨1, ![1024]⟩
abbrev S2048 : Shape := ⟨1, ![2048]⟩
abbrev S128 : Shape := ⟨1, ![128]⟩
abbrev S_ : Shape := ⟨0, ![]⟩
abbrev S2048x1 : Shape := ⟨2, ![2048, 1]⟩
abbrev S1x128 : Shape := ⟨2, ![1, 128]⟩
abbrev S2048x128 : Shape := ⟨2, ![2048, 128]⟩
abbrev S4 : Shape := ⟨1, ![4]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S1x1024 : Shape := ⟨2, ![1, 1024]⟩
abbrev S16384x1024 : Shape := ⟨2, ![16384, 1024]⟩
abbrev S256x1024 : Shape := ⟨2, ![256, 1024]⟩
abbrev S256x128 : Shape := ⟨2, ![256, 128]⟩
abbrev S4x256x256 : Shape := ⟨3, ![4, 256, 256]⟩
abbrev S128x256 : Shape := ⟨2, ![128, 256]⟩
abbrev S1x256x256 : Shape := ⟨3, ![1, 256, 256]⟩
abbrev S256x256 : Shape := ⟨2, ![256, 256]⟩
abbrev S1x128x1 : Shape := ⟨3, ![1, 128, 1]⟩
abbrev S1x1x1 : Shape := ⟨3, ![1, 1, 1]⟩
abbrev S1x1 : Shape := ⟨2, ![1, 1]⟩
abbrev S1x256 : Shape := ⟨2, ![1, 256]⟩

abbrev nBuf : Space → Nat
  | .hbm => 78
  | .vmem => 20
  | .smem => 0
  | _ => 0

abbrev bufTy : (tb : Table) → Fin (tcTables nBuf tb) → BufTy
  | .hbm, ⟨0, _⟩ => ⟨S16384x6656, .bf16⟩
  | .hbm, ⟨1, _⟩ => ⟨S1024, .f32⟩
  | .hbm, ⟨2, _⟩ => ⟨S2048, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S2048x1, .f32⟩
  | .hbm, ⟨12, _⟩ => ⟨S1x128, .f32⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S128, .f32⟩
  | .hbm, ⟨29, _⟩ => ⟨S128x1, .f32⟩
  | .hbm, ⟨30, _⟩ => ⟨S1x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .i1⟩
  | .hbm, ⟨37, _⟩ => ⟨S4x1x1, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S1x128x128, .f32⟩
  | .hbm, ⟨42, _⟩ => ⟨S4x128x128, .f32⟩
  | .hbm, ⟨43, _⟩ => ⟨S4x128x128, .f32⟩
  | .hbm, ⟨44, _⟩ => ⟨S4x128x128, .f32⟩
  | .hbm, ⟨45, _⟩ => ⟨S4x128x128, .f32⟩
  | .hbm, ⟨46, _⟩ => ⟨S_, .f32⟩
  | .hbm, ⟨47, _⟩ => ⟨S_, .f32⟩
  | .hbm, ⟨48, _⟩ => ⟨S4x128x128, .i1⟩
  | .hbm, ⟨49, _⟩ => ⟨S4x128x128, .f32⟩
  | .hbm, ⟨50, _⟩ => ⟨S4x128x128, .f32⟩
  | .hbm, ⟨51, _⟩ => ⟨S4x1, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S4x128, .f32⟩
  | .hbm, ⟨57, _⟩ => ⟨S4x128, .f32⟩
  | .hbm, ⟨58, _⟩ => ⟨S4x128, .f32⟩
  | .hbm, ⟨59, _⟩ => ⟨S4x128, .f32⟩
  | .hbm, ⟨60, _⟩ => ⟨S4x128x1, .f32⟩
  | .hbm, ⟨61, _⟩ => ⟨S4x1, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S4x128, .f32⟩
  | .hbm, ⟨67, _⟩ => ⟨S4x128, .f32⟩
  | .hbm, ⟨68, _⟩ => ⟨S4x128, .f32⟩
  | .hbm, ⟨69, _⟩ => ⟨S4x128, .f32⟩
  | .hbm, ⟨70, _⟩ => ⟨S4x128x1, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S4x1x1, .f32⟩
  | .hbm, ⟨76, _⟩ => ⟨S1x1024, .f32⟩
  | .hbm, ⟨77, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S4x128x128, .f32⟩
  | .local _ .vmem, ⟨13, _⟩ => ⟨S4x128x1, .f32⟩
  | .local _ .vmem, ⟨14, _⟩ => ⟨S4x128x1, .f32⟩
  | .local _ .vmem, ⟨15, _⟩ => ⟨S4x1x1, .f32⟩
  | .local _ .vmem, ⟨16, _⟩ => ⟨S1x1024, .f32⟩
  | .local _ .vmem, ⟨17, _⟩ => ⟨S256x1024, .bf16⟩
  | .local _ .vmem, ⟨18, _⟩ => ⟨S256x1024, .bf16⟩
  | .local _ .vmem, ⟨19, _⟩ => ⟨S4x256x256, .f32⟩
  | _, _ => ⟨S16384x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S16384x6656 : Shape := ⟨2, ![16384, 6656]⟩
abbrev S1024 : Shape := ⟨1, ![1024]⟩
abbrev S8x2048x6656 : Shape := ⟨3, ![8, 2048, 6656]⟩
abbrev S8x2048x1024 : Shape := ⟨3, ![8, 2048, 1024]⟩
abbrev S8x2048x4x256 : Shape := ⟨4, ![8, 2048, 4, 256]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S2048 : Shape := ⟨1, ![2048]⟩
abbrev S2048x1 : Shape := ⟨2, ![2048, 1]⟩
abbrev S2048x128 : Shape := ⟨2, ![2048, 128]⟩
abbrev S1x2048x1x128 : Shape := ⟨4, ![1, 2048, 1, 128]⟩
abbrev S8x2048x4x128 : Shape := ⟨4, ![8, 2048, 4, 128]⟩
abbrev S8x16x128x4x256 : Shape := ⟨5, ![8, 16, 128, 4, 256]⟩
abbrev S8x4x16x128x256 : Shape := ⟨5, ![8, 4, 16, 128, 256]⟩
abbrev S1x4x1x128x1 : Shape := ⟨5, ![1, 4, 1, 128, 1]⟩
abbrev S16x8x4x256x256 : Shape := ⟨5, ![16, 8, 4, 256, 256]⟩
abbrev S8x4x256x256 : Shape := ⟨4, ![8, 4, 256, 256]⟩
abbrev S1x8x4x256x256 : Shape := ⟨5, ![1, 8, 4, 256, 256]⟩
abbrev S1x4x1x1 : Shape := ⟨4, ![1, 4, 1, 1]⟩
abbrev S8x4x16x128x128 : Shape := ⟨5, ![8, 4, 16, 128, 128]⟩
abbrev S1x4x1x128x128 : Shape := ⟨5, ![1, 4, 1, 128, 128]⟩
abbrev S8x2048x4 : Shape := ⟨3, ![8, 2048, 4]⟩
abbrev S8x2048x4x1 : Shape := ⟨4, ![8, 2048, 4, 1]⟩
abbrev S1x1x1024 : Shape := ⟨3, ![1, 1, 1024]⟩
abbrev S16384x1024 : Shape := ⟨2, ![16384, 1024]⟩

abbrev nBuf : Space → Nat
  | .hbm => 334
  | .vmem => 0
  | .smem => 0
  | _ => 0

abbrev hbmTy0_0 (i : Nat) : BufTy := match i % 128 with
  | 0 => ⟨S16384x6656, .bf16⟩
  | 1 => ⟨S1024, .f32⟩
  | 2 => ⟨S16384x6656, .f32⟩
  | 3 => ⟨S8x2048x6656, .f32⟩
  | 4 => ⟨S8x2048x1024, .f32⟩
  | 5 => ⟨S8x2048x1024, .f32⟩
  | 6 => ⟨S8x2048x1024, .f32⟩
  | 7 => ⟨S8x2048x1024, .f32⟩
  | 8 => ⟨S8x2048x4x256, .f32⟩
  | 9 => ⟨S8x2048x4x256, .f32⟩
  | 10 => ⟨S8x2048x4x256, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S4, .f32⟩
  | 20 => ⟨S4, .f32⟩
  | 21 => ⟨S128, .f32⟩
  | 22 => ⟨S128x1, .f32⟩
  | 23 => ⟨S1x128, .f32⟩
  | 24 => ⟨S128x128, .f32⟩
  | 25 => ⟨S128x128, .f32⟩
  | 26 => ⟨S128x128, .f32⟩
  | 27 => ⟨S128, .i32⟩
  | 28 => ⟨S128x1, .i32⟩
  | 29 => ⟨S128, .i32⟩
  | 30 => ⟨S1x128, .i32⟩
  | 31 => ⟨S128x128, .i32⟩
  | 32 => ⟨S128x128, .i32⟩
  | 33 => ⟨S128x128, .i1⟩
  | 34 => ⟨S4x1x1, .f32⟩
  | 35 => ⟨S_, .f32⟩
  | 36 => ⟨S128x128, .f32⟩
  | 37 => ⟨S128x128, .f32⟩
  | 38 => ⟨S1x128x128, .f32⟩
  | 39 => ⟨S4x128x128, .f32⟩
  | 40 => ⟨S4x128x128, .f32⟩
  | 41 => ⟨S4x128x128, .f32⟩
  | 42 => ⟨S4x128x128, .f32⟩
  | 43 => ⟨S_, .f32⟩
  | 44 => ⟨S_, .f32⟩
  | 45 => ⟨S4x128x128, .i1⟩
  | 46 => ⟨S4x128x128, .f32⟩
  | 47 => ⟨S4x128x128, .f32⟩
  | 48 => ⟨S4x1, .f32⟩
  | 49 => ⟨S_, .f32⟩
  | 50 => ⟨S128, .f32⟩
  | 51 => ⟨S128, .f32⟩
  | 52 => ⟨S1x128, .f32⟩
  | 53 => ⟨S4x128, .f32⟩
  | 54 => ⟨S4x128, .f32⟩
  | 55 => ⟨S4x128, .f32⟩
  | 56 => ⟨S4x128, .f32⟩
  | 57 => ⟨S4x1, .f32⟩
  | 58 => ⟨S_, .f32⟩
  | 59 => ⟨S128, .f32⟩
  | 60 => ⟨S128, .f32⟩
  | 61 => ⟨S1x128, .f32⟩
  | 62 => ⟨S4x128, .f32⟩
  | 63 => ⟨S4x128, .f32⟩
  | 64 => ⟨S4x128, .f32⟩
  | 65 => ⟨S4x128, .f32⟩
  | 66 => ⟨S_, .f32⟩
  | 67 => ⟨S4, .f32⟩
  | 68 => ⟨S4, .f32⟩
  | 69 => ⟨S4, .f32⟩
  | 70 => ⟨S2048, .i32⟩
  | 71 => ⟨S128, .f32⟩
  | 72 => ⟨S128, .f32⟩
  | 73 => ⟨S_, .f32⟩
  | 74 => ⟨S128, .f32⟩
  | 75 => ⟨S128, .f32⟩
  | 76 => ⟨S_, .f32⟩
  | 77 => ⟨S128, .f32⟩
  | 78 => ⟨S128, .f32⟩
  | 79 => ⟨S2048, .f32⟩
  | 80 => ⟨S2048x1, .f32⟩
  | 81 => ⟨S1x128, .f32⟩
  | 82 => ⟨S2048x128, .f32⟩
  | 83 => ⟨S2048x128, .f32⟩
  | 84 => ⟨S2048x128, .f32⟩
  | 85 => ⟨S2048x128, .f32⟩
  | 86 => ⟨S1x2048x1x128, .f32⟩
  | 87 => ⟨S2048x128, .f32⟩
  | 88 => ⟨S1x2048x1x128, .f32⟩
  | 89 => ⟨S8x2048x4x128, .f32⟩
  | 90 => ⟨S8x2048x4x128, .f32⟩
  | 91 => ⟨S8x2048x4x128, .f32⟩
  | 92 => ⟨S8x2048x4x128, .f32⟩
  | 93 => ⟨S8x2048x4x128, .f32⟩
  | 94 => ⟨S8x2048x4x128, .f32⟩
  | 95 => ⟨S8x2048x4x128, .f32⟩
  | 96 => ⟨S8x2048x4x128, .f32⟩
  | 97 => ⟨S8x2048x4x128, .f32⟩
  | 98 => ⟨S8x2048x4x128, .f32⟩
  | 99 => ⟨S8x2048x4x128, .f32⟩
  | 100 => ⟨S8x2048x4x128, .f32⟩
  | 101 => ⟨S8x2048x4x256, .f32⟩
  | 102 => ⟨S_, .f32⟩
  | 103 => ⟨S8x2048x4x256, .f32⟩
  | 104 => ⟨S8x2048x4x256, .f32⟩
  | 105 => ⟨S8x16x128x4x256, .f32⟩
  | 106 => ⟨S8x4x16x128x256, .f32⟩
  | 107 => ⟨S8x16x128x4x256, .f32⟩
  | 108 => ⟨S8x4x16x128x256, .f32⟩
  | 109 => ⟨S1x4x1x128x1, .f32⟩
  | 110 => ⟨S8x4x16x128x256, .f32⟩
  | 111 => ⟨S8x4x16x128x256, .f32⟩
  | 112 => ⟨S16x8x4x256x256, .f32⟩
  | 113 => ⟨S_, .f32⟩
  | 114 => ⟨S8x4x256x256, .f32⟩
  | 115 => ⟨S_, .f32⟩
  | 116 => ⟨S16x8x4x256x256, .f32⟩
  | 117 => ⟨S_, .i32⟩
  | 118 => ⟨S16x8x4x256x256, .f32⟩
  | 119 => ⟨S4, .f32⟩
  | 120 => ⟨S_, .i32⟩
  | 121 => ⟨S8x4x256x256, .f32⟩
  | 122 => ⟨S16x8x4x256x256, .f32⟩
  | 123 => ⟨S_, .i32⟩
  | 124 => ⟨S_, .i1⟩
  | 125 => ⟨S_, .i32⟩
  | 126 => ⟨S_, .i32⟩
  | 127 => ⟨S_, .i32⟩
  | _ => ⟨S16384x6656, .bf16⟩

abbrev hbmTy0_1 (i : Nat) : BufTy := match i % 128 with
  | 0 => ⟨S_, .i32⟩
  | 1 => ⟨S1x8x4x256x256, .f32⟩
  | 2 => ⟨S8x4x256x256, .f32⟩
  | 3 => ⟨S1x4x1x1, .f32⟩
  | 4 => ⟨S8x4x256x256, .f32⟩
  | 5 => ⟨S8x4x256x256, .f32⟩
  | 6 => ⟨S8x4x256x256, .f32⟩
  | 7 => ⟨S1x8x4x256x256, .f32⟩
  | 8 => ⟨S_, .i32⟩
  | 9 => ⟨S_, .i32⟩
  | 10 => ⟨S_, .i32⟩
  | 11 => ⟨S_, .i32⟩
  | 12 => ⟨S16x8x4x256x256, .f32⟩
  | 13 => ⟨S_, .i32⟩
  | 14 => ⟨S_, .i32⟩
  | 15 => ⟨S16384x6656, .f32⟩
  | 16 => ⟨S8x2048x6656, .f32⟩
  | 17 => ⟨S8x2048x1024, .f32⟩
  | 18 => ⟨S8x2048x1024, .f32⟩
  | 19 => ⟨S8x2048x1024, .f32⟩
  | 20 => ⟨S8x2048x1024, .f32⟩
  | 21 => ⟨S8x2048x4x256, .f32⟩
  | 22 => ⟨S8x2048x4x256, .f32⟩
  | 23 => ⟨S8x2048x4x256, .f32⟩
  | 24 => ⟨S2048, .i32⟩
  | 25 => ⟨S128, .f32⟩
  | 26 => ⟨S128, .f32⟩
  | 27 => ⟨S_, .f32⟩
  | 28 => ⟨S128, .f32⟩
  | 29 => ⟨S128, .f32⟩
  | 30 => ⟨S_, .f32⟩
  | 31 => ⟨S128, .f32⟩
  | 32 => ⟨S128, .f32⟩
  | 33 => ⟨S2048, .f32⟩
  | 34 => ⟨S2048x1, .f32⟩
  | 35 => ⟨S1x128, .f32⟩
  | 36 => ⟨S2048x128, .f32⟩
  | 37 => ⟨S2048x128, .f32⟩
  | 38 => ⟨S2048x128, .f32⟩
  | 39 => ⟨S2048x128, .f32⟩
  | 40 => ⟨S1x2048x1x128, .f32⟩
  | 41 => ⟨S2048x128, .f32⟩
  | 42 => ⟨S1x2048x1x128, .f32⟩
  | 43 => ⟨S8x2048x4x128, .f32⟩
  | 44 => ⟨S8x2048x4x128, .f32⟩
  | 45 => ⟨S8x2048x4x128, .f32⟩
  | 46 => ⟨S8x2048x4x128, .f32⟩
  | 47 => ⟨S8x2048x4x128, .f32⟩
  | 48 => ⟨S8x2048x4x128, .f32⟩
  | 49 => ⟨S8x2048x4x128, .f32⟩
  | 50 => ⟨S8x2048x4x128, .f32⟩
  | 51 => ⟨S8x2048x4x128, .f32⟩
  | 52 => ⟨S8x2048x4x128, .f32⟩
  | 53 => ⟨S8x2048x4x128, .f32⟩
  | 54 => ⟨S8x2048x4x128, .f32⟩
  | 55 => ⟨S8x2048x4x256, .f32⟩
  | 56 => ⟨S128, .f32⟩
  | 57 => ⟨S128, .f32⟩
  | 58 => ⟨S_, .f32⟩
  | 59 => ⟨S128, .f32⟩
  | 60 => ⟨S128, .f32⟩
  | 61 => ⟨S_, .f32⟩
  | 62 => ⟨S128, .f32⟩
  | 63 => ⟨S128, .f32⟩
  | 64 => ⟨S2048, .f32⟩
  | 65 => ⟨S2048x1, .f32⟩
  | 66 => ⟨S1x128, .f32⟩
  | 67 => ⟨S2048x128, .f32⟩
  | 68 => ⟨S2048x128, .f32⟩
  | 69 => ⟨S2048x128, .f32⟩
  | 70 => ⟨S2048x128, .f32⟩
  | 71 => ⟨S1x2048x1x128, .f32⟩
  | 72 => ⟨S2048x128, .f32⟩
  | 73 => ⟨S1x2048x1x128, .f32⟩
  | 74 => ⟨S8x2048x4x128, .f32⟩
  | 75 => ⟨S8x2048x4x128, .f32⟩
  | 76 => ⟨S8x2048x4x128, .f32⟩
  | 77 => ⟨S8x2048x4x128, .f32⟩
  | 78 => ⟨S8x2048x4x128, .f32⟩
  | 79 => ⟨S8x2048x4x128, .f32⟩
  | 80 => ⟨S8x2048x4x128, .f32⟩
  | 81 => ⟨S8x2048x4x128, .f32⟩
  | 82 => ⟨S8x2048x4x128, .f32⟩
  | 83 => ⟨S8x2048x4x128, .f32⟩
  | 84 => ⟨S8x2048x4x128, .f32⟩
  | 85 => ⟨S8x2048x4x128, .f32⟩
  | 86 => ⟨S8x2048x4x256, .f32⟩
  | 87 => ⟨S_, .f32⟩
  | 88 => ⟨S8x2048x4x256, .f32⟩
  | 89 => ⟨S8x2048x4x256, .f32⟩
  | 90 => ⟨S4, .f32⟩
  | 91 => ⟨S_, .f32⟩
  | 92 => ⟨S4, .f32⟩
  | 93 => ⟨S4, .f32⟩
  | 94 => ⟨S_, .f32⟩
  | 95 => ⟨S4, .f32⟩
  | 96 => ⟨S4, .f32⟩
  | 97 => ⟨S4, .f32⟩
  | 98 => ⟨S4, .f32⟩
  | 99 => ⟨S4, .f32⟩
  | 100 => ⟨S128, .f32⟩
  | 101 => ⟨S128x1, .f32⟩
  | 102 => ⟨S1x128, .f32⟩
  | 103 => ⟨S128x128, .f32⟩
  | 104 => ⟨S128x128, .f32⟩
  | 105 => ⟨S128x128, .f32⟩
  | 106 => ⟨S128, .i32⟩
  | 107 => ⟨S128x1, .i32⟩
  | 108 => ⟨S128, .i32⟩
  | 109 => ⟨S1x128, .i32⟩
  | 110 => ⟨S128x128, .i32⟩
  | 111 => ⟨S128x128, .i32⟩
  | 112 => ⟨S128x128, .i1⟩
  | 113 => ⟨S4x1x1, .f32⟩
  | 114 => ⟨S_, .f32⟩
  | 115 => ⟨S128x128, .f32⟩
  | 116 => ⟨S128x128, .f32⟩
  | 117 => ⟨S1x128x128, .f32⟩
  | 118 => ⟨S4x128x128, .f32⟩
  | 119 => ⟨S4x128x128, .f32⟩
  | 120 => ⟨S4x128x128, .f32⟩
  | 121 => ⟨S4x128x128, .f32⟩
  | 122 => ⟨S_, .f32⟩
  | 123 => ⟨S_, .f32⟩
  | 124 => ⟨S4x128x128, .i1⟩
  | 125 => ⟨S4x128x128, .f32⟩
  | 126 => ⟨S4x128x128, .f32⟩
  | 127 => ⟨S4x1, .f32⟩
  | _ => ⟨S16384x6656, .bf16⟩

abbrev hbmTy0_2 (i : Nat) : BufTy := match i % 128 with
  | 0 => ⟨S_, .f32⟩
  | 1 => ⟨S128, .f32⟩
  | 2 => ⟨S128, .f32⟩
  | 3 => ⟨S1x128, .f32⟩
  | 4 => ⟨S4x128, .f32⟩
  | 5 => ⟨S4x128, .f32⟩
  | 6 => ⟨S4x128, .f32⟩
  | 7 => ⟨S4x128, .f32⟩
  | 8 => ⟨S4x1, .f32⟩
  | 9 => ⟨S_, .f32⟩
  | 10 => ⟨S128, .f32⟩
  | 11 => ⟨S128, .f32⟩
  | 12 => ⟨S1x128, .f32⟩
  | 13 => ⟨S4x128, .f32⟩
  | 14 => ⟨S4x128, .f32⟩
  | 15 => ⟨S4x128, .f32⟩
  | 16 => ⟨S4x128, .f32⟩
  | 17 => ⟨S_, .f32⟩
  | 18 => ⟨S4, .f32⟩
  | 19 => ⟨S4, .f32⟩
  | 20 => ⟨S4, .f32⟩
  | 21 => ⟨S8x16x128x4x256, .f32⟩
  | 22 => ⟨S8x4x16x128x256, .f32⟩
  | 23 => ⟨S8x16x128x4x256, .f32⟩
  | 24 => ⟨S8x4x16x128x256, .f32⟩
  | 25 => ⟨S8x16x128x4x256, .f32⟩
  | 26 => ⟨S8x4x16x128x256, .f32⟩
  | 27 => ⟨S8x4x16x128x128, .f32⟩
  | 28 => ⟨S1x4x1x128x128, .f32⟩
  | 29 => ⟨S8x4x16x128x128, .f32⟩
  | 30 => ⟨S8x4x16x128x128, .f32⟩
  | 31 => ⟨S8x4x16x128x256, .f32⟩
  | 32 => ⟨S8x4x16x128x256, .f32⟩
  | 33 => ⟨S1x4x1x128x1, .f32⟩
  | 34 => ⟨S8x4x16x128x256, .f32⟩
  | 35 => ⟨S8x4x16x128x256, .f32⟩
  | 36 => ⟨S8x4x16x128x256, .f32⟩
  | 37 => ⟨S8x16x128x4x256, .f32⟩
  | 38 => ⟨S8x2048x4x256, .f32⟩
  | 39 => ⟨S_, .f32⟩
  | 40 => ⟨S8x2048x4, .f32⟩
  | 41 => ⟨S8x2048x4x1, .f32⟩
  | 42 => ⟨S_, .f32⟩
  | 43 => ⟨S8x2048x4x1, .f32⟩
  | 44 => ⟨S8x2048x4x1, .f32⟩
  | 45 => ⟨S8x2048x4x256, .f32⟩
  | 46 => ⟨S8x2048x4x256, .f32⟩
  | 47 => ⟨S8x2048x4x256, .f32⟩
  | 48 => ⟨S_, .f32⟩
  | 49 => ⟨S8x2048x4, .f32⟩
  | 50 => ⟨S8x2048x4x1, .f32⟩
  | 51 => ⟨S_, .f32⟩
  | 52 => ⟨S8x2048x4x1, .f32⟩
  | 53 => ⟨S8x2048x4x1, .f32⟩
  | 54 => ⟨S8x2048x4x256, .f32⟩
  | 55 => ⟨S8x2048x4x256, .f32⟩
  | 56 => ⟨S_, .f32⟩
  | 57 => ⟨S8x2048x4x1, .f32⟩
  | 58 => ⟨S8x2048x4x1, .f32⟩
  | 59 => ⟨S8x2048x4x1, .f32⟩
  | 60 => ⟨S8x2048x4x256, .f32⟩
  | 61 => ⟨S8x2048x4x256, .f32⟩
  | 62 => ⟨S8x2048x1024, .f32⟩
  | 63 => ⟨S1x1x1024, .f32⟩
  | 64 => ⟨S8x2048x1024, .f32⟩
  | 65 => ⟨S8x2048x1024, .f32⟩
  | 66 => ⟨S8x2048x1024, .f32⟩
  | 67 => ⟨S8x2048x1024, .f32⟩
  | 68 => ⟨S_, .f32⟩
  | 69 => ⟨S8x2048x1024, .f32⟩
  | 70 => ⟨S8x2048x1024, .f32⟩
  | 71 => ⟨S_, .f32⟩
  | 72 => ⟨S8x2048x1024, .f32⟩
  | 73 => ⟨S8x2048x1024, .f32⟩
  | 74 => ⟨S8x2048x1024, .f32⟩
  | 75 => ⟨S8x2048x1024, .f32⟩
  | 76 => ⟨S16384x1024, .f32⟩
  | 77 => ⟨S16384x1024, .bf16⟩
  | _ => ⟨S16384x6656, .bf16⟩

abbrev hbmTy (i : Nat) : BufTy := match i / 128 with
  | 0 => hbmTy0_0 i
  | 1 => hbmTy0_1 i
  | 2 => hbmTy0_2 i
  | _ => ⟨S16384x6656, .bf16⟩

abbrev bufTy : (tb : Table) → Fin (tcTables nBuf tb) → BufTy
  | .hbm, ⟨i, _⟩ => hbmTy i
  | _, _ => ⟨S16384x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_1 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_4 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_6 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_8 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_cst_9 : Ref sig .tc := ⟨.hbm, 113, rfl⟩
abbrev main_v98 : Ref sig .tc := ⟨.hbm, 114, rfl⟩
abbrev main_cst_10 : Ref sig .tc := ⟨.hbm, 115, rfl⟩
abbrev main_v99 : Ref sig .tc := ⟨.hbm, 116, rfl⟩
abbrev main_c : Ref sig .tc := ⟨.hbm, 117, rfl⟩
abbrev main_v100_0 : Ref sig .tc := ⟨.hbm, 118, rfl⟩
abbrev main_v100_1 : Ref sig .tc := ⟨.hbm, 119, rfl⟩
abbrev main_v100_2 : Ref sig .tc := ⟨.hbm, 120, rfl⟩
abbrev main_v100_3 : Ref sig .tc := ⟨.hbm, 121, rfl⟩
abbrev main_v100_4 : Ref sig .tc := ⟨.hbm, 122, rfl⟩
abbrev main_while0c_c_32 : Ref sig .tc := ⟨.hbm, 123, rfl⟩
abbrev main_while0c_v264 : Ref sig .tc := ⟨.hbm, 124, rfl⟩
abbrev main_while0b_call1_c : Ref sig .tc := ⟨.hbm, 125, rfl⟩
abbrev main_while0b_call1_c_0 : Ref sig .tc := ⟨.hbm, 126, rfl⟩
abbrev main_while0b_call1_c_1 : Ref sig .tc := ⟨.hbm, 127, rfl⟩
abbrev main_while0b_call1_c_2 : Ref sig .tc := ⟨.hbm, 128, rfl⟩
abbrev main_while0b_call1_v0 : Ref sig .tc := ⟨.hbm, 129, rfl⟩
abbrev main_while0b_v264 : Ref sig .tc := ⟨.hbm, 130, rfl⟩
abbrev main_while0b_v265 : Ref sig .tc := ⟨.hbm, 131, rfl⟩
abbrev main_while0b_v266 : Ref sig .tc := ⟨.hbm, 132, rfl⟩
abbrev main_while0b_v267 : Ref sig .tc := ⟨.hbm, 133, rfl⟩
abbrev main_while0b_v268 : Ref sig .tc := ⟨.hbm, 134, rfl⟩
abbrev main_while0b_call2_v0 : Ref sig .tc := ⟨.hbm, 135, rfl⟩
abbrev main_while0b_call2_c : Ref sig .tc := ⟨.hbm, 136, rfl⟩
abbrev main_while0b_call2_c_0 : Ref sig .tc := ⟨.hbm, 137, rfl⟩
abbrev main_while0b_call2_c_1 : Ref sig .tc := ⟨.hbm, 138, rfl⟩
abbrev main_while0b_call2_c_2 : Ref sig .tc := ⟨.hbm, 139, rfl⟩
abbrev main_while0b_v269 : Ref sig .tc := ⟨.hbm, 140, rfl⟩
abbrev main_while0b_c_32 : Ref sig .tc := ⟨.hbm, 141, rfl⟩
abbrev main_while0b_v270 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_11 : Ref sig .tc := ⟨.hbm, 155, rfl⟩
abbrev main_v113 : Ref sig .tc := ⟨.hbm, 156, rfl⟩
abbrev main_v114 : Ref sig .tc := ⟨.hbm, 157, rfl⟩
abbrev main_cst_12 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_13 : Ref sig .tc := ⟨.hbm, 186, rfl⟩
abbrev main_v142 : Ref sig .tc := ⟨.hbm, 187, rfl⟩
abbrev main_v143 : Ref sig .tc := ⟨.hbm, 188, rfl⟩
abbrev main_cst_14 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_15 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_cst_16 : Ref sig .tc := ⟨.hbm, 219, rfl⟩
abbrev main_v172 : Ref sig .tc := ⟨.hbm, 220, rfl⟩
abbrev main_v173 : Ref sig .tc := ⟨.hbm, 221, rfl⟩
abbrev main_cst_17 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_cst_18 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_cst_19 : Ref sig .tc := ⟨.hbm, 250, rfl⟩
abbrev main_call3_v0 : Ref sig .tc := ⟨.hbm, 251, rfl⟩
abbrev main_call3_v1 : Ref sig .tc := ⟨.hbm, 252, rfl⟩
abbrev main_call3_v2 : Ref sig .tc := ⟨.hbm, 253, rfl⟩
abbrev main_v200 : Ref sig .tc := ⟨.hbm, 254, rfl⟩
abbrev main_v201 : Ref sig .tc := ⟨.hbm, 255, rfl⟩
abbrev main_cst_20 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_cst_21 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_cst_22 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_cst_23 : Ref sig .tc := ⟨.hbm, 295, rfl⟩
abbrev main_v238 : Ref sig .tc := ⟨.hbm, 296, rfl⟩
abbrev main_v239 : Ref sig .tc := ⟨.hbm, 297, rfl⟩
abbrev main_cst_24 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_cst_25 : Ref sig .tc := ⟨.hbm, 304, rfl⟩
abbrev main_v245 : Ref sig .tc := ⟨.hbm, 305, rfl⟩
abbrev main_v246 : Ref sig .tc := ⟨.hbm, 306, rfl⟩
abbrev main_cst_26 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_cst_27 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_call4_v0 : Ref sig .tc := ⟨.hbm, 322, rfl⟩
abbrev main_call4_v1 : Ref sig .tc := ⟨.hbm, 323, rfl⟩
abbrev main_call4_cst : Ref sig .tc := ⟨.hbm, 324, rfl⟩
abbrev main_call4_v2 : Ref sig .tc := ⟨.hbm, 325, rfl⟩
abbrev main_call4_v3 : Ref sig .tc := ⟨.hbm, 326, rfl⟩
abbrev main_call4_cst_0 : Ref sig .tc := ⟨.hbm, 327, rfl⟩
abbrev main_call4_v4 : Ref sig .tc := ⟨.hbm, 328, rfl⟩
abbrev main_call4_v5 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S16384x2048 : Shape := ⟨2, ![16384, 2048]⟩
abbrev S8x6x2048 : Shape := ⟨3, ![8, 6, 2048]⟩
abbrev S2048 : Shape := ⟨1, ![2048]⟩
abbrev S6680x2048 : Shape := ⟨2, ![6680, 2048]⟩
abbrev S128x2048 : Shape := ⟨2, ![128, 2048]⟩
abbrev S1x2048 : Shape := ⟨2, ![1, 2048]⟩
abbrev S16384x6656 : Shape := ⟨2, ![16384, 6656]⟩
abbrev S16384x128 : Shape := ⟨2, ![16384, 128]⟩
abbrev S1x6x2048 : Shape := ⟨3, ![1, 6, 2048]⟩
abbrev S512x2048 : Shape := ⟨2, ![512, 2048]⟩
abbrev S2048x512 : Shape := ⟨2, ![2048, 512]⟩
abbrev S2048x128 : Shape := ⟨2, ![2048, 128]⟩
abbrev S2048x2048 : Shape := ⟨2, ![2048, 2048]⟩
abbrev S_ : Shape := ⟨0, ![]⟩
abbrev S2048x1 : Shape := ⟨2, ![2048, 1]⟩
abbrev S1x1x2048 : Shape := ⟨3, ![1, 1, 2048]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S8x6x2048, .f32⟩
  | .hbm, ⟨2, _⟩ => ⟨S2048, .f32⟩
  | .hbm, ⟨3, _⟩ => ⟨S6680x2048, .f32⟩
  | .hbm, ⟨4, _⟩ => ⟨S128x2048, .bf16⟩
  | .hbm, ⟨5, _⟩ => ⟨S1x2048, .f32⟩
  | .hbm, ⟨6, _⟩ => ⟨S16384x6656, .bf16⟩
  | .hbm, ⟨7, _⟩ => ⟨S16384x128, .f32⟩
  | .local _ .vmem, ⟨0, _⟩ => ⟨S1x6x2048, .f32⟩
  | .local _ .vmem, ⟨1, _⟩ => ⟨S1x6x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S128x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x128, .f32⟩
  | .local _ .vmem, ⟨9, _⟩ => ⟨S2048x128, .f32⟩
  | .local _ .vmem, ⟨10, _⟩ => ⟨S2048x2048, .bf16⟩
  | .local _ .vmem, ⟨11, _⟩ => ⟨S2048x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_6 : BitVec 32 := 0#32
  let v9 : BitVec 1 := Scalar.cmpi .eq arg0 c0_i32_6
  let v10 : BitVec 32 := Scalar.extui v9
  let c0_i32_7 : BitVec 32 := 0#32
  let v11 : BitVec 1 := Scalar.cmpi .ne v10 c0_i32_7
  v11

def k0_mult1 (i : grid0.Coords) : BitVec 32 :=
  let arg0 : BitVec 32 := BitVec.ofNat 32 (i 0).val
  let c2048_i32_30 : BitVec 32 := 2048#32
  let v51 : BitVec 32 := Scalar.muli arg0 c2048_i32_30
  v51
def k0_off1 (i : grid0.Coords) : Fin 2 → Nat :=
  let arg0 : BitVec 32 := BitVec.ofNat 32 (i 0).val
  let c2048_i32_30 : BitVec 32 := 2048#32
  let v51 : BitVec 32 := Scalar.muli arg0 c2048_i32_30
  let v52 : BitVec 32 := v51
  let c0_i32_31 : BitVec 32 := 0#32
  ![v52.toNat, 0]
def k0_mult2 (i : grid0.Coords) : BitVec 32 :=
  let arg0 : BitVec 32 := BitVec.ofNat 32 (i 0).val
  let c2048_i32 : BitVec 32 := 2048#32
  let v12 : BitVec 32 := Scalar.muli arg0 c2048_i32
  v12
def k0_off2 (i : grid0.Coords) : Fin 2 → Nat :=
  let arg0 : BitVec 32 := BitVec.ofNat 32 (i 0).val
  let c2048_i32 : BitVec 32 := 2048#32
  let v12 : BitVec 32 := Scalar.muli arg0 c2048_i32
  let v13 : BitVec 32 := v12
  let c0_i32_8 : BitVec 32 := 0#32
  ![v13.toNat, 0]
def k0_cond3 (i : grid0.Coords) : BitVec 1 :=
  let arg0 : BitVec 32 := BitVec.ofNat 32 (i 0).val
  let c1_i32 : BitVec 32 := 1#32
  let v47 : BitVec 32 := Scalar.addi arg0 c1_i32
  let c8_i32 : BitVec 32 := 8#32
  let v48 : BitVec 1 := Scalar.cmpi .slt v47 c8_i32
  let v49 : BitVec 32 := Scalar.extui v48
  let c0_i32_29 : BitVec 32 := 0#32
  let v50 : BitVec 1 := Scalar.cmpi .ne v49 c0_i32_29
  v50

def k0_mult3 (i : grid0.Coords) : BitVec 32 :=
  let arg0 : BitVec 32 := BitVec.ofNat 32 (i 0).val
  let c1_i32_30 : BitVec 32 := 1#32
  let v51 : BitVec 32 := Scalar.addi arg0 c1_i32_30
  let c2048_i32_31 : BitVec 32 := 2048#32
  let v52 : BitVec 32 := Scalar.muli v51 c2048_i32_31
  v52
def k0_off3 (i : grid0.Coords) : Fin 2 → Nat :=
  let arg0 : BitVec 32 := BitVec.ofNat 32 (i 0).val
  let c1_i32_30 : BitVec 32 := 1#32
  let v51 : BitVec 32 := Scalar.addi arg0 c1_i32_30
  let c2048_i32_31 : BitVec 32 := 2048#32
  let v52 : BitVec 32 := Scalar.muli v51 c2048_i32_31
  let v53 : BitVec 32 := v52
  let c0_i32_32 : BitVec 32 := 0#32
  ![v53.toNat, 0]
def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c2048_i32_0 : BitVec 32 := 2048#32
  let v1 : BitVec 32 := Scalar.divsi v0 c2048_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2048_i32_0 c0_i32_2
  let v8 : BitVec 32 := Scalar.extui v7
  let c0_i32_3 : BitVec 32 := 0#32
  let v9 : BitVec 1 := Scalar.cmpi .slt c2048_i32_0 c0_i32_3
  let v10 : BitVec 32 := Scalar.extui v9
  let v11 : BitVec 32 := Scalar.subi v8 v10
  let v12 : BitVec 1 := Scalar.cmpi .ne v6 v11
  let v13 : BitVec 32 := Scalar.remsi v0 c2048_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x6x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x2048 : Shape := ⟨2, ![16384, 2048]⟩
abbrev S8x6x2048 : Shape := ⟨3, ![8, 6, 2048]⟩
abbrev S2048 : Shape := ⟨1, ![2048]⟩
abbrev S6680x2048 : Shape := ⟨2, ![6680, 2048]⟩
abbrev S128x2048 : Shape := ⟨2, ![128, 2048]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S6656x2048 : Shape := ⟨2, ![6656, 2048]⟩
abbrev S8x2048x6656 : Shape := ⟨3, ![8, 2048, 6656]⟩
abbrev S8x2048x128 : Shape := ⟨3, ![8, 2048, 128]⟩
abbrev S16384x6656 : Shape := ⟨2, ![16384, 6656]⟩
abbrev S16384x128 : Shape := ⟨2, ![16384, 128]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x6x2048, .f32⟩
  | .hbm, ⟨2, _⟩ => ⟨S2048, .f32⟩
  | .hbm, ⟨3, _⟩ => ⟨S6680x2048, .f32⟩
  | .hbm, ⟨4, _⟩ => ⟨S128x2048, .bf16⟩
  | .hbm, ⟨5, _⟩ => ⟨S8x1x2048, .f32⟩
  | .hbm, ⟨6, _⟩ => ⟨S8x1x2048, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S6656x2048, .f32⟩
  | .hbm, ⟨32, _⟩ => ⟨S8x2048x6656, .f32⟩
  | .hbm, ⟨33, _⟩ => ⟨S128x2048, .f32⟩
  | .hbm, ⟨34, _⟩ => ⟨S8x2048x128, .f32⟩
  | .hbm, ⟨35, _⟩ => ⟨S16384x6656, .f32⟩
  | .hbm, ⟨36, _⟩ => ⟨S16384x6656, .bf16⟩
  | .hbm, ⟨37, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel3.lean ====
abbrev S16384x1024 : Shape := ⟨2, ![16384, 1024]⟩
abbrev S16384x2048 : Shape := ⟨2, ![16384, 2048]⟩
abbrev S8x6x2048 : Shape := ⟨3, ![8, 6, 2048]⟩
abbrev S2048 : Shape := ⟨1, ![2048]⟩
abbrev S2048x2048 : Shape := ⟨2, ![2048, 2048]⟩
abbrev S128x2048 : Shape := ⟨2, ![128, 2048]⟩
abbrev S1x2048 : Shape := ⟨2, ![1, 2048]⟩
abbrev S128x16384 : Shape := ⟨2, ![128, 16384]⟩
abbrev S512x1024 : Shape := ⟨2, ![512, 1024]⟩
abbrev S512x2048 : Shape := ⟨2, ![512, 2048]⟩
abbrev S1x6x2048 : Shape := ⟨3, ![1, 6, 2048]⟩
abbrev S128x512 : Shape := ⟨2, ![128, 512]⟩
abbrev S1024x2048 : Shape := ⟨2, ![1024, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S8x6x2048, .f32⟩
  | .hbm, ⟨4, _⟩ => ⟨S2048, .f32⟩
  | .hbm, ⟨5, _⟩ => ⟨S2048x2048, .f32⟩
  | .hbm, ⟨6, _⟩ => ⟨S128x2048, .bf16⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S128x16384, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x2048, .f32⟩
  | .local _ .vmem, ⟨9, _⟩ => ⟨S2048x2048, .f32⟩
  | .local _ .vmem, ⟨10, _⟩ => ⟨S128x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S128x512, .f32⟩
  | .local _ .vmem, ⟨16, _⟩ => ⟨S128x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S16384x2048 : Shape := ⟨2, ![16384, 2048]⟩
abbrev S8x6x2048 : Shape := ⟨3, ![8, 6, 2048]⟩
abbrev S2048 : Shape := ⟨1, ![2048]⟩
abbrev S2048x2048 : Shape := ⟨2, ![2048, 2048]⟩
abbrev S128x2048 : Shape := ⟨2, ![128, 2048]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S128x16384 : Shape := ⟨2, ![128, 16384]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S8x6x2048, .f32⟩
  | .hbm, ⟨4, _⟩ => ⟨S2048, .f32⟩
  | .hbm, ⟨5, _⟩ => ⟨S2048x2048, .f32⟩
  | .hbm, ⟨6, _⟩ => ⟨S128x2048, .bf16⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S16384x1024, .f32⟩
  | .hbm, ⟨11, _⟩ => ⟨S16384x1024, .f32⟩
  | .hbm, ⟨12, _⟩ => ⟨S16384x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S1x1x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x1x2048, .f32⟩
  | .hbm, ⟨37, _⟩ => ⟨S8x1x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S16384x2048, .f32⟩
  | .hbm, ⟨43, _⟩ => ⟨S128x2048, .f32⟩
  | .hbm, ⟨44, _⟩ => ⟨S128x16384, .f32⟩
  | .hbm, ⟨45, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel4.lean ====
abbrev S192 : Shape := ⟨1, ![192]⟩
abbrev S1 : Shape := ⟨1, ![1]⟩
abbrev S49152x2048 : Shape := ⟨2, ![49152, 2048]⟩
abbrev S64x2048x512 : Shape := ⟨3, ![64, 2048, 512]⟩
abbrev S64x512x2048 : Shape := ⟨3, ![64, 512, 2048]⟩
abbrev S256x2048 : Shape := ⟨2, ![256, 2048]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S2x3 : Shape := ⟨2, ![2, 3]⟩
abbrev S1x1 : Shape := ⟨2, ![1, 1]⟩
abbrev S_ : Shape := ⟨0, ![]⟩
abbrev S1x2048x512 : Shape := ⟨3, ![1, 2048, 512]⟩
abbrev S1x512x2048 : Shape := ⟨3, ![1, 512, 2048]⟩
abbrev S256x512 : Shape := ⟨2, ![256, 512]⟩

abbrev nBuf : Space → Nat
  | .hbm => 5
  | .vmem => 10
  | .smem => 4
  | _ => 0

abbrev bufTy : (tb : Table) → Fin (tcTables nBuf tb) → BufTy
  | .hbm, ⟨0, _⟩ => ⟨S49152x2048, .f32⟩
  | .hbm, ⟨1, _⟩ => ⟨S64x2048x512, .f32⟩
  | .hbm, ⟨2, _⟩ => ⟨S64x2048x512, .f32⟩
  | .hbm, ⟨3, _⟩ => ⟨S64x512x2048, .f32⟩
  | .hbm, ⟨4, _⟩ => ⟨S49152x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S192, .i32⟩
  | .local _ .smem, ⟨1, _⟩ => ⟨S192, .i32⟩
  | .local _ .smem, ⟨2, _⟩ => ⟨S192, .i32⟩
  | .local _ .smem, ⟨3, _⟩ => ⟨S1, .i32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![192], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_off3 (v12 : BitVec 32) : Fin 2 → Nat :=
  let c2_i32 : BitVec 32 := 2#32
  let v13 : BitVec 32 := Scalar.remsi v12 c2_i32
  let c0_i32_6 : BitVec 32 := 0#32
  ![v13.toNat, 0]
def k0_cond1 (i : grid0.Coords) (v0 : BitVec 32) : BitVec 1 :=
  let arg0 : BitVec 32 := BitVec.ofNat 32 (i 0).val
  let v1 : BitVec 1 := Scalar.cmpi .slt arg0 v0
  let c0_i32_1 : BitVec 32 := 0#32
  let v14 : BitVec 1 := Scalar.cmpi .eq arg0 c0_i32_1
  let v15 : BitVec 1 := Scalar.andi v1 v14
  let v16 : BitVec 32 := Scalar.extui v15
  let c0_i32_2 : BitVec 32 := 0#32
  let v17 : BitVec 1 := Scalar.cmpi .ne v16 c0_i32_2
  v17

def k0_off4 (v12 : BitVec 32) : Fin 3 → Nat :=
  let c2_i32 : BitVec 32 := 2#32
  let v13 : BitVec 32 := Scalar.remsi v12 c2_i32
  let c0_i32_7 : BitVec 32 := 0#32
  let c0_i32_8 : BitVec 32 := 0#32
  ![v13.toNat, 0, 0]
def k0_off5 (v3 : BitVec 32) : Fin 3 → Nat :=
  let c0_i32_9 : BitVec 32 := 0#32
  let c0_i32_10 : BitVec 32 := 0#32
  ![v3.toNat, 0, 0]

def k0_off6 (v12 : BitVec 32) : Fin 2 → Nat :=
  let c2_i32 : BitVec 32 := 2#32
  let v13 : BitVec 32 := Scalar.remsi v12 c2_i32
  let c1_i32_11 : BitVec 32 := 1#32
  ![v13.toNat, 1]
def k0_off7 (v12 : BitVec 32) : Fin 3 → Nat :=
  let c2_i32 : BitVec 32 := 2#32
  let v13 : BitVec 32 := Scalar.remsi v12 c2_i32
  let c0_i32_12 : BitVec 32 := 0#32
  let c0_i32_13 : BitVec 32 := 0#32
  ![v13.toNat, 0, 0]
def k0_off8 (v12 : BitVec 32) : Fin 2 → Nat :=
  let c2_i32 : BitVec 32 := 2#32
  let v13 : BitVec 32 := Scalar.remsi v12 c2_i32
  let c2_i32_16 : BitVec 32 := 2#32
  ![v13.toNat, 2]
def k0_off9 (v12 : BitVec 32) : Fin 3 → Nat :=
  let c2_i32 : BitVec 32 := 2#32
  let v13 : BitVec 32 := Scalar.remsi v12 c2_i32
  let c0_i32_17 : BitVec 32 := 0#32
  let c0_i32_18 : BitVec 32 := 0#32
  ![v13.toNat, 0, 0]
def k0_off10 (v3 : BitVec 32) : Fin 3 → Nat :=
  let c0_i32_19 : BitVec 32 := 0#32
  let c0_i32_20 : BitVec 32 := 0#32
  ![v3.toNat, 0, 0]

def k0_chk2 (i : grid0.Coords) (v0 : BitVec 32) (v3 : BitVec 32) : Prop :=
  (∀ (k0_h1 : k0_cond1 i v0 = 1#1), ∀ a, (k0_off5 v3) a + S1x2048x512.size a ≤ S64x2048x512.size a) ∧
  (∀ (k0_h1 : k0_cond1 i v0 = 1#1), ∀ a, (k0_off10 v3) a + S1x512x2048.size a ≤ S64x512x2048.size a)
theorem k0_off5_inb : ∀ (i : grid0.Coords) (v0 : BitVec 32) (v3 : BitVec 32) (k0_hw2 : k0_chk2 i v0 v3), ∀ (k0_h1 : k0_cond1 i v0 = 1#1), ∀ a, (k0_off5 v3) a + S1x2048x512.size a ≤ S64x2048x512.size a := fun i v0 v3 k0_hw2 k0_h1 => k0_hw2.1 k0_h1
theorem k0_off10_inb : ∀ (i : grid0.Coords) (v0 : BitVec 32) (v3 : BitVec 32) (k0_hw2 : k0_chk2 i v0 v3), ∀ (k0_h1 : k0_cond1 i v0 = 1#1), ∀ a, (k0_off10 v3) a + S1x512x2048.size a ≤ S64x512x2048.size a := fun i v0 v3 k0_hw2 k0_h1 => k0_hw2.2 k0_h1

def k0_off11 (v12 : BitVec 32) : Fin 2 → Nat :=
  let c2_i32 : BitVec 32 := 2#32
  let v13 : BitVec 32 := Scalar.remsi v12 c2_i32
  let c0_i32_6 : BitVec 32 := 0#32
  ![v13.toNat, 0]
def k0_cond2 (i : grid0.Coords) (v0 : BitVec 32) (v3 : BitVec 32) (v8 : BitVec 32) : BitVec 1 :=
  let arg0 : BitVec 32 := BitVec.ofNat 32 (i 0).val
  let v1 : BitVec 1 := Scalar.cmpi .slt arg0 v0
  let c0_i32 : BitVec 32 := 0#32
  let v4 : BitVec 1 := Scalar.cmpi .eq arg0 c0_i32
  let v9 : BitVec 1 := Scalar.cmpi .ne v3 v8
  let v10 : BitVec 1 := Scalar.ori v4 v9
  let v18 : BitVec 1 := Scalar.andi v1 v10
  let v19 : BitVec 32 := Scalar.extui v18
  let c0_i32_3 : BitVec 32 := 0#32
  let v20 : BitVec 1 := Scalar.cmpi .ne v19 c0_i32_3
  v20

def k0_off12 (v12 : BitVec 32) : Fin 3 → Nat :=
  let c2_i32 : BitVec 32 := 2#32
  let v13 : BitVec 32 := Scalar.remsi v12 c2_i32
  let c0_i32_7 : BitVec 32 := 0#32
  let c0_i32_8 : BitVec 32 := 0#32
  ![v13.toNat, 0, 0]
def k0_off13 (v3 : BitVec 32) : Fin 3 → Nat :=
  let c0_i32_9 : BitVec 32 := 0#32
  let c0_i32_10 : BitVec 32 := 0#32
  ![v3.toNat, 0, 0]

def k0_off14 (v12 : BitVec 32) : Fin 2 → Nat :=
  let c2_i32 : BitVec 32 := 2#32
  let v13 : BitVec 32 := Scalar.remsi v12 c2_i32
  let c1_i32_11 : BitVec 32 := 1#32
  ![v13.toNat, 1]
def k0_off15 (v12 : BitVec 32) : Fin 2 → Nat :=
  let c2_i32 : BitVec 32 := 2#32
  let v13 : BitVec 32 := Scalar.remsi v12 c2_i32
  let c2_i32_16 : BitVec 32 := 2#32
  ![v13.toNat, 2]
def k0_off16 (v12 : BitVec 32) : Fin 3 → Nat :=
  let c2_i32 : BitVec 32 := 2#32
  let v13 : BitVec 32 := Scalar.remsi v12 c2_i32
  let c0_i32_17 : BitVec 32 := 0#32
  let c0_i32_18 : BitVec 32 := 0#32
  ![v13.toNat, 0, 0]
def k0_off17 (v3 : BitVec 32) : Fin 3 → Nat :=
  let c0_i32_19 : BitVec 32 := 0#32
  let c0_i32_20 : BitVec 32 := 0#32
  ![v3.toNat, 0, 0]

def k0_chk3 (i : grid0.Coords) (v0 : BitVec 32) (v3 : BitVec 32) (v8 : BitVec 32) : Prop :=
  (∀ (k0_h2 : k0_cond2 i v0 v3 v8 = 1#1), ∀ a, (k0_off13 v3) a + S1x2048x512.size a ≤ S64x2048x512.size a) ∧
  (∀ (k0_h2 : k0_cond2 i v0 v3 v8 = 1#1), ∀ a, (k0_off17 v3) a + S1x512x2048.size a ≤ S64x512x2048.size a)
theorem k0_off13_inb : ∀ (i : grid0.Coords) (v0 : BitVec 32) (v3 : BitVec 32) (v8 : BitVec 32) (k0_hw3 : k0_chk3 i v0 v3 v8), ∀ (k0_h2 : k0_cond2 i v0 v3 v8 = 1#1), ∀ a, (k0_off13 v3) a + S1x2048x512.size a ≤ S64x2048x512.size a := fun i v0 v3 v8 k0_hw3 k0_h2 => k0_hw3.1 k0_h2
theorem k0_off17_inb : ∀ (i : grid0.Coords) (v0 : BitVec 32) (v3 : BitVec 32) (v8 : BitVec 32) (k0_hw3 : k0_chk3 i v0 v3 v8), ∀ (k0_h2 : k0_cond2 i v0 v3 v8 = 1#1), ∀ a, (k0_off17 v3) a + S1x512x2048.size a ≤ S64x512x2048.size a := fun i v0 v3 v8 k0_hw3 k0_h2 => k0_hw3.2 k0_h2

def k0_off18 (i : grid0.Coords) : Fin 1 → Nat :=
  let arg0 : BitVec 32 := BitVec.ofNat 32 (i 0).val
  let v44 : Index := Scalar.indexCast arg0
  ![v44.toNat]
def k0_off19 (v12 : BitVec 32) : Fin 2 → Nat :=
  let c1_i32_35 : BitVec 32 := 1#32
  let c2_i32 : BitVec 32 := 2#32
  let v13 : BitVec 32 := Scalar.remsi v12 c2_i32
  let v70 : BitVec 32 := Scalar.subi c1_i32_35 v13
  let c0_i32_36 : BitVec 32 := 0#32
  ![v70.toNat, 0]
def k0_cond3 (v45 : BitVec 32) : BitVec 1 :=
  let c0_i32_21 : BitVec 32 := 0#32
  let v46 : BitVec 1 := Scalar.cmpi .sge v45 c0_i32_21
  let v47 : BitVec 32 := Scalar.extui v46
  let c0_i32_22 : BitVec 32 := 0#32
  let v48 : BitVec 1 := Scalar.cmpi .ne v47 c0_i32_22
  v48

def k0_off20 (v12 : BitVec 32) : Fin 3 → Nat :=
  let c1_i32_35 : BitVec 32 := 1#32
  let c2_i32 : BitVec 32 := 2#32
  let v13 : BitVec 32 := Scalar.remsi v12 c2_i32
  let v70 : BitVec 32 := Scalar.subi c1_i32_35 v13
  let c0_i32_37 : BitVec 32 := 0#32
  let c0_i32_38 : BitVec 32 := 0#32
  ![v70.toNat, 0, 0]
def k0_off21 (v45 : BitVec 32) : Fin 3 → Nat :=
  let c0_i32_39 : BitVec 32 := 0#32
  let c0_i32_40 : BitVec 32 := 0#32
  ![v45.toNat, 0, 0]
def k0_off22 (v12 : BitVec 32) : Fin 2 → Nat :=
  let c1_i32_35 : BitVec 32 := 1#32
  let c2_i32 : BitVec 32 := 2#32
  let v13 : BitVec 32 := Scalar.remsi v12 c2_i32
  let v70 : BitVec 32 := Scalar.subi c1_i32_35 v13
  let c1_i32_41 : BitVec 32 := 1#32
  ![v70.toNat, 1]
def k0_off23 (v12 : BitVec 32) : Fin 2 → Nat :=
  let c1_i32_35 : BitVec 32 := 1#32
  let c2_i32 : BitVec 32 := 2#32
  let v13 : BitVec 32 := Scalar.remsi v12 c2_i32
  let v70 : BitVec 32 := Scalar.subi c1_i32_35 v13
  let c2_i32_46 : BitVec 32 := 2#32
  ![v70.toNat, 2]
def k0_off24 (v12 : BitVec 32) : Fin 3 → Nat :=
  let c1_i32_35 : BitVec 32 := 1#32
  let c2_i32 : BitVec 32 := 2#32
  let v13 : BitVec 32 := Scalar.remsi v12 c2_i32
  let v70 : BitVec 32 := Scalar.subi c1_i32_35 v13
  let c0_i32_47 : BitVec 32 := 0#32
  let c0_i32_48 : BitVec 32 := 0#32
  ![v70.toNat, 0, 0]
def k0_off25 (v45 : BitVec 32) : Fin 3 → Nat :=
  let c0_i32_49 : BitVec 32 := 0#32
  let c0_i32_50 : BitVec 32 := 0#32
  ![v45.toNat, 0, 0]

def k0_chk4 (i : grid0.Coords) (v0 : BitVec 32) (v3 : BitVec 32) (v8 : BitVec 32) (v12 : BitVec 32) (v45 : BitVec 32) : Prop :=
  (∀ (k0_h2 : k0_cond2 i v0 v3 v8 = 1#1), ∀ (k0_h3 : k0_cond3 v45 = 1#1), ∀ a, (k0_off19 v12) a + S1x1.size a ≤ S2x3.size a) ∧
  (∀ (k0_h2 : k0_cond2 i v0 v3 v8 = 1#1), ∀ (k0_h3 : k0_cond3 v45 = 1#1), ∀ a, (k0_off20 v12) a + S1x2048x512.size a ≤ S2x2048x512.size a) ∧
  (∀ (k0_h2 : k0_cond2 i v0 v3 v8 = 1#1), ∀ (k0_h3 : k0_cond3 v45 = 1#1), ∀ a, (k0_off21 v45) a + S1x2048x512.size a ≤ S64x2048x512.size a) ∧
  (∀ (k0_h2 : k0_cond2 i v0 v3 v8 = 1#1), ∀ (k0_h3 : k0_cond3 v45 = 1#1), ∀ a, (k0_off22 v12) a + S1x1.size a ≤ S2x3.size a) ∧
  (∀ (k0_h2 : k0_cond2 i v0 v3 v8 = 1#1), ∀ (k0_h3 : k0_cond3 v45 = 1#1), ∀ a, (k0_off23 v12) a + S1x1.size a ≤ S2x3.size a) ∧
  (∀ (k0_h2 : k0_cond2 i v0 v3 v8 = 1#1), ∀ (k0_h3 : k0_cond3 v45 = 1#1), ∀ a, (k0_off24 v12) a + S1x512x2048.size a ≤ S2x512x2048.size a) ∧
  (∀ (k0_h2 : k0_cond2 i v0 v3 v8 = 1#1), ∀ (k0_h3 : k0_cond3 v45 = 1#1), ∀ a, (k0_off25 v45) a + S1x512x2048.size a ≤ S64x512x2048.size a)
theorem k0_off19_inb : ∀ (i : grid0.Coords) (v0 : BitVec 32) (v3 : BitVec 32) (v8 : BitVec 32) (v12 : BitVec 32) (v45 : BitVec 32) (k0_hw4 : k0_chk4 i v0 v3 v8 v12 v45), ∀ (k0_h2 : k0_cond2 i v0 v3 v8 = 1#1), ∀ (k0_h3 : k0_cond3 v45 = 1#1), ∀ a, (k0_off19 v12) a + S1x1.size a ≤ S2x3.size a := fun i v0 v3 v8 v12 v45 k0_hw4 k0_h2 k0_h3 => k0_hw4.1 k0_h2 k0_h3
theorem k0_off20_inb : ∀ (i : grid0.Coords) (v0 : BitVec 32) (v3 : BitVec 32) (v8 : BitVec 32) (v12 : BitVec 32) (v45 : BitVec 32) (k0_hw4 : k0_chk4 i v0 v3 v8 v12 v45), ∀ (k0_h2 : k0_cond2 i v0 v3 v8 = 1#1), ∀ (k0_h3 : k0_cond3 v45 = 1#1), ∀ a, (k0_off20 v12) a + S1x2048x512.size a ≤ S2x2048x512.size a := fun i v0 v3 v8 v12 v45 k0_hw4 k0_h2 k0_h3 => k0_hw4.2.1 k0_h2 k0_h3
theorem k0_off21_inb : ∀ (i : grid0.Coords) (v0 : BitVec 32) (v3 : BitVec 32) (v8 : BitVec 32) (v12 : BitVec 32) (v45 : BitVec 32) (k0_hw4 : k0_chk4 i v0 v3 v8 v12 v45), ∀ (k0_h2 : k0_cond2 i v0 v3 v8 = 1#1), ∀ (k0_h3 : k0_cond3 v45 = 1#1), ∀ a, (k0_off21 v45) a + S1x2048x512.size a ≤ S64x2048x512.size a := fun i v0 v3 v8 v12 v45 k0_hw4 k0_h2 k0_h3 => k0_hw4.2.2.1 k0_h2 k0_h3
theorem k0_off22_inb : ∀ (i : grid0.Coords) (v0 : BitVec 32) (v3 : BitVec 32) (v8 : BitVec 32) (v12 : BitVec 32) (v45 : BitVec 32) (k0_hw4 : k0_chk4 i v0 v3 v8 v12 v45), ∀ (k0_h2 : k0_cond2 i v0 v3 v8 = 1#1), ∀ (k0_h3 : k0_cond3 v45 = 1#1), ∀ a, (k0_off22 v12) a + S1x1.size a ≤ S2x3.size a := fun i v0 v3 v8 v12 v45 k0_hw4 k0_h2 k0_h3 => k0_hw4.2.2.2.1 k0_h2 k0_h3
theorem k0_off23_inb : ∀ (i : grid0.Coords) (v0 : BitVec 32) (v3 : BitVec 32) (v8 : BitVec 32) (v12 : BitVec 32) (v45 : BitVec 32) (k0_hw4 : k0_chk4 i v0 v3 v8 v12 v45), ∀ (k0_h2 : k0_cond2 i v0 v3 v8 = 1#1), ∀ (k0_h3 : k0_cond3 v45 = 1#1), ∀ a, (k0_off23 v12) a + S1x1.size a ≤ S2x3.size a := fun i v0 v3 v8 v12 v45 k0_hw4 k0_h2 k0_h3 => k0_hw4.2.2.2.2.1 k0_h2 k0_h3
theorem k0_off24_inb : ∀ (i : grid0.Coords) (v0 : BitVec 32) (v3 : BitVec 32) (v8 : BitVec 32) (v12 : BitVec 32) (v45 : BitVec 32) (k0_hw4 : k0_chk4 i v0 v3 v8 v12 v45), ∀ (k0_h2 : k0_cond2 i v0 v3 v8 = 1#1), ∀ (k0_h3 : k0_cond3 v45 = 1#1), ∀ a, (k0_off24 v12) a + S1x512x2048.size a ≤ S2x512x2048.size a := fun i v0 v3 v8 v12 v45 k0_hw4 k0_h2 k0_h3 => k0_hw4.2.2.2.2.2.1 k0_h2 k0_h3
theorem k0_off25_inb : ∀ (i : grid0.Coords) (v0 : BitVec 32) (v3 : BitVec 32) (v8 : BitVec 32) (v12 : BitVec 32) (v45 : BitVec 32) (k0_hw4 : k0_chk4 i v0 v3 v8 v12 v45), ∀ (k0_h2 : k0_cond2 i v0 v3 v8 = 1#1), ∀ (k0_h3 : k0_cond3 v45 = 1#1), ∀ a, (k0_off25 v45) a + S1x512x2048.size a ≤ S64x512x2048.size a := fun i v0 v3 v8 v12 v45 k0_hw4 k0_h2 k0_h3 => k0_hw4.2.2.2.2.2.2 k0_h2 k0_h3

def k0_off26 (v12 : BitVec 32) : Fin 3 → Nat :=
  let c2_i32 : BitVec 32 := 2#32
  let v13 : BitVec 32 := Scalar.remsi v12 c2_i32
  let v49 : Index := Scalar.indexCast v13
  let c0_23 : Index := 0#32
  let c0_24 : Index := 0#32
  ![v49.toNat, 0, 0]
def k0_off27 (v12 : BitVec 32) : Fin 3 → Nat :=
  let c2_i32 : BitVec 32 := 2#32
  let v13 : BitVec 32 := Scalar.remsi v12 c2_i32
  let v63 : Index := Scalar.indexCast v13
  let c0_31 : Index := 0#32
  let c0_32 : Index := 0#32
  ![v63.toNat, 0, 0]

def k0_chk1 (i : grid0.Coords) (v0 : BitVec 32) (v3 : BitVec 32) (v8 : BitVec 32) (v12 : BitVec 32) : Prop :=
  (∀ (k0_h1 : k0_cond1 i v0 = 1#1), ∀ a, (k0_off3 v12) a + S1x1.size a ≤ S2x3.size a) ∧
  (∀ (k0_h1 : k0_cond1 i v0 = 1#1), ∀ a, (k0_off4 v12) a + S1x2048x512.size a ≤ S2x2048x512.size a) ∧
  (∀ (k0_h1 : k0_cond1 i v0 = 1#1), ∀ a, (k0_off6 v12) a + S1x1.size a ≤ S2x3.size a) ∧
  (∀ (k0_h1 : k0_cond1 i v0 = 1#1), ∀ a, (k0_off7 v12) a + S1x2048x512.size a ≤ S2x2048x512.size a) ∧
  (∀ (k0_h1 : k0_cond1 i v0 = 1#1), ∀ a, (k0_off8 v12) a + S1x1.size a ≤ S2x3.size a) ∧
  (∀ (k0_h1 : k0_cond1 i v0 = 1#1), ∀ a, (k0_off9 v12) a + S1x512x2048.size a ≤ S2x512x2048.size a) ∧
  (∀ (k0_h2 : k0_cond2 i v0 v3 v8 = 1#1), ∀ a, (k0_off11 v12) a + S1x1.size a ≤ S2x3.size a) ∧
  (∀ (k0_h2 : k0_cond2 i v0 v3 v8 = 1#1), ∀ a, (k0_off12 v12) a + S1x2048x512.size a ≤ S2x2048x512.size a) ∧
  (∀ (k0_h2 : k0_cond2 i v0 v3 v8 = 1#1), ∀ a, (k0_off14 v12) a + S1x1.size a ≤ S2x3.size a) ∧
  (∀ (k0_h2 : k0_cond2 i v0 v3 v8 = 1#1), ∀ a, (k0_off15 v12) a + S1x1.size a ≤ S2x3.size a) ∧
  (∀ (k0_h2 : k0_cond2 i v0 v3 v8 = 1#1), ∀ a, (k0_off16 v12) a + S1x512x2048.size a ≤ S2x512x2048.size a) ∧
  (∀ (k0_h2 : k0_cond2 i v0 v3 v8 = 1#1), ∀ a, (k0_off26 v12) a + S1x2048x512.size a ≤ S2x2048x512.size a) ∧
  (∀ (k0_h2 : k0_cond2 i v0 v3 v8 = 1#1), ∀ a, (k0_off27 v12) a + S1x512x2048.size a ≤ S2x512x2048.size a)
theorem k0_off3_inb : ∀ (i : grid0.Coords) (v0 : BitVec 32) (v3 : BitVec 32) (v8 : BitVec 32) (v12 : BitVec 32) (k0_hw1 : k0_chk1 i v0 v3 v8 v12), ∀ (k0_h1 : k0_cond1 i v0 = 1#1), ∀ a, (k0_off3 v12) a + S1x1.size a ≤ S2x3.size a := fun i v0 v3 v8 v12 k0_hw1 k0_h1 => k0_hw1.1 k0_h1
theorem k0_off4_inb : ∀ (i : grid0.Coords) (v0 : BitVec 32) (v3 : BitVec 32) (v8 : BitVec 32) (v12 : BitVec 32) (k0_hw1 : k0_chk1 i v0 v3 v8 v12), ∀ (k0_h1 : k0_cond1 i v0 = 1#1), ∀ a, (k0_off4 v12) a + S1x2048x512.size a ≤ S2x2048x512.size a := fun i v0 v3 v8 v12 k0_hw1 k0_h1 => k0_hw1.2.1 k0_h1
theorem k0_off6_inb : ∀ (i : grid0.Coords) (v0 : BitVec 32) (v3 : BitVec 32) (v8 : BitVec 32) (v12 : BitVec 32) (k0_hw1 : k0_chk1 i v0 v3 v8 v12), ∀ (k0_h1 : k0_cond1 i v0 = 1#1), ∀ a, (k0_off6 v12) a + S1x1.size a ≤ S2x3.size a := fun i v0 v3 v8 v12 k0_hw1 k0_h1 => k0_hw1.2.2.1 k0_h1
theorem k0_off7_inb : ∀ (i : grid0.Coords) (v0 : BitVec 32) (v3 : BitVec 32) (v8 : BitVec 32) (v12 : BitVec 32) (k0_hw1 : k0_chk1 i v0 v3 v8 v12), ∀ (k0_h1 : k0_cond1 i v0 = 1#1), ∀ a, (k0_off7 v12) a + S1x2048x512.size a ≤ S2x2048x512.size a := fun i v0 v3 v8 v12 k0_hw1 k0_h1 => k0_hw1.2.2.2.1 k0_h1
theorem k0_off8_inb : ∀ (i : grid0.Coords) (v0 : BitVec 32) (v3 : BitVec 32) (v8 : BitVec 32) (v12 : BitVec 32) (k0_hw1 : k0_chk1 i v0 v3 v8 v12), ∀ (k0_h1 : k0_cond1 i v0 = 1#1), ∀ a, (k0_off8 v12) a + S1x1.size a ≤ S2x3.size a := fun i v0 v3 v8 v12 k0_hw1 k0_h1 => k0_hw1.2.2.2.2.1 k0_h1
theorem k0_off9_inb : ∀ (i : grid0.Coords) (v0 : BitVec 32) (v3 : BitVec 32) (v8 : BitVec 32) (v12 : BitVec 32) (k0_hw1 : k0_chk1 i v0 v3 v8 v12), ∀ (k0_h1 : k0_cond1 i v0 = 1#1), ∀ a, (k0_off9 v12) a + S1x512x2048.size a ≤ S2x512x2048.size a := fun i v0 v3 v8 v12 k0_hw1 k0_h1 => k0_hw1.2.2.2.2.2.1 k0_h1
theorem k0_off11_inb : ∀ (i : grid0.Coords) (v0 : BitVec 32) (v3 : BitVec 32) (v8 : BitVec 32) (v12 : BitVec 32) (k0_hw1 : k0_chk1 i v0 v3 v8 v12), ∀ (k0_h2 : k0_cond2 i v0 v3 v8 = 1#1), ∀ a, (k0_off11 v12) a + S1x1.size a ≤ S2x3.size a := fun i v0 v3 v8 v12 k0_hw1 k0_h2 => k0_hw1.2.2.2.2.2.2.1 k0_h2
theorem k0_off12_inb : ∀ (i : grid0.Coords) (v0 : BitVec 32) (v3 : BitVec 32) (v8 : BitVec 32) (v12 : BitVec 32) (k0_hw1 : k0_chk1 i v0 v3 v8 v12), ∀ (k0_h2 : k0_cond2 i v0 v3 v8 = 1#1), ∀ a, (k0_off12 v12) a + S1x2048x512.size a ≤ S2x2048x512.size a := fun i v0 v3 v8 v12 k0_hw1 k0_h2 => k0_hw1.2.2.2.2.2.2.2.1 k0_h2
theorem k0_off14_inb : ∀ (i : grid0.Coords) (v0 : BitVec 32) (v3 : BitVec 32) (v8 : BitVec 32) (v12 : BitVec 32) (k0_hw1 : k0_chk1 i v0 v3 v8 v12), ∀ (k0_h2 : k0_cond2 i v0 v3 v8 = 1#1), ∀ a, (k0_off14 v12) a + S1x1.size a ≤ S2x3.size a := fun i v0 v3 v8 v12 k0_hw1 k0_h2 => k0_hw1.2.2.2.2.2.2.2.2.1 k0_h2
theorem k0_off15_inb : ∀ (i : grid0.Coords) (v0 : BitVec 32) (v3 : BitVec 32) (v8 : BitVec 32) (v12 : BitVec 32) (k0_hw1 : k0_chk1 i v0 v3 v8 v12), ∀ (k0_h2 : k0_cond2 i v0 v3 v8 = 1#1), ∀ a, (k0_off15 v12) a + S1x1.size a ≤ S2x3.size a := fun i v0 v3 v8 v12 k0_hw1 k0_h2 => k0_hw1.2.2.2.2.2.2.2.2.2.1 k0_h2
theorem k0_off16_inb : ∀ (i : grid0.Coords) (v0 : BitVec 32) (v3 : BitVec 32) (v8 : BitVec 32) (v12 : BitVec 32) (k0_hw1 : k0_chk1 i v0 v3 v8 v12), ∀ (k0_h2 : k0_cond2 i v0 v3 v8 = 1#1), ∀ a, (k0_off16 v12) a + S1x512x2048.size a ≤ S2x512x2048.size a := fun i v0 v3 v8 v12 k0_hw1 k0_h2 => k0_hw1.2.2.2.2.2.2.2.2.2.2.1 k0_h2
theorem k0_off26_inb : ∀ (i : grid0.Coords) (v0 : BitVec 32) (v3 : BitVec 32) (v8 : BitVec 32) (v12 : BitVec 32) (k0_hw1 : k0_chk1 i v0 v3 v8 v12), ∀ (k0_h2 : k0_cond2 i v0 v3 v8 = 1#1), ∀ a, (k0_off26 v12) a + S1x2048x512.size a ≤ S2x2048x512.size a := fun i v0 v3 v8 v12 k0_hw1 k0_h2 => k0_hw1.2.2.2.2.2.2.2.2.2.2.2.1 k0_h2
theorem k0_off27_inb : ∀ (i : grid0.Coords) (v0 : BitVec 32) (v3 : BitVec 32) (v8 : BitVec 32) (v12 : BitVec 32) (k0_hw1 : k0_chk1 i v0 v3 v8 v12), ∀ (k0_h2 : k0_cond2 i v0 v3 v8 = 1#1), ∀ a, (k0_off27 v12) a + S1x512x2048.size a ≤ S2x512x2048.size a := fun i v0 v3 v8 v12 k0_hw1 k0_h2 => k0_hw1.2.2.2.2.2.2.2.2.2.2.2.2 k0_h2

def k0_cond4 (i : grid0.Coords) (v0 : BitVec 32) : BitVec 1 :=
  let arg0 : BitVec 32 := BitVec.ofNat 32 (i 0).val
  let v1 : BitVec 1 := Scalar.cmpi .slt arg0 v0
  let v21 : BitVec 32 := Scalar.extui v1
  let c0_i32_4 : BitVec 32 := 0#32
  let v22 : BitVec 1 := Scalar.cmpi .ne v21 c0_i32_4
  v22

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v23 : BitVec 1 := Scalar.xori v1 v_true
  let v24 : BitVec 32 := Scalar.extui v23
  let c0_i32_5 : BitVec 32 := 0#32
  let v25 : BitVec 1 := Scalar.cmpi .ne v24 c0_i32_5
  v25

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 3 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S192 : Shape := ⟨1, ![192]⟩
abbrev S1 : Shape := ⟨1, ![1]⟩
abbrev S49152x2048 : Shape := ⟨2, ![49152, 2048]⟩
abbrev S64x2048x512 : Shape := ⟨3, ![64, 2048, 512]⟩
abbrev S64x512x2048 : Shape := ⟨3, ![64, 512, 2048]⟩
abbrev S_ : Shape := ⟨0, ![]⟩
abbrev S192x256x2048 : Shape := ⟨3, ![192, 256, 2048]⟩
abbrev S192x1 : Shape := ⟨2, ![192, 1]⟩
abbrev S192x2048x512 : Shape := ⟨3, ![192, 2048, 512]⟩
abbrev S192x256x512 : Shape := ⟨3, ![192, 256, 512]⟩
abbrev S192x512x2048 : Shape := ⟨3, ![192, 512, 2048]⟩
abbrev S192x1x1 : Shape := ⟨3, ![192, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S192, .i32⟩
  | .hbm, ⟨1, _⟩ => ⟨S192, .i32⟩
  | .hbm, ⟨2, _⟩ => ⟨S192, .i32⟩
  | .hbm, ⟨3, _⟩ => ⟨S1, .i32⟩
  | .hbm, ⟨4, _⟩ => ⟨S49152x2048, .f32⟩
  | .hbm, ⟨5, _⟩ => ⟨S64x2048x512, .f32⟩
  | .hbm, ⟨6, _⟩ => ⟨S64x2048x512, .f32⟩
  | .hbm, ⟨7, _⟩ => ⟨S64x512x2048, .f32⟩
  | .hbm, ⟨8, _⟩ => ⟨S192, .i32⟩
  | .hbm, ⟨9, _⟩ => ⟨S_, .i32⟩
  | .hbm, ⟨10, _⟩ => ⟨S192, .i32⟩
  | .hbm, ⟨11, _⟩ => ⟨S192, .i1⟩
  | .hbm, ⟨12, _⟩ => ⟨S192x256x2048, .f32⟩
  | .hbm, ⟨13, _⟩ => ⟨S_, .i32⟩
  | .hbm, ⟨14, _⟩ => ⟨S192, .i32⟩
  | .hbm, ⟨15, _⟩ => ⟨S192, .i1⟩
  | .hbm, ⟨16, _⟩ => ⟨S_, .i32⟩
  | .hbm, ⟨17, _⟩ => ⟨S192, .i32⟩
  | .hbm, ⟨18, _⟩ => ⟨S192, .i32⟩
  | .hbm, ⟨19, _⟩ => ⟨S192, .i32⟩
  | .hbm, ⟨20, _⟩ => ⟨S192x1, .i32⟩
  | .hbm, ⟨21, _⟩ => ⟨S192x2048x512, .f32⟩
  | .hbm, ⟨22, _⟩ => ⟨S192x256x512, .f32⟩
  | .hbm, ⟨23, _⟩ => ⟨S_, .i32⟩
  | .hbm, ⟨24, _⟩ => ⟨S192, .i32⟩
  | .hbm, ⟨25, _⟩ => ⟨S192, .i1⟩
  | .hbm, ⟨26, _⟩ => ⟨S_, .i32⟩
  | .hbm, ⟨27, _⟩ => ⟨S192, .i32⟩
  | .hbm, ⟨28, _⟩ => ⟨S192, .i32⟩
  | .hbm, ⟨29, _⟩ => ⟨S192, .i32⟩
  | .hbm, ⟨30, _⟩ => ⟨S192x1, .i32⟩
  | .hbm, ⟨31, _⟩ => ⟨S192x2048x512, .f32⟩
  | .hbm, ⟨32, _⟩ => ⟨S192x256x512, .f32⟩
  | .hbm, ⟨33, _⟩ => ⟨S192x256x512, .f32⟩
  | .hbm, ⟨34, _⟩ => ⟨S192x256x512, .f32⟩
  | .hbm, ⟨35, _⟩ => ⟨S_, .f32⟩
  | .hbm, ⟨36, _⟩ => ⟨S192x256x512, .f32⟩
  | .hbm, ⟨37, _⟩ => ⟨S192x256x512, .f32⟩
  | .hbm, ⟨38, _⟩ => ⟨S_, .f32⟩
  | .hbm, ⟨39, _⟩ => ⟨S192x256x512, .f32⟩
  | .hbm, ⟨40, _⟩ => ⟨S192x256x512, .f32⟩
  | .hbm, ⟨41, _⟩ => ⟨S192x256x512, .f32⟩
  | .hbm, ⟨42, _⟩ => ⟨S192x256x512, .f32⟩
  | .hbm, ⟨43, _⟩ => ⟨S_, .i32⟩
  | .hbm, ⟨44, _⟩ => ⟨S192, .i32⟩
  | .hbm, ⟨45, _⟩ => ⟨S192, .i1⟩
  | .hbm, ⟨46, _⟩ => ⟨S_, .i32⟩
  | .hbm, ⟨47, _⟩ => ⟨S192, .i32⟩
  | .hbm, ⟨48, _⟩ => ⟨S192, .i32⟩
  | .hbm, ⟨49, _⟩ => ⟨S192, .i32⟩
  | .hbm, ⟨50, _⟩ => ⟨S192x1, .i32⟩
  | .hbm, ⟨51, _⟩ => ⟨S192x512x2048, .f32⟩
  | .hbm, ⟨52, _⟩ => ⟨S192x256x2048, .f32⟩
  | .hbm, ⟨53, _⟩ => ⟨S192x1x1, .i1⟩
  | .hbm, ⟨54, _⟩ => ⟨S_, .f32⟩
  | .hbm, ⟨55, _⟩ => ⟨S_, .f32⟩
  | .hbm, ⟨56, _⟩ => ⟨S192x256x2048, .i1⟩
  | .hbm, ⟨57, _⟩ => ⟨S192x256x2048, .f32⟩
  | .hbm, ⟨58, _⟩ => ⟨S192x256x2048, .f32⟩
  | .hbm, ⟨59, _⟩ => ⟨S49152x2048, .f32⟩
  | _, _ => ⟨S192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_v33 : Ref sig .tc := ⟨.hbm, 59, rfl⟩

abbrev nD : Nat := 1
abbrev τ : Topo := Topo.v7x

variable {F : FTy → Type} [FloatOps F]
-- ==== Proof.Norm.lean ====
/-  The numbers the two projections make of a row of the residual stream: its root-mean-square norm, scaled and shifted by
    the sequence's conditioning vectors. -/
module

public import Idealize.ShloMosaic.Lib.Pointwise

@[expose] public section

set_option maxRecDepth 16384

noncomputable section

open Idealize.ShloMosaic

namespace Cert.Layer

/-- A row over the root of its mean square, times the channel gains. -/
def normed (x g : Fin 2048 → EReal) (k : Fin 2048) : EReal :=
  x k * Ideal.rsqrt (Ideal.div (∑ l, x l * x l) (Ideal.ofBits .f32 0x45000000#32) + Ideal.ofBits .f32 0x358637BD#32) * g k

/-- The norm scaled by one more than `sc` and shifted by `sh`. -/
def adapted (x g sc sh : Fin 2048 → EReal) (k : Fin 2048) : EReal := normed x g k * (1 + sc k) + sh k

/-- A sum over 2048 places is the sum over the first 1024 and the sum over the last 1024. -/
theorem sum_halves (f : Fin 2048 → EReal) :
    ∑ l, f l = (∑ l : Fin 1024, f ⟨l.val, by omega⟩) + ∑ l : Fin 1024, f ⟨1024 + l.val, by omega⟩ :=
  Fin.sum_univ_add (a := 1024) (b := 1024) f

/-- The place of row `r` of the stream in its sequence, and the sequence. -/
abbrev seqOf (r : Fin 16384) : Fin 8 := ⟨r.val / 2048, by omega⟩
abbrev posOf (r : Fin 16384) : Fin 2048 := ⟨r.val % 2048, by omega⟩

theorem row_eq (r : Fin 16384) : 2048 * (seqOf r).val + (posOf r).val = r.val := Nat.div_add_mod r.val 2048

/-! ## The output projection -/

section
variable (A B : Fin 16384 → Fin 1024 → EReal) (X : Fin 16384 → Fin 2048 → EReal) (M : Fin 8 → Fin 6 → Fin 2048 → EReal)
  (G : Fin 2048 → EReal) (W : Fin 2048 → Fin 2048 → EReal) (WR : Fin 128 → Fin 2048 → EReal)

/-- The stream after the mixing: the row plus its gate times the two head groups' rows through the mixing matrix. -/
def streamAt (r : Fin 16384) (k : Fin 2048) : EReal :=
  X r k + M (seqOf r) 2 k * ((∑ l : Fin 1024, A r l * W ⟨l.val, by omega⟩ k)
    + ∑ l : Fin 1024, B r l * W ⟨1024 + l.val, by omega⟩ k)

/-- The stream's norm, scaled and shifted for the experts. -/
def hiddenAt (r : Fin 16384) (k : Fin 2048) : EReal :=
  adapted (streamAt A B X M W r) G (M (seqOf r) 4) (M (seqOf r) 3) k

/-- The routing logits, one row to an expert. -/
def logitAt (e : Fin 128) (r : Fin 16384) : EReal := ∑ l, WR e l * hiddenAt A B X M G W r l
end

/-! ## The input projection -/

section
variable (X : Fin 16384 → Fin 2048 → EReal) (M : Fin 8 → Fin 6 → Fin 2048 → EReal) (G : Fin 2048 → EReal)

/-- The row's norm, scaled and shifted for the mixing. -/
def mixInAt (r : Fin 16384) (k : Fin 2048) : EReal := adapted (X r) G (M (seqOf r) 1) (M (seqOf r) 0) k

/-- A projected column: the adapted row times a row of the weights. -/
def columnAt (w : Fin 2048 → EReal) (r : Fin 16384) : EReal := ∑ l, mixInAt X M G r l * w l
end

end Cert.Layer

end
-- ==== Proof.InRun.lean ====
/-  The input projection: the body's run at one grid point. -/
module

public import proofs.«01_k».proof.Proof.Gen.Kernel2Ideal.Frame
public import proofs.«01_k».proof.Proof.Gen.Kernel2Ideal.Skeleton
public import Idealize.ShloMosaic.Lib.Claim
public import Idealize.ShloMosaic.Lib.VecWindow
public import Idealize.ShloMosaic.Lib.WholeRead
public import Idealize.ShloMosaic.Lib.Pipeline.Value

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branches, by the point -/

/-- The first step of a block of rows. -/
abbrev first (i : grid0.Coords) : Prop := k0_cond1 i = 1#1
theorem first_iff : ∀ t : Fin cfg0.N, first (grid0.coords t) ↔ t.val % 13 = 0 :=
  (by decide +kernel : ∀ t : Fin grid0.N, first (grid0.coords t) ↔ t.val % 13 = 0)

/-- The first block of rows: the body starts its own copy. -/
abbrev opening (i : grid0.Coords) : Prop := k0_cond2 i = 1#1
theorem opening_iff : ∀ t : Fin cfg0.N, opening (grid0.coords t) ↔ t.val < 13 :=
  (by decide +kernel : ∀ t : Fin grid0.N, opening (grid0.coords t) ↔ t.val < 13)

/-- A block of rows follows: the body starts its copy ahead. -/
abbrev ahead (i : grid0.Coords) : Prop := k0_cond3 i = 1#1
theorem ahead_iff : ∀ t : Fin cfg0.N, ahead (grid0.coords t) ↔ t.val < 91 :=
  (by decide +kernel : ∀ t : Fin grid0.N, ahead (grid0.coords t) ↔ t.val < 91)

/-! ## The buffers the body moves itself -/

/-- The scratch that keeps a block's adapted norm, and the buffer a block of rows is copied into. -/
abbrev hM : Memref sig .tc .vmem S2048x2048 .bf16 := Memref.whole cc0_scratch0
abbrev xM : Memref sig .tc .vmem S2048x2048 .f32 := Memref.whole cc0_scratch1
/-- The rows, left in HBM. -/
abbrev rowsM : Memref sig .tc .hbm S16384x2048 .f32 := Memref.whole main_arg0
abbrev Rows (c : Dev nD) : Type := Buf (Elt F) (rowsM.view.loc (c : Thread nD τ))

/-- Block `k` of the rows (of eight). -/
def bk (k : ℕ) : Fin 8 := ⟨k % 8, Nat.mod_lt _ (by decide)⟩
theorem src_inb (b : Fin 8) : ∀ a, (![2048 * b.val, 0] : Fin 2 → Nat) a + S2048x2048.size a ≤ S16384x2048.size a := by
  have := b.isLt; intro a; fin_cases a <;> simp <;> omega
def srcB (b : Fin 8) : Memref sig .tc .hbm S2048x2048 .f32 :=
  rowsM.slice (Rect.unit (s := S16384x2048) ![2048 * b.val, 0] S2048x2048.size (src_inb b)) (fun _ => rfl)

/-- The one cell the copies are counted on. -/
abbrev cell : SemLoc sig := SemLoc.dma cc0_scratch2.sem

section
variable (c : Dev nD) (R : Rows (F := F) c)
/-- Two read copies of the rows, so that a copy can start while the one before it is still lent. -/
abbrev half (k : ℕ) : PosShare TreeShare := if k % 2 = 0 then fullShare.left else fullShare.right
abbrev slotP (f : Buf (Elt F) (xM.view.loc (c : Thread nD τ))) : sProp 𝕄 := xM.view.loc (c : Thread nD τ) ↦[xM.view.set]{fullShare} f
abbrev srcP (k : ℕ) : sProp 𝕄 := (srcB (bk k)).view.loc (c : Thread nD τ) ↦[(srcB (bk k)).view.set]{half k} R
def restP (k : ℕ) : sProp 𝕄 := ((c : Thread nD τ).loc main_arg0) ↦[Finset.univ \ (srcB (bk k)).view.set]{half k} R
abbrev allP (k : ℕ) : sProp 𝕄 := ((c : Thread nD τ).loc main_arg0) ↦[Finset.univ]{half k} R
/-- A block's words, as they land. -/
abbrev landed (k : ℕ) (f : Buf (Elt F) (xM.view.loc (c : Thread nD τ))) : Buf (Elt F) (xM.view.loc (c : Thread nD τ)) :=
  xM.view.writes (Elt F) f [⟨Rect.whole S2048x2048, ReadAs.same.apply ((srcB (bk k)).view.read (Elt F) R)⟩]
/-- The copy of block `k` in flight. -/
abbrev flightP (k : ℕ) (f : Buf (Elt F) (xM.view.loc (c : Thread nD τ))) : sProp 𝕄 :=
  Transfers.Flight countersEmb (c : Thread nD τ) cell default (xM.view.amount cell) iprop(slotP c (landed c R k f) ∗ srcP c R k)

theorem amount_eq : xM.view.amount cell = 524288 := by decide +kernel
/-- A copy in flight over an earlier landing, as one over some contents. -/
theorem flight_landed (k : ℕ) (f : Buf (Elt F) (xM.view.loc (c : Thread nD τ))) (w : Vec F S2048x2048 .f32) :
    (Transfers.Flight countersEmb (c : Thread nD τ) cell default 524288 iprop((xM.view.loc (c : Thread nD τ) ↦[xM.view.set]{fullShare}
      xM.view.writes (Elt F) f [⟨Rect.whole S2048x2048, ReadAs.same.apply ((srcB (bk k)).view.read (Elt F) R)⟩, ⟨Rect.whole S2048x2048, w⟩]) ∗ srcP c R k) : sProp 𝕄)
      = flightP c R k (xM.view.writes (Elt F) f [⟨Rect.whole S2048x2048, w⟩]) := by
  unfold flightP slotP landed
  rw [amount_eq]
  simp only [View.writes_cons, View.writes_nil]

theorem src_split (k : ℕ) : allP (F := F) c R k ⊣⊢ iprop(srcP c R k ∗ restP c R k) := by
  unfold restP; exact pointsTo_split_subset (Finset.subset_univ _)
end

theorem off3_eq : ∀ t : Fin grid0.N, first (grid0.coords t) → ahead (grid0.coords t) → k0_off3 (grid0.coords t) = ![2048 * (bk (t.val / 13 + 1)).val, 0] := by decide +kernel
@[sl_canon] theorem canon3 (t : Fin grid0.N) (h0 : first (grid0.coords t)) (h2 : ahead (grid0.coords t)) :
    rowsM.slice (Rect.unit (s := S16384x2048) (k0_off3 (grid0.coords t)) S2048x2048.size (k0_off3_inb (grid0.coords t) h0 h2)) (fun _ => rfl) = srcB (bk (t.val / 13 + 1)) :=
  Memref.slice_unit_congr _ (off3_eq t h0 h2) _ _ (fun _ => rfl) (fun _ => rfl)
@[sl_canon] theorem canon3' (t : Fin grid0.N) (h0 : first (grid0.coords t)) (h2 : ahead (grid0.coords t)) :
    rowsM.slice (Rect.unit (s := S16384x2048) (k0_off3 (grid0.coords t)) ![2048, 2048] (k0_off3_inb (grid0.coords t) h0 h2)) (fun _ => rfl) = srcB (bk (t.val / 13 + 1)) :=
  canon3 t h0 h2
theorem off2_eq : ∀ t : Fin grid0.N, first (grid0.coords t) → k0_off2 (grid0.coords t) = ![2048 * (bk (t.val / 13)).val, 0] := by decide +kernel
@[sl_canon] theorem canon2 (t : Fin grid0.N) (h0 : first (grid0.coords t)) :
    rowsM.slice (Rect.unit (s := S16384x2048) (k0_off2 (grid0.coords t)) S2048x2048.size (k0_off2_inb (grid0.coords t) h0)) (fun _ => rfl) = srcB (bk (t.val / 13)) :=
  Memref.slice_unit_congr _ (off2_eq t h0) _ _ (fun _ => rfl) (fun _ => rfl)
theorem off1_eq : ∀ t : Fin grid0.N, first (grid0.coords t) → opening (grid0.coords t) → k0_off1 (grid0.coords t) = ![2048 * (bk (t.val / 13)).val, 0] := by decide +kernel
@[sl_canon] theorem canon1 (t : Fin grid0.N) (h0 : first (grid0.coords t)) (h1 : opening (grid0.coords t)) :
    rowsM.slice (Rect.unit (s := S16384x2048) (k0_off1 (grid0.coords t)) S2048x2048.size (k0_off1_inb (grid0.coords t) h0 h1)) (fun _ => rfl) = srcB (bk (t.val / 13)) :=
  Memref.slice_unit_congr _ (off1_eq t h0 h1) _ _ (fun _ => rfl) (fun _ => rfl)

/-- A row of a block of the modulation, as the body loads it. -/
abbrev shiftRow (md : Vec F S1x6x2048 .f32) : Vec F S1x1x2048 .f32 :=
  fun y => md ((Rect.unit (s := S1x6x2048) ![0, 0, 0] S1x1x2048.size inb_S1x6x2048_S1x1x2048_0_0_0).toLoadRect.idx y)
abbrev scaleRow (md : Vec F S1x6x2048 .f32) : Vec F S1x1x2048 .f32 :=
  fun y => md ((Rect.unit (s := S1x6x2048) ![0, 1, 0] S1x1x2048.size inb_S1x6x2048_S1x1x2048_0_1_0).toLoadRect.idx y)
/-- A block's adapted norm, from its rows, the modulation and the weights. -/
abbrev hOf (x : Vec F S2048x2048 .f32) (md : Vec F S1x6x2048 .f32) (g : Vec F S1x2048 .f32) : Vec F S2048x2048 .bf16 :=
  k0_pay3 x g (scaleRow md) (shiftRow md)

section
variable {κ : Kind} {sp : Space} {s : Shape} {e : EltTy} {m : Memref sig κ sp s e}
/-- A load of a whole buffer's own sizes reads its contents. -/
theorem rd_full (h : m.IsWhole) (X : s.Idx → Elt F e) {off : Fin s.rank → ℕ} (inb : ∀ a, off a + s.size a ≤ s.size a) :
    m.view.readAt (Elt F) (Rect.unit off s.size inb).toLoadRect (h.unread X) = X := by
  rw [View.readAt_full]; exact h.read_unread X
theorem rd_landed (w : Vec F S2048x2048 .f32) {off : Fin 2 → ℕ}
    (inb : ∀ a, off a + S2048x2048.size a ≤ S2048x2048.size a) :
    xM.view.readCov (Val := Elt F) [⟨Rect.whole S2048x2048, w⟩] (Rect.unit (s := S2048x2048) off S2048x2048.size inb).toLoadRect = w := by
  refine (View.readAt_full _ _ _).trans ?_; exact View.read_writes_whole _ _ _
/-- The adapted norm the body computes from what it loads. -/
theorem pay3_run (c : Dev nD) (R : Rows (F := F) c) (k : ℕ)
    {arg3 : Memref sig .tc .vmem S1x6x2048 .f32} (harg3 : arg3.IsWhole) {arg4 : Memref sig .tc .vmem S1x2048 .f32} (harg4 : arg4.IsWhole)
    (x0 : Vec F S1x6x2048 .f32) (x1 : Vec F S1x2048 .f32) :
    k0_pay3 (xM.view.readCov (Val := Elt F) [⟨Rect.whole S2048x2048, ReadAs.same.apply ((srcB (bk k)).view.read (Elt F) R)⟩] (Rect.unit (s := S2048x2048) ![0, 0] S2048x2048.size inb_S2048x2048_S2048x2048_0_0).toLoadRect)
        (arg4.view.readAt (Elt F) (Rect.unit (s := S1x2048) ![0, 0] S1x2048.size inb_S1x2048_S1x2048_0_0).toLoadRect (harg4.unread x1))
        (arg3.view.readAt (Elt F) (Rect.unit (s := S1x6x2048) ![0, 1, 0] S1x1x2048.size inb_S1x6x2048_S1x1x2048_0_1_0).toLoadRect (harg3.unread x0))
        (arg3.view.readAt (Elt F) (Rect.unit (s := S1x6x2048) ![0, 0, 0] S1x1x2048.size inb_S1x6x2048_S1x1x2048_0_0_0).toLoadRect (harg3.unread x0))
      = hOf ((srcB (bk k)).view.read (Elt F) R) x0 x1 := by
  have e1 : (arg3.view.readAt (Elt F) (Rect.unit (s := S1x6x2048) ![0, 1, 0] S1x1x2048.size inb_S1x6x2048_S1x1x2048_0_1_0).toLoadRect (harg3.unread x0)) = scaleRow x0 :=
    funext fun y => Memref.IsWhole.readAt_unread harg3 x0 _ y
  have e0 : (arg3.view.readAt (Elt F) (Rect.unit (s := S1x6x2048) ![0, 0, 0] S1x1x2048.size inb_S1x6x2048_S1x1x2048_0_0_0).toLoadRect (harg3.unread x0)) = shiftRow x0 :=
    funext fun y => Memref.IsWhole.readAt_unread harg3 x0 _ y
  rw [rd_landed, rd_full, e1, e0]
theorem pay4_eq (x : Vec F S2048x2048 .f32) (g : Vec F S1x2048 .f32) (a b : Vec F S1x1x2048 .f32) : k0_pay4 x g a b = k0_pay3 x g a b := by
  unfold k0_pay4; exact shapeCast_self _ _
end

set_option maxHeartbeats 1000000 in
/-- A later step of a block. -/
theorem run_later (c : Dev nD) (t : Fin cfg0.N) (arg3 : Memref sig .tc .vmem S1x6x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S128x2048 .bf16) (harg6 : arg6.IsWhole) (arg7 : Memref sig .tc .vmem S2048x512 .bf16) (harg7 : arg7.IsWhole) (arg8 : Memref sig .tc .vmem S2048x128 .f32) (harg8 : arg8.IsWhole)
    (hc0 : ¬first (grid0.coords t)) (x2 : Vec F S512x2048 .f32) (h : Vec F S2048x2048 .bf16) (W : Waits sig Unit) (K : PUnit → sProp 𝕄) :
    iprop(owns (c : Thread nD τ) arg5 fullShare x2 ∗ (∃ d, owns (c : Thread nD τ) arg7 fullShare d) ∗ owns (c : Thread nD τ) hM fullShare h ∗ owes (c : Thread nD τ) 0 W
        ∗ (iprop(owns (c : Thread nD τ) arg5 fullShare x2 ∗ owns (c : Thread nD τ) arg7 fullShare (k0_pay2 h x2) ∗ owns (c : Thread nD τ) hM fullShare h ∗ (∃ W', owes (c : Thread nD τ) 0 W')) -∗ K ⟨⟩))
      ⊢ wp frame (wpE (defs₀ (F := F)) Variants.none c none) Set.univ (cc0_inproj (grid0.coords t) rowsM (Memref.isWhole_whole _) arg3 harg3 arg4 harg4 arg5 harg5 arg6 harg6 arg7 harg7 arg8 harg8 hM (Memref.isWhole_whole _) xM (Memref.isWhole_whole _) cc0_scratch2) K := by
  simp only [cc0_inproj_eq_skeleton]; unfold cc0_inproj_skel
  unfold owns
  iintro ⟨⟨%f2, %hf2, H2⟩, ⟨%d4, %f4, -, H4⟩, ⟨%fs0, %hfs0, HS0⟩, HW, Hk⟩
  obtain rfl := harg5.eq_unread hf2; obtain rfl := (Memref.isWhole_whole cc0_scratch0).eq_unread hfs0
  sl_exec (disch := first | sl_exact hc0)
  sl_step
  iapply Hk
  isplitl [H2]
  · iexists _; isplitr; · ipureintro; exact harg5.read_unread _
    iexact H2
  isplitl [H4]
  · iexists _; isplitr; swap; · iexact H4
    ipureintro
    rw [View.read_writes_full, rd_full, rd_full]
  isplitl [HS0]
  · iexists _; isplitr; · ipureintro; exact (Memref.isWhole_whole cc0_scratch0).read_unread _
    iexact HS0
  iexists _; iexact HW

set_option maxHeartbeats 1000000 in
/-- The first step of a block, when the block's copy is in flight and another block follows. -/
theorem run_first (c : Dev nD) (t : Fin cfg0.N) (arg3 : Memref sig .tc .vmem S1x6x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S128x2048 .bf16) (harg6 : arg6.IsWhole) (arg7 : Memref sig .tc .vmem S2048x512 .bf16) (harg7 : arg7.IsWhole) (arg8 : Memref sig .tc .vmem S2048x128 .f32) (harg8 : arg8.IsWhole)
    (hc0 : first (grid0.coords t)) (hc1 : ¬opening (grid0.coords t)) (hc2 : ahead (grid0.coords t))
    (x0 : Vec F S1x6x2048 .f32) (x1 : Vec F S1x2048 .f32) (x2 : Vec F S512x2048 .f32) (x3 : Vec F S128x2048 .bf16) (R : Rows (F := F) c)
    (f : Buf (Elt F) (xM.view.loc (c : Thread nD τ))) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ (∃ d, owns (c : Thread nD τ) arg8 fullShare d) ∗ (∃ d, owns (c : Thread nD τ) hM fullShare d)
        ∗ flightP c R (t.val / 13) f ∗ restP c R (t.val / 13) ∗ allP c R (t.val / 13 + 1) ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay2 (hOf ((srcB (bk (t.val / 13))).view.read (Elt F) R) x0 x1) x2)
            ∗ owns (c : Thread nD τ) arg8 fullShare (k0_pay1 (hOf ((srcB (bk (t.val / 13))).view.read (Elt F) R) x0 x1) x3)
            ∗ owns (c : Thread nD τ) hM fullShare (hOf ((srcB (bk (t.val / 13))).view.read (Elt F) R) x0 x1)
            ∗ (∃ f', flightP c R (t.val / 13 + 1) f') ∗ restP c R (t.val / 13 + 1) ∗ allP c R (t.val / 13) ∗ (∃ W', owes (c : Thread nD τ) 0 W')) -∗ K ⟨⟩))
      ⊢ wp frame (wpE (defs₀ (F := F)) Variants.none c none) Set.univ (cc0_inproj (grid0.coords t) rowsM (Memref.isWhole_whole _) arg3 harg3 arg4 harg4 arg5 harg5 arg6 harg6 arg7 harg7 arg8 harg8 hM (Memref.isWhole_whole _) xM (Memref.isWhole_whole _) cc0_scratch2) K := by
  haveI : Fact (first (grid0.coords t)) := ⟨hc0⟩
  haveI : Fact (¬opening (grid0.coords t)) := ⟨hc1⟩
  haveI : Fact (ahead (grid0.coords t)) := ⟨hc2⟩
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hfl, Hr, Ha, HW, Hk⟩
  ihave Hsp := (src_split c R (t.val / 13 + 1)).1 $$ Ha
  icases Hsp with ⟨Hh1, Hr1⟩
  obtain rfl := harg3.eq_unread hf0; obtain rfl := harg4.eq_unread hf1; obtain rfl := harg5.eq_unread hf2; obtain rfl := harg6.eq_unread hf3
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    rw [View.read_writes_full]
    refine congrArg₂ k0_pay2 ?_ (rd_full harg5 x2 _)
    unfold run_first.sl.v3 run_first.sl.HS0_1
    refine (View.readCov_full _ _ _ _ _).trans ((pay4_eq _ _ _ _).trans ?_)
    unfold run_first.sl.v15
    exact pay3_run c R (t.val / 13) harg3 harg4 x0 x1
  isplitl [H5]
  · iexists _; isplitr; swap; · iexact H5
    ipureintro
    rw [View.read_writes_full]
    refine congrArg₂ k0_pay1 ?_ (rd_full harg6 x3 _)
    unfold run_first.sl.r run_first.sl.v15
    exact pay3_run c R (t.val / 13) harg3 harg4 x0 x1
  isplitl [HS0]
  · iexists _; isplitr; swap; · iexact HS0
    ipureintro
    unfold run_first.sl.HS0_1
    rw [View.read_writes_full, pay4_eq]
    unfold run_first.sl.v15
    exact pay3_run c R (t.val / 13) harg3 harg4 x0 x1
  isplitl [Hfl]
  · iexists (landed c R (t.val / 13) f)
    rw [← flight_landed]
    unfold run_first.sl.dma9
    iexact Hfl
  isplitl [Hr1]
  · iexact Hr1
  isplitr [HW]
  · iapply (src_split c R (t.val / 13)).2
    isplitl [Hfl_src]
    · iexact Hfl_src
    iexact Hr
  iexists _; iexact HW

set_option maxHeartbeats 1000000 in
/-- The very first step: the body starts its block's copy itself, waits for it and starts the next. -/
theorem run_open (c : Dev nD) (t : Fin cfg0.N) (arg3 : Memref sig .tc .vmem S1x6x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S128x2048 .bf16) (harg6 : arg6.IsWhole) (arg7 : Memref sig .tc .vmem S2048x512 .bf16) (harg7 : arg7.IsWhole) (arg8 : Memref sig .tc .vmem S2048x128 .f32) (harg8 : arg8.IsWhole)
    (hc0 : first (grid0.coords t)) (hc1 : opening (grid0.coords t)) (hc2 : ahead (grid0.coords t))
    (x0 : Vec F S1x6x2048 .f32) (x1 : Vec F S1x2048 .f32) (x2 : Vec F S512x2048 .f32) (x3 : Vec F S128x2048 .bf16) (R : Rows (F := F) c)
    (f : Buf (Elt F) (xM.view.loc (c : Thread nD τ))) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ (∃ d, owns (c : Thread nD τ) arg8 fullShare d) ∗ (∃ d, owns (c : Thread nD τ) hM fullShare d)
        ∗ semVal ((c : Thread nD τ), cell) 0 ∗ slotP c f ∗ allP c R (t.val / 13) ∗ allP c R (t.val / 13 + 1) ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay2 (hOf ((srcB (bk (t.val / 13))).view.read (Elt F) R) x0 x1) x2)
            ∗ owns (c : Thread nD τ) arg8 fullShare (k0_pay1 (hOf ((srcB (bk (t.val / 13))).view.read (Elt F) R) x0 x1) x3)
            ∗ owns (c : Thread nD τ) hM fullShare (hOf ((srcB (bk (t.val / 13))).view.read (Elt F) R) x0 x1)
            ∗ (∃ f', flightP c R (t.val / 13 + 1) f') ∗ restP c R (t.val / 13 + 1) ∗ allP c R (t.val / 13) ∗ (∃ W', owes (c : Thread nD τ) 0 W')) -∗ K ⟨⟩))
      ⊢ wp frame (wpE (defs₀ (F := F)) Variants.none c none) Set.univ (cc0_inproj (grid0.coords t) rowsM (Memref.isWhole_whole _) arg3 harg3 arg4 harg4 arg5 harg5 arg6 harg6 arg7 harg7 arg8 harg8 hM (Memref.isWhole_whole _) xM (Memref.isWhole_whole _) cc0_scratch2) K := by
  haveI : Fact (first (grid0.coords t)) := ⟨hc0⟩
  haveI : Fact (opening (grid0.coords t)) := ⟨hc1⟩
  haveI : Fact (ahead (grid0.coords t)) := ⟨hc2⟩
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hfl, Hsl, Ha0, Ha, HW, Hk⟩
  ihave Hsp0 := (src_split c R (t.val / 13)).1 $$ Ha0
  icases Hsp0 with ⟨Hh, Hr⟩
  ihave Hsp := (src_split c R (t.val / 13 + 1)).1 $$ Ha
  icases Hsp with ⟨Hh1, Hr1⟩
  obtain rfl := harg3.eq_unread hf0; obtain rfl := harg4.eq_unread hf1; obtain rfl := harg5.eq_unread hf2; obtain rfl := harg6.eq_unread hf3
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    rw [View.read_writes_full]
    refine congrArg₂ k0_pay2 ?_ (rd_full harg5 x2 _)
    unfold run_open.sl.v3 run_open.sl.HS0_1
    refine (View.readCov_full _ _ _ _ _).trans ((pay4_eq _ _ _ _).trans ?_)
    unfold run_open.sl.v15
    exact pay3_run c R (t.val / 13) harg3 harg4 x0 x1
  isplitl [H5]
  · iexists _; isplitr; swap; · iexact H5
    ipureintro
    rw [View.read_writes_full]
    refine congrArg₂ k0_pay1 ?_ (rd_full harg6 x3 _)
    unfold run_open.sl.r run_open.sl.v15
    exact pay3_run c R (t.val / 13) harg3 harg4 x0 x1
  isplitl [HS0]
  · iexists _; isplitr; swap; · iexact HS0
    ipureintro
    unfold run_open.sl.HS0_1
    rw [View.read_writes_full, pay4_eq]
    unfold run_open.sl.v15
    exact pay3_run c R (t.val / 13) harg3 harg4 x0 x1
  isplitl [Hfl]
  · iexists (landed c R (t.val / 13) f)
    rw [← flight_landed]
    unfold run_open.sl.dma9
    iexact Hfl
  isplitl [Hr1]
  · iexact Hr1
  isplitr [HW]
  · iapply (src_split c R (t.val / 13)).2
    isplitl [Hh]
    · iexact Hh
    iexact Hr
  iexists _; iexact HW

set_option maxHeartbeats 1000000 in
/-- The first step of the last block: its copy is in flight and none follows. -/
theorem run_last (c : Dev nD) (t : Fin cfg0.N) (arg3 : Memref sig .tc .vmem S1x6x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S128x2048 .bf16) (harg6 : arg6.IsWhole) (arg7 : Memref sig .tc .vmem S2048x512 .bf16) (harg7 : arg7.IsWhole) (arg8 : Memref sig .tc .vmem S2048x128 .f32) (harg8 : arg8.IsWhole)
    (hc0 : first (grid0.coords t)) (hc1 : ¬opening (grid0.coords t)) (hc2 : ¬ahead (grid0.coords t))
    (x0 : Vec F S1x6x2048 .f32) (x1 : Vec F S1x2048 .f32) (x2 : Vec F S512x2048 .f32) (x3 : Vec F S128x2048 .bf16) (R : Rows (F := F) c)
    (f : Buf (Elt F) (xM.view.loc (c : Thread nD τ))) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ (∃ d, owns (c : Thread nD τ) arg8 fullShare d) ∗ (∃ d, owns (c : Thread nD τ) hM fullShare d)
        ∗ flightP c R (t.val / 13) f ∗ restP c R (t.val / 13) ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay2 (hOf ((srcB (bk (t.val / 13))).view.read (Elt F) R) x0 x1) x2)
            ∗ owns (c : Thread nD τ) arg8 fullShare (k0_pay1 (hOf ((srcB (bk (t.val / 13))).view.read (Elt F) R) x0 x1) x3)
            ∗ owns (c : Thread nD τ) hM fullShare (hOf ((srcB (bk (t.val / 13))).view.read (Elt F) R) x0 x1)
            ∗ semVal ((c : Thread nD τ), cell) 0 ∗ (∃ f', slotP c f') ∗ allP c R (t.val / 13) ∗ (∃ W', owes (c : Thread nD τ) 0 W')) -∗ K ⟨⟩))
      ⊢ wp frame (wpE (defs₀ (F := F)) Variants.none c none) Set.univ (cc0_inproj (grid0.coords t) rowsM (Memref.isWhole_whole _) arg3 harg3 arg4 harg4 arg5 harg5 arg6 harg6 arg7 harg7 arg8 harg8 hM (Memref.isWhole_whole _) xM (Memref.isWhole_whole _) cc0_scratch2) K := by
  haveI : Fact (first (grid0.coords t)) := ⟨hc0⟩
  haveI : Fact (¬opening (grid0.coords t)) := ⟨hc1⟩
  haveI : Fact (¬ahead (grid0.coords t)) := ⟨hc2⟩
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hfl, Hr, HW, Hk⟩
  obtain rfl := harg3.eq_unread hf0; obtain rfl := harg4.eq_unread hf1; obtain rfl := harg5.eq_unread hf2; obtain rfl := harg6.eq_unread hf3
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    rw [View.read_writes_full]
    refine congrArg₂ k0_pay2 ?_ (rd_full harg5 x2 _)
    unfold run_last.sl.v3 run_last.sl.HS0_1
    refine (View.readCov_full _ _ _ _ _).trans ((pay4_eq _ _ _ _).trans ?_)
    unfold run_last.sl.v15
    exact pay3_run c R (t.val / 13) harg3 harg4 x0 x1
  isplitl [H5]
  · iexists _; isplitr; swap; · iexact H5
    ipureintro
    rw [View.read_writes_full]
    refine congrArg₂ k0_pay1 ?_ (rd_full harg6 x3 _)
    unfold run_last.sl.r run_last.sl.v15
    exact pay3_run c R (t.val / 13) harg3 harg4 x0 x1
  isplitl [HS0]
  · iexists _; isplitr; swap; · iexact HS0
    ipureintro
    unfold run_last.sl.HS0_1
    rw [View.read_writes_full, pay4_eq]
    unfold run_last.sl.v15
    exact pay3_run c R (t.val / 13) harg3 harg4 x0 x1
  isplitl [Hfl]
  · iexact Hfl
  isplitl [Hfl_dst]
  · iexists _; iexact Hfl_dst
  isplitr [HW]
  · iapply (src_split c R (t.val / 13)).2
    isplitl [Hfl_src]
    · iexact Hfl_src
    iexact Hr
  iexists _; iexact HW

end Cert.Kernel2Ideal.Hand

end
-- ==== Proof.InFrame.lean ====
/-  The input projection: the launch, the arrays' contents at its end, and its frame. -/
module

public import proofs.«01_k».proof.Proof.InRun
public import Idealize.ShloMosaic.Lib.Pipeline.FrameBody
public import Idealize.ShloMosaic.Lib.Ring

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body's own buffers hold between points -/

/-- The first point of the block of rows that point `k` is in. -/
def rowStart (k : ℕ) : Fin cfg0.N := ⟨13 * (k / 13) % 104, by rw [show cfg0.N = 104 from N_0]; exact Nat.mod_lt _ (by decide)⟩
theorem rowStart_eq (t : Fin cfg0.N) (h : t.val % 13 = 0) : rowStart t.val = t := by
  have hN : t.val < 104 := lt_of_lt_of_eq t.isLt (show cfg0.N = 104 from N_0)
  apply Fin.ext; show 13 * (t.val / 13) % 104 = t.val; omega
theorem rowStart_succ (k : ℕ) (h : (k + 1) % 13 ≠ 0) : rowStart (k + 1) = rowStart k := by
  apply Fin.ext; show 13 * ((k + 1) / 13) % 104 = 13 * (k / 13) % 104
  rw [show (k + 1) / 13 = k / 13 by omega]

/-- The adapted norm of the block of rows whose first point is `t`. -/
def hB (c : Dev nD) (t : Fin cfg0.N) : Vec F S2048x2048 .bf16 :=
  hOf ((srcB (bk (t.val / 13))).view.read (Elt F) (V m c main_arg0)) (iblk m c 0 t) (iblk m c 1 t)

/-- The copies before step `s` of eight: none started, one in flight, or all done. -/
def copies (c : Dev nD) (R : Rows (F := F) c) (s : ℕ) : sProp 𝕄 :=
  if s = 0 ∨ 8 ≤ s then iprop(semVal ((c : Thread nD τ), cell) 0 ∗ (∃ f, slotP c f) ∗ allP c R 0 ∗ allP c R 1)
  else iprop((∃ f, flightP c R s f) ∗ restP c R s ∗ allP c R (s + 1))

theorem allP_two (c : Dev nD) (R : Rows (F := F) c) (k : ℕ) : (allP c R (k + 2) : sProp 𝕄) = allP c R k := by
  show (((c : Thread nD τ).loc main_arg0) ↦[Finset.univ]{half (k + 2)} R : sProp 𝕄) = _
  rw [show half (k + 2) = half k by unfold half; rw [Nat.add_mod_right]]

/-- The region's invariant before point `k`. -/
def PhiR (c : Dev nD) (k : ℕ) : sProp 𝕄 :=
  iprop((if k % 13 = 0 then iprop(∃ d, owns (c : Thread nD τ) hM fullShare d) else owns (c : Thread nD τ) hM fullShare (hB m c (rowStart k)))
    ∗ (∃ r, prngReg c r) ∗ copies c (V m c main_arg0) ((k + 12) / 13))

/-! ## The pipeline's proof data -/

/-- The arrays as the region finds them; after the body each input's buffer at its block, each result's at its
    product with the block's adapted norm. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => k0_pay2 (hB m c (rowStart t.val)) (X0_2 m c t)
    | ⟨5, _⟩ => k0_pay1 (hB m c (rowStart t.val)) (iblk m c 3 (rowStart t.val))
  Φ t := PhiR m c t.val
  q _ := fullShare
  owed _ := 0

theorem A_eq (c : Dev nD) (w : Fin cfg0.W) : (dats m 0 c).A w = V m c (Pipeline.arrRef spec0 w) := by dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay2 (hB m c (rowStart t.val)) (X0_2 m c t) := by dsimp only [dats]
theorem after0_5 (c : Dev nD) (t : Fin cfg0.N) : (dats m 0 c).after 5 t = k0_pay1 (hB m c (rowStart t.val)) (iblk m c 3 (rowStart t.val)) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = X0_2 m c t :=
  ((dats m 0 c).before_in_eq_fetched 2 rfl (fun _ => rfl)
      (fun t t' h => funext fun a => congrArg (fun n => Pipeline.Clip.of n ((cfg0.win 2).size a) (S6680x2048.size a)) (congrFun h a))
      (fun t => by rw [after0_2]; unfold X0_2; rw [Pipeline.Window.cut_fill]; unfold Dat.blockOf iblk; rw [A_eq]; try rfl) t d).trans
    (by unfold Dat.fetched X0_2; rw [fill0_2 t d dflt0_2]; unfold Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- The gate's window is idle except at a block's first point. -/
theorem idle5 : ∀ t : Fin cfg0.N, cfg0.idle 5 (cfg0.grid.coords t) = !decide (t.val % 13 = 0) :=
  (by decide +kernel : ∀ t : Fin grid0.N, cfg0.idle 5 (cfg0.grid.coords t) = !decide (t.val % 13 = 0))
theorem flush5_false (t : Fin cfg0.N) (h : t.val % 13 ≠ 12) : (cfg0.win 5).flush t = false := by
  rw [Bool.eq_false_iff]; exact fun hf => h ((flush0_5 t).mp hf)

/-- Past a block's first point the gate's buffer still holds what that point left. -/
theorem before0_5 (c : Dev nD) : ∀ (n : ℕ) (hn : n < cfg0.N), n % 13 ≠ 0 → ∀ d, (dats m 0 c).before 5 ⟨n, hn⟩ d = (dats m 0 c).after 5 ⟨n, hn⟩
  | 0, _, h, _ => absurd rfl h
  | n + 1, hn, h, d => by
    rw [(dats m 0 c).before_of_pos 5 ⟨n + 1, hn⟩ (Nat.succ_ne_zero n) ((cfg0.win 5).fetch_out rfl _) d]
    rw [show (⟨(⟨n + 1, hn⟩ : Fin cfg0.N).val - 1, Nat.lt_of_le_of_lt (Nat.sub_le _ _) hn⟩ : Fin cfg0.N) = ⟨n, Nat.lt_of_succ_lt hn⟩ from rfl]
    rw [flush5_false ⟨n, Nat.lt_of_succ_lt hn⟩ (by show n % 13 ≠ 12; omega), if_neg Bool.false_ne_true]
    have e : (dats m 0 c).after 5 ⟨n + 1, hn⟩ = (dats m 0 c).after 5 ⟨n, Nat.lt_of_succ_lt hn⟩ := by
      rw [after0_5, after0_5]; show k0_pay1 (hB m c (rowStart (n + 1))) (iblk m c 3 (rowStart (n + 1))) = _; rw [rowStart_succ n h]
    rw [e]; unfold Dat.left; rw [idle5]
    by_cases h0 : n % 13 = 0
    · rw [show (!decide ((⟨n, Nat.lt_of_succ_lt hn⟩ : Fin cfg0.N).val % 13 = 0)) = false by simp [h0]]
      show (dats m 0 c).kept 5 _ d = _
      unfold Dat.kept
      rw [Pipeline.fill_of_clip_none (cfg := cfg0) 5 _ (fun _ => rfl) d ((dats m 0 c).after 5 ⟨n, Nat.lt_of_succ_lt hn⟩), Pipeline.Window.fill_cut]
    · rw [show (!decide ((⟨n, Nat.lt_of_succ_lt hn⟩ : Fin cfg0.N).val % 13 = 0)) = true by simp [h0]]
      exact before0_5 c n _ h0 d

/-! ## The body obligation -/

abbrev ms0_0 (t : Fin cfg0.N) : Memref sig .tc .vmem S1x6x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S512x2048 .f32 := win0_2.stage (cfg0.slots t 2)
abbrev ms0_3 (t : Fin cfg0.N) : Memref sig .tc .vmem S128x2048 .bf16 := win0_3.stage (cfg0.slots t 3)
abbrev ms0_4 (t : Fin cfg0.N) : Memref sig .tc .vmem S2048x512 .bf16 := win0_4.stage (cfg0.slots t 4)
abbrev ms0_5 (t : Fin cfg0.N) : Memref sig .tc .vmem S2048x128 .f32 := win0_5.stage (cfg0.slots t 5)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves2 (c : Dev nD) (t : Fin cfg0.N) : (dats m 0 c).leavesExact 2 t = owns (c : Thread nD τ) (ms0_2 t) fullShare (X0_2 m c t) := by
  unfold Dat.leavesExact; rw [show cfg0.idle 2 (cfg0.grid.coords t) = false from rfl, after0_2]
theorem leaves3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves4 (c : Dev nD) (t : Fin cfg0.N) : (dats m 0 c).leavesExact 4 t
    = owns (c : Thread nD τ) (ms0_4 t) fullShare (k0_pay2 (hB m c (rowStart t.val)) (X0_2 m c t)) := by
  unfold Dat.leavesExact; rw [show cfg0.idle 4 (cfg0.grid.coords t) = false from rfl, after0_4]
theorem leaves5_first (c : Dev nD) (t : Fin cfg0.N) (h : t.val % 13 = 0) : (dats m 0 c).leavesExact 5 t
    = owns (c : Thread nD τ) (ms0_5 t) fullShare (k0_pay1 (hB m c (rowStart t.val)) (iblk m c 3 (rowStart t.val))) := by
  unfold Dat.leavesExact; rw [idle5, show (!decide (t.val % 13 = 0)) = false by simp [h], after0_5]
theorem leaves5_later (c : Dev nD) (t : Fin cfg0.N) (h : t.val % 13 ≠ 0) (d) :
    owns (c : Thread nD τ) (ms0_5 t) fullShare ((dats m 0 c).before 5 t d) ⊢ (dats m 0 c).leavesExact 5 t := by
  have hi : cfg0.idle 5 (cfg0.grid.coords t) = true := by rw [idle5]; simp [h]
  by_cases hf : t.val % 13 = 12
  · rw [before0_5 m c t.val t.isLt h d]
    unfold Dat.leavesExact; rw [hi, (flush0_5 t).mpr hf]
  · rw [(dats m 0 c).leavesExact_idle 5 t hi (flush5_false t hf)]
    exact exists_intro (Φ := fun d => owns (c : Thread nD τ) (ms0_5 t) fullShare ((dats m 0 c).before 5 t d)) d

set_option maxHeartbeats 3200000 in
/-- The body at any point takes the invariant and the windows' buffers to the next point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [PhiR_castSucc m c t, PhiR_succ m c t, leaves0, leaves1, leaves2, leaves3, leaves4]
  unfold Dat.owesAt Pipeline.owesWithin
  rw [show (dats m 0 c).owed t.castSucc = 0 from rfl, show (dats m 0 c).owed t.succ = 0 from rfl]
  unfold PhiR
  have hN : t.val < 104 := lt_of_lt_of_eq t.isLt (show cfg0.N = 104 from N_0)
  by_cases h0 : t.val % 13 = 0
  · rw [if_pos h0, if_neg (show ¬(t.val + 1) % 13 = 0 by omega), rowStart_succ t.val (by omega), rowStart_eq t h0, leaves5_first m c t h0, rowStart_eq t h0]
    rw [show (t.val + 12) / 13 = t.val / 13 by omega, show (t.val + 1 + 12) / 13 = t.val / 13 + 1 by omega]
    unfold copies
    by_cases h1 : t.val < 13
    · rw [if_pos (show t.val / 13 = 0 ∨ 8 ≤ t.val / 13 by omega), if_neg (show ¬(t.val / 13 + 1 = 0 ∨ 8 ≤ t.val / 13 + 1) by omega)]
      rw [show t.val / 13 + 1 + 1 = t.val / 13 + 2 from rfl, allP_two]
      rw [show (allP c (V m c main_arg0) 0 : sProp 𝕄) = allP c (V m c main_arg0) (t.val / 13) by rw [show t.val / 13 = 0 by omega],
        show (allP c (V m c main_arg0) 1 : sProp 𝕄) = allP c (V m c main_arg0) (t.val / 13 + 1) by rw [show t.val / 13 = 0 by omega]]
      iintro ⟨⟨HS0, Hg, ⟨Hc, ⟨%f, Hsl⟩, Ha, Hb⟩⟩, ⟨%W, -, HW⟩, ⟨%d0, H0⟩, ⟨%d1, H1⟩, ⟨%d2, H2⟩, ⟨%d3, H3⟩, ⟨%d4, H4⟩, ⟨%d5, H5⟩⟩
      iapply (run_open c t _ _ _ _ _ _ _ _ _ _ _ _ ((first_iff t).mpr h0) ((opening_iff t).mpr h1) ((ahead_iff t).mpr (by omega)) (iblk m c 0 t) (iblk m c 1 t) (X0_2 m c t) (iblk m c 3 t) (V m c main_arg0) f W _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [Hc]; · iexact Hc
      isplitl [Hsl]; · iexact Hsl
      isplitl [Ha]; · iexact Ha
      isplitl [Hb]; · iexact Hb
      isplitl [HW]; · iexact HW
      iintro ⟨H0, H1, H2, H3, H4, H5, HS0, Hf, Hr, Ha, ⟨%W', HW'⟩⟩
      isplitl [HS0 Hg Hf Hr Ha]
      · isplitl [HS0]; · iexact HS0
        isplitl [Hg]; · iexact Hg
        isplitl [Hf]; · iexact Hf
        isplitl [Hr]; · iexact Hr
        iexact Ha
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5
    · rw [if_neg (show ¬(t.val / 13 = 0 ∨ 8 ≤ t.val / 13) by omega)]
      by_cases h2 : t.val < 91
      · rw [if_neg (show ¬(t.val / 13 + 1 = 0 ∨ 8 ≤ t.val / 13 + 1) by omega)]
        rw [show t.val / 13 + 1 + 1 = t.val / 13 + 2 from rfl, allP_two]
        iintro ⟨⟨HS0, Hg, ⟨⟨%f, Hf⟩, Hr, Ha⟩⟩, ⟨%W, -, HW⟩, ⟨%d0, H0⟩, ⟨%d1, H1⟩, ⟨%d2, H2⟩, ⟨%d3, H3⟩, ⟨%d4, H4⟩, ⟨%d5, H5⟩⟩
        iapply (run_first c t _ _ _ _ _ _ _ _ _ _ _ _ ((first_iff t).mpr h0) (fun h => h1 ((opening_iff t).mp h)) ((ahead_iff t).mpr h2) (iblk m c 0 t) (iblk m c 1 t) (X0_2 m c t) (iblk m c 3 t) (V m c main_arg0) f W _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [Hf]; · iexact Hf
        isplitl [Hr]; · iexact Hr
        isplitl [Ha]; · iexact Ha
        isplitl [HW]; · iexact HW
        iintro ⟨H0, H1, H2, H3, H4, H5, HS0, Hf, Hr, Ha, ⟨%W', HW'⟩⟩
        isplitl [HS0 Hg Hf Hr Ha]
        · isplitl [HS0]; · iexact HS0
          isplitl [Hg]; · iexact Hg
          isplitl [Hf]; · iexact Hf
          isplitl [Hr]; · iexact Hr
          iexact Ha
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexact H5
      · rw [if_pos (show (t.val / 13 + 1 = 0 ∨ 8 ≤ t.val / 13 + 1) by omega)]
        rw [show (allP c (V m c main_arg0) 0 : sProp 𝕄) = allP c (V m c main_arg0) (t.val / 13 + 1) by rw [show t.val / 13 = 7 by omega],
          show (allP c (V m c main_arg0) 1 : sProp 𝕄) = allP c (V m c main_arg0) (t.val / 13) by rw [show t.val / 13 = 7 by omega]]
        iintro ⟨⟨HS0, Hg, ⟨⟨%f, Hf⟩, Hr, Hb⟩⟩, ⟨%W, -, HW⟩, ⟨%d0, H0⟩, ⟨%d1, H1⟩, ⟨%d2, H2⟩, ⟨%d3, H3⟩, ⟨%d4, H4⟩, ⟨%d5, H5⟩⟩
        iapply (run_last c t _ _ _ _ _ _ _ _ _ _ _ _ ((first_iff t).mpr h0) (fun h => h1 ((opening_iff t).mp h)) (fun h => h2 ((ahead_iff t).mp h)) (iblk m c 0 t) (iblk m c 1 t) (X0_2 m c t) (iblk m c 3 t) (V m c main_arg0) f W _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [Hf]; · iexact Hf
        isplitl [Hr]; · iexact Hr
        isplitl [HW]; · iexact HW
        iintro ⟨H0, H1, H2, H3, H4, H5, HS0, Hc, Hsl, Ha, ⟨%W', HW'⟩⟩
        isplitl [HS0 Hg Hc Hsl Ha Hb]
        · isplitl [HS0]; · iexact HS0
          isplitl [Hg]; · iexact Hg
          isplitl [Hc]; · iexact Hc
          isplitl [Hsl]; · iexact Hsl
          isplitl [Hb]; · iexact Hb
          iexact Ha
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexact H5
  · rw [if_neg h0, show (t.val + 1 + 12) / 13 = (t.val + 12) / 13 by omega]
    have hk : owns (c : Thread nD τ) hM fullShare (hB m c (rowStart t.val))
        ⊢ (if (t.val + 1) % 13 = 0 then iprop(∃ d, owns (c : Thread nD τ) hM fullShare d) else owns (c : Thread nD τ) hM fullShare (hB m c (rowStart (t.val + 1))) : sProp 𝕄) := by
      by_cases h3 : (t.val + 1) % 13 = 0
      · rw [if_pos h3]; exact exists_intro (Φ := fun d => owns (c : Thread nD τ) hM fullShare d) _
      · rw [if_neg h3, rowStart_succ t.val h3]
    iintro ⟨⟨HS0, Hg, HR⟩, ⟨%W, -, HW⟩, ⟨%d0, H0⟩, ⟨%d1, H1⟩, ⟨%d2, H2⟩, ⟨%d3, H3⟩, ⟨%d4, H4⟩, ⟨%d5, H5⟩⟩
    iapply (run_later c t _ _ _ _ _ _ _ _ _ _ _ _ (fun h => h0 ((first_iff t).mp h)) (X0_2 m c t) (hB m c (rowStart t.val)) W _)
    isplitl [H2]; · iexact H2
    isplitl [H4]; · iexists _; iexact H4
    isplitl [HS0]; · iexact HS0
    isplitl [HW]; · iexact HW
    iintro ⟨H2, H4, HS0, ⟨%W', HW'⟩⟩
    isplitl [HS0 Hg HR]
    · isplitl [HS0]
      · iapply hk
        iexact HS0
      isplitl [Hg]; · iexact Hg
      iexact HR
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iapply (leaves5_later m c t h0 d5)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

abbrev osem0 : Fin 1 → SemLoc sig := fun j => (![SemLoc.dma 10] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0) := by
  rw [Pipeline.ownSems0_eq_of_list c osem0 [0] (by decide) (by decide)]; rfl
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄) = iprop(((c : Thread nD τ).loc main_arg0) ↦{fullShare} V m c main_arg0) := by
  rw [BI.bigSep_eq_bigSepL_of_eq [main_arg0] (by decide) (by decide)]; rfl
/-- What the launch hands the region, part by part. -/
theorem PhiD0_eq (c : Dev nD) :
    (Pipeline.ΦD osem0 spec0 H0 (V m) c : sProp 𝕄)
      = iprop(iprop((∃ d, owns (c : Thread nD τ) hM fullShare d) ∗ (∃ d, owns (c : Thread nD τ) xM fullShare d)) ∗ (∃ r, prngReg c r) ∗ iprop(semVal ((c : Thread nD τ), SemLoc.dma 10) 0) ∗ iprop(((c : Thread nD τ).loc main_arg0) ↦{fullShare} V m c main_arg0)) := by
  rw [Pipeline.ΦD_eq, scopedRest0_eq, ownSems00_eq, hbmPts0_eq]; simp only [hM, xM, owns_whole]; try rfl

theorem halves (c : Dev nD) (R : Rows (F := F) c) : ((((c : Thread nD τ).loc main_arg0) ↦{fullShare} R : sProp 𝕄)) ⊣⊢ iprop(allP c R 0 ∗ allP c R 1) :=
  pointsTo_share (PosShare.mem_left_op_right fullShare)

theorem slot_any (c : Dev nD) : (iprop(∃ d, owns (c : Thread nD τ) xM fullShare d) : sProp 𝕄) ⊣⊢ iprop(∃ f, slotP (F := F) c f) := by
  constructor
  · iintro ⟨%d, H⟩
    unfold owns
    icases H with ⟨%f, -, H⟩
    iexists f; iexact H
  · iintro ⟨%f, H⟩
    iexists _
    unfold owns
    iexists f; isplitr; · ipureintro; rfl
    iexact H

theorem hin (c : Dev nD) : Pipeline.ΦD osem0 spec0 H0 (V m) c ⊢ (dats m 0 c).Φ 0 := by
  rw [PhiD0_eq, show (dats m 0 c).Φ 0 = PhiR m c 0 from rfl]
  unfold PhiR copies
  rw [if_pos (show 0 % 13 = 0 from rfl), if_pos (show (0 + 12) / 13 = 0 ∨ 8 ≤ (0 + 12) / 13 from Or.inl rfl)]
  iintro ⟨⟨HS0, HS1⟩, Hg, Hq, Hh⟩
  isplitl [HS0]; · iexact HS0
  isplitl [Hg]; · iexact Hg
  isplitl [Hq]; · iexact Hq
  isplitl [HS1]
  · iapply (slot_any c).1
    iexact HS1
  iapply (halves c (V m c main_arg0)).1
  iexact Hh
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR copies
  rw [N_0, if_pos (show 104 % 13 = 0 from rfl), if_pos (show (104 + 12) / 13 = 0 ∨ 8 ≤ (104 + 12) / 13 from Or.inr (by decide))]
  iintro ⟨HS0, Hg, Hq, HS1, Ha, Hb⟩
  isplitl [HS0 HS1]
  · isplitl [HS0]; · iexact HS0
    iapply (slot_any c).2
    iexact HS1
  isplitl [Hg]; · iexact Hg
  isplitl [Hq]; · iexact Hq
  iapply (halves c (V m c main_arg0)).2
  isplitl [Ha]; · iexact Ha
  iexact Hb

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

-- the launch theorem's implicit arguments are found by unifying its conclusion with this one
set_option backward.isDefEq.respectTransparency.types false in
/-- Every execution ends with the pipeline's arrays at what the proof data says, every other array as launched, and
    every semaphore at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)

/-- What the arrays end with, alone. -/
theorem run_arrays : θ_run defs (onTc (τ := τ) (main (F := F))) ⟨m, fun _ => 0, ρ⟩ (Pipeline.FramePost cfgs (dats m) 0 (V m)) :=
  (θ_run defs _ _).mono (fun _ h => h.1) (run_main m ρ)

/-- The arguments end unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c))),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c)))⟩, h.2⟩) (run_main m ρ)

end Cert.Kernel2Ideal.Hand

end
-- ==== Proof.InKernel.lean ====
/-  The input projection: what the kernel writes to its two results. -/
module

public import proofs.«01_k».proof.Proof.Norm
public import proofs.«01_k».proof.Proof.InFrame
public import Idealize.ShloMosaic.Lib.Pipeline.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Kernel2Ideal.Hand Cert.Layer

/-! ## One block of rows -/

section
variable (h : Vec Ideal S2048x2048 .bf16) (w : Vec Ideal S512x2048 .f32) (wg : Vec Ideal S128x2048 .bf16)
  (x : Vec Ideal S2048x2048 .f32) (g : Vec Ideal S1x2048 .f32) (sc sh : Vec Ideal S1x1x2048 .f32) (md : Vec Ideal S1x6x2048 .f32)

theorem gate_at (r : Fin 2048) (j : Fin 128) : k0_pay1 (F := Ideal) h wg (ix2 r j) = ∑ l, h (ix2 r l) * wg (ix2 j l) := by
  pointwise [k0_pay1]
theorem column_at (r : Fin 2048) (j : Fin 512) : k0_pay2 (F := Ideal) h w (ix2 r j) = ∑ l, h (ix2 r l) * w (ix2 j l) := by
  pointwise [k0_pay2]
theorem adapt_at (r k : Fin 2048) : k0_pay3 (F := Ideal) x g sc sh (ix2 r k)
    = adapted (fun k => x (ix2 r k)) (fun k => g (ix2 0 k)) (fun k => sc (ix3 0 0 k)) (fun k => sh (ix3 0 0 k)) k := by
  pointwise [k0_pay3, adapted, normed]
theorem scale_at (k : Fin 2048) : scaleRow (F := Ideal) md (ix3 0 0 k) = md (ix3 0 1 k) :=
  View.ld_unit_apply_of md _ _ _ _ _ fun a => by fin_cases a <;> simp
theorem shift_at (k : Fin 2048) : shiftRow (F := Ideal) md (ix3 0 0 k) = md (ix3 0 0 k) :=
  View.ld_unit_apply_of md _ _ _ _ _ fun a => by fin_cases a <;> simp
theorem hOf_at (r k : Fin 2048) : hOf (F := Ideal) x md g (ix2 r k)
    = adapted (fun k => x (ix2 r k)) (fun k => g (ix2 0 k)) (fun k => md (ix3 0 1 k)) (fun k => md (ix3 0 0 k)) k := by
  refine (adapt_at x g (scaleRow md) (shiftRow md) r k).trans ?_
  exact congrArg₂ (fun u v => adapted (fun k => x (ix2 r k)) (fun k => g (ix2 0 k)) u v k)
    (funext fun k => scale_at md k) (funext fun k => shift_at md k)
end

/-! ## The blocks at a point -/

variable (m : (ℓ : Loc nD τ sig) → Buf (Elt Ideal) ℓ)

theorem idx (t : Fin cfg0.N) : (win0_0.index t 0 = t.val / 13 ∧ win0_0.index t 1 = 0 ∧ win0_0.index t 2 = 0)
    ∧ (∀ a, win0_1.index t a = 0) ∧ (win0_2.index t 0 = t.val % 13 ∧ win0_2.index t 1 = 0) ∧ (∀ a, win0_3.index t a = 0)
    ∧ (win0_4.index t 0 = t.val / 13 ∧ win0_4.index t 1 = t.val % 13) ∧ (win0_5.index t 0 = t.val / 13 ∧ win0_5.index t 1 = 0) := by
  revert t; decide +kernel

theorem pt_lt (t : Fin cfg0.N) : t.val < 104 := lt_of_lt_of_eq t.isLt N_0
theorem rows_lt (t : Fin cfg0.N) (r : Fin 2048) : 2048 * (t.val / 13) + r.val < 16384 := by
  have h := pt_lt t
  omega
/-- Row `r` of the block of rows of point `t`, and column `j` of its block of columns. -/
abbrev rowG (t : Fin cfg0.N) (r : Fin 2048) : Fin 16384 := ⟨2048 * (t.val / 13) + r.val, rows_lt t r⟩
abbrev colG (t : Fin cfg0.N) (j : Fin 512) : Fin 6680 := ⟨512 * (t.val % 13) + j.val, by omega⟩

theorem rowStart_row (t : Fin cfg0.N) : (rowStart t.val).val / 13 = t.val / 13 := by
  have h := pt_lt t
  show 13 * (t.val / 13) % 104 / 13 = t.val / 13
  omega

/-- The arguments, as numbers. -/
def argX (c : Dev nD) (r : Fin 16384) (k : Fin 2048) : EReal := (m ((c : Thread nD τ).loc main_arg0) : Vec Ideal S16384x2048 .f32) (ix2 r k)
def argM (c : Dev nD) (b : Fin 8) (o : Fin 6) (k : Fin 2048) : EReal := (m ((c : Thread nD τ).loc main_arg1) : Vec Ideal S8x6x2048 .f32) (ix3 b o k)
def argG (c : Dev nD) (k : Fin 2048) : EReal := (m ((c : Thread nD τ).loc main_arg2) : Vec Ideal S2048 .f32) (ix1 k)
def argW (c : Dev nD) (j : Fin 6680) (k : Fin 2048) : EReal := (m ((c : Thread nD τ).loc main_arg3) : Vec Ideal S6680x2048 .f32) (ix2 j k)
def argE (c : Dev nD) (j : Fin 128) (k : Fin 2048) : EReal := (m ((c : Thread nD τ).loc main_arg4) : Vec Ideal S128x2048 .bf16) (ix2 j k)

theorem gain_at (c : Dev nD) (k : Fin 2048) : (V m c main_v0 : Vec Ideal S1x2048 .f32) (ix2 0 k) = argG m c k := by
  unfold V
  simp only [hostOps0, List.flatten_cons, List.flatten_nil, List.append_nil, List.cons_append, List.nil_append]
  after_results
  unfold argG
  pointwise

variable (c : Dev nD) (t : Fin cfg0.N)

theorem src_at (b : Fin 8) (R : Rows (F := Ideal) c) (r k : Fin 2048) :
    ((srcB b).view.read (Elt Ideal) R : Vec Ideal S2048x2048 .f32) (ix2 r k)
      = (R : Vec Ideal S16384x2048 .f32) (ix2 ⟨2048 * b.val + r.val, by omega⟩ k) :=
  View.ld_unit_apply_of (R : Vec Ideal S16384x2048 .f32) _ _ _ _ _ fun a => by fin_cases a <;> simp

theorem blk_X (r k : Fin 2048) : ((srcB (bk (t.val / 13))).view.read (Elt Ideal) (V m c main_arg0) : Vec Ideal S2048x2048 .f32) (ix2 r k)
    = argX m c (rowG t r) k := by
  have h := pt_lt t
  rw [src_at, V_main_arg0 m c]
  unfold argX
  refine congrArg (m ((c : Thread nD τ).loc main_arg0) : Vec Ideal S16384x2048 .f32) ?_
  have e : 2048 * (bk (t.val / 13)).val = 2048 * (t.val / 13) := by show 2048 * (t.val / 13 % 8) = _; omega
  exact congrArg (fun q => ix2 q k) (Fin.ext (congrArg (· + r.val) e))
theorem blk_M (r : Fin 2048) (o : Fin 6) (k : Fin 2048) : iblk m c 0 t (ix3 0 o k) = argM m c (seqOf (rowG t r)) o k := by
  have hb : (seqOf (rowG t r)).val = t.val / 13 := by
    show (2048 * (t.val / 13) + r.val) / 2048 = t.val / 13
    omega
  unfold argM
  rw [iblk, ← V_main_arg1 m c]
  blk_ext [idx t, hb]
theorem blk_G (k : Fin 2048) : iblk m c 1 t (ix2 0 k) = argG m c k := by
  refine Eq.trans ?_ (gain_at m c k)
  blk_ext [iblk, idx t]
theorem blk_E (j : Fin 128) (k : Fin 2048) : iblk m c 3 t (ix2 j k) = argE m c j k := by
  unfold argE
  rw [iblk, ← V_main_arg4 m c]
  blk_ext [idx t]
theorem blk_W (j : Fin 512) (k : Fin 2048) : X0_2 m c t (ix2 j k) = argW m c (colG t j) k := by
  unfold X0_2 Pipeline.Window.fill
  rw [dif_pos (moved0_2 t _)]
  unfold argW
  rw [iblk, ← V_main_arg3 m c]
  blk_ext [idx t]

/-- The block's adapted norm, in the arguments' numbers. -/
theorem hB_at (r k : Fin 2048) : hB m c t (ix2 r k) = mixInAt (argX m c) (argM m c) (argG m c) (rowG t r) k := by
  refine (hOf_at _ _ _ r k).trans ?_
  exact congrFun (congr (congr (congr (congrArg adapted (funext fun k => blk_X m c t r k)) (funext fun k => blk_G m c t k))
    (funext fun k => blk_M m c t r 1 k)) (funext fun k => blk_M m c t r 0 k)) k

theorem hB_row (r k : Fin 2048) : hB m c (rowStart t.val) (ix2 r k) = mixInAt (argX m c) (argM m c) (argG m c) (rowG t r) k := by
  rw [hB_at]
  exact congrArg (fun q => mixInAt (argX m c) (argM m c) (argG m c) q k) (Fin.ext (congrArg (2048 * · + r.val) (rowStart_row t)))

/-- What point `t` leaves in each result's buffer, in the arguments' numbers. -/
theorem proj_pt (y : S2048x512.Idx) : k0_pay2 (hB m c (rowStart t.val)) (X0_2 m c t) y
    = columnAt (argX m c) (argM m c) (argG m c) (argW m c (colG t (y 1))) (rowG t (y 0)) := by
  have hy : y = ix2 (y 0) (y 1) := by funext a; fin_cases a <;> rfl
  refine (congrArg _ hy).trans ((column_at _ _ (y 0) (y 1)).trans ?_)
  exact Finset.sum_congr rfl fun l _ => congrArg₂ (· * ·) (hB_row m c t (y 0) l) (blk_W m c t (y 1) l)
theorem gate_pt (y : S2048x128.Idx) : k0_pay1 (hB m c (rowStart t.val)) (iblk m c 3 (rowStart t.val)) y
    = columnAt (argX m c) (argM m c) (argG m c) (argE m c (y 1)) (rowG t (y 0)) := by
  have hy : y = ix2 (y 0) (y 1) := by funext a; fin_cases a <;> rfl
  refine (congrArg _ hy).trans ((gate_at _ _ (y 0) (y 1)).trans ?_)
  exact Finset.sum_congr rfl fun l _ => congrArg₂ (· * ·) (hB_row m c t (y 0) l) (blk_E m c (rowStart t.val) (y 1) l)

/-! ## The two results -/

/-- The projected columns. -/
theorem final4 : (dats m 0 c).arrAt 4 cfg0.N
    = fun y => columnAt (argX m c) (argM m c) (argG m c) (argW m c ⟨(y 1).val, lt_trans (show (y 1).val < 6656 from (y 1).isLt) (by decide)⟩) (y 0) := by
  refine (dats m 0 c).arrAt_eq_of_covers 4 _ (by decide +kernel) fun t hf y => ?_
  blk_simp
  rw [after0_4]
  refine (proj_pt m c t y).trans ?_
  congr 1
  · refine congrArg (argW m c) (Fin.ext ?_)
    blk_simp [idx t]
    exact congrArg (· + (y 1).val) (Nat.mul_comm 512 (t.val % 13))
  · refine Fin.ext ?_
    blk_simp [idx t]
    have h : (rowG t (y 0)).val = 2048 * (t.val / 13) + (y 0).val := rfl
    omega
/-- The gates. -/
theorem final5 : (dats m 0 c).arrAt 5 cfg0.N
    = fun y => columnAt (argX m c) (argM m c) (argG m c) (argE m c (y 1)) (y 0) := by
  refine (dats m 0 c).arrAt_eq_of_covers 5 _ (by decide +kernel) fun t hf y => ?_
  blk_simp
  rw [after0_5]
  refine (gate_pt m c t y).trans ?_
  congr 1
  · refine congrArg (argE m c) (Fin.ext ?_)
    blk_simp [idx t]
  · refine Fin.ext ?_
    blk_simp [idx t]
    have h : (rowG t (y 0)).val = 2048 * (t.val / 13) + (y 0).val := rfl
    omega

end Cert.Kernel2Ideal.Value

end
-- ==== Proof.InRef.lean ====
/-  The input projection's reference, read at an index. -/
module

public import proofs.«01_k».proof.Proof.Norm
public import proofs.«01_k».proof.Proof.Gen.Reference2Ideal
public import Idealize.ShloMosaic.Lib.Pipeline.Value
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem Idealize.ShloMosaic.StableHlo

namespace Cert.Reference2Ideal.Value

open Cert.Reference2Ideal Cert.Reference2Ideal.Gen Cert.Layer

/-- The rows by sequence and place. -/
def rowsR (x : FVec Ideal S16384x2048 .f32) : FVec Ideal S8x2048x2048 .f32 :=
  shapeCast S8x2048x2048 x shapeCasts_S16384x2048_S8x2048x2048
/-- The norm of the rows. -/
def normR (y : FVec Ideal S8x2048x2048 .f32) (g : FVec Ideal S2048 .f32) : FVec Ideal S8x2048x2048 .f32 :=
  mulf (mulf y (broadcastInDim S8x2048x2048 ![0, 1, 2] bcast_S8x2048x1_S8x2048x2048_0_1_2
      (Host.rsqrt (addf (Host.divf (broadcastInDim S8x2048x1 ![0, 1] bcast_S8x2048_S8x2048x1_0_1
          (Host.reduceAdd (mulf y y) (constant S_ .f32 0x00000000#32) reducesTo_S8x2048x2048_S8x2048_d2 h_S_))
        (broadcastInDim S8x2048x1 ![] bcast_S_S8x2048x1 (constant S_ .f32 0x45000000#32)))
        (broadcastInDim S8x2048x1 ![] bcast_S_S8x2048x1 (constant S_ .f32 0x358637BD#32))))))
    (broadcastInDim S8x2048x2048 ![0, 1, 2] bcast_S1x1x2048_S8x2048x2048_0_1_2
      (broadcastInDim S1x1x2048 ![2] bcast_S2048_S1x1x2048_2 g))
/-- The norm scaled and shifted. -/
def hiddenR (n : FVec Ideal S8x2048x2048 .f32) (md : FVec Ideal S8x6x2048 .f32) : FVec Ideal S8x2048x2048 .f32 :=
  addf (mulf n (broadcastInDim S8x2048x2048 ![0, 1, 2] bcast_S8x1x2048_S8x2048x2048_0_1_2
      (addf (broadcastInDim S8x1x2048 ![] bcast_S_S8x1x2048 (constant S_ .f32 0x3F800000#32))
        (extractStridedSlice S8x1x2048 ![0, 1, 0] md slices_S8x6x2048_S8x1x2048_0_1_0))))
    (broadcastInDim S8x2048x2048 ![0, 1, 2] bcast_S8x1x2048_S8x2048x2048_0_1_2
      (extractStridedSlice S8x1x2048 ![0, 0, 0] md slices_S8x6x2048_S8x1x2048_0_0_0))
/-- The columns of the first 6656 rows of the weights, by sequence and place. -/
def columnsR (h : FVec Ideal S8x2048x2048 .f32) (w : FVec Ideal S6680x2048 .f32) : FVec Ideal S8x2048x6656 .f32 :=
  Host.dotGeneral dot_S8x2048x2048_S6656x2048_S8x2048x6656_2_1_01_0_n_n none h
    (extractStridedSlice S6656x2048 ![0, 0] w slices_S6680x2048_S6656x2048_0_0)
/-- The gates' columns, by sequence and place. -/
def gatesR (h : FVec Ideal S8x2048x2048 .f32) (w : FVec Ideal S128x2048 .bf16) : FVec Ideal S8x2048x128 .f32 :=
  Host.dotGeneral dot_S8x2048x2048_S128x2048_S8x2048x128_2_1_01_0_n_n none h (extf .f32 w bitsLt_bf16_f32)

section
variable (x : FVec Ideal S16384x2048 .f32) (md : FVec Ideal S8x6x2048 .f32) (g : FVec Ideal S2048 .f32)
  (w : FVec Ideal S6680x2048 .f32) (wg : FVec Ideal S128x2048 .bf16)

theorem rowsR_at (r : Fin 16384) (k : Fin 2048) : rowsR x (ix3 (seqOf r) (posOf r) k) = x (ix2 r k) := by
  pointwise [rowsR]
  blk_ext []
theorem flat_at (y : FVec Ideal S8x2048x6656 .f32) (r : Fin 16384) (j : Fin 6656) :
    (shapeCast S16384x6656 y shapeCasts_S8x2048x6656_S16384x6656 : FVec Ideal S16384x6656 .f32) (ix2 r j) = y (ix3 (seqOf r) (posOf r) j) := by
  pointwise
  blk_ext []
theorem flatG_at (y : FVec Ideal S8x2048x128 .f32) (r : Fin 16384) (j : Fin 128) :
    (shapeCast S16384x128 y shapeCasts_S8x2048x128_S16384x128 : FVec Ideal S16384x128 .f32) (ix2 r j) = y (ix3 (seqOf r) (posOf r) j) := by
  pointwise
  blk_ext []
theorem normR_at (y : FVec Ideal S8x2048x2048 .f32) (s : Fin 8) (t k : Fin 2048) :
    normR y g (ix3 s t k) = normed (fun k => y (ix3 s t k)) (fun k => g (ix1 k)) k := by
  pointwise [normR, normed]
theorem hiddenR_at (n : FVec Ideal S8x2048x2048 .f32) (s : Fin 8) (t k : Fin 2048) :
    hiddenR n md (ix3 s t k) = n (ix3 s t k) * (1 + md (ix3 s 1 k)) + md (ix3 s 0 k) := by
  pointwise [hiddenR]
theorem columnsR_at (h : FVec Ideal S8x2048x2048 .f32) (s : Fin 8) (t : Fin 2048) (j : Fin 6656) :
    columnsR h w (ix3 s t j) = ∑ l, h (ix3 s t l) * w (ix2 ⟨j.val, by omega⟩ l) := by
  pointwise [columnsR]
theorem gatesR_at (h : FVec Ideal S8x2048x2048 .f32) (s : Fin 8) (t : Fin 2048) (j : Fin 128) :
    gatesR h wg (ix3 s t j) = ∑ l, h (ix3 s t l) * wg (ix2 j l) := by
  pointwise [gatesR]

/-- The arguments, as numbers. -/
def nX (r : Fin 16384) (k : Fin 2048) : EReal := x (ix2 r k)
def nM (b : Fin 8) (o : Fin 6) (k : Fin 2048) : EReal := md (ix3 b o k)
def nG (k : Fin 2048) : EReal := g (ix1 k)
def nW (j : Fin 6680) (k : Fin 2048) : EReal := w (ix2 j k)
def nE (j : Fin 128) (k : Fin 2048) : EReal := wg (ix2 j k)

/-- The adapted rows. -/
def mixIn : FVec Ideal S8x2048x2048 .f32 := hiddenR (normR (rowsR x) g) md
/-- The reference's two results. -/
def res1 : FVec Ideal S16384x6656 .bf16 :=
  truncf .bf16 (shapeCast S16384x6656 (columnsR (mixIn x md g) w) shapeCasts_S8x2048x6656_S16384x6656) bitsLt_bf16_f32
def res2 : FVec Ideal S16384x128 .f32 := shapeCast S16384x128 (gatesR (mixIn x md g) wg) shapeCasts_S8x2048x128_S16384x128

theorem mixIn_at (r : Fin 16384) (k : Fin 2048) :
    mixIn x md g (ix3 (seqOf r) (posOf r) k) = mixInAt (nX x) (nM md) (nG g) r k := by
  unfold mixIn
  rw [hiddenR_at, normR_at]
  simp only [rowsR_at]
  rfl
theorem res1_at (r : Fin 16384) (j : Fin 6656) :
    res1 x md g w (ix2 r j) = columnAt (nX x) (nM md) (nG g) (nW w ⟨j.val, by omega⟩) r := by
  refine (flat_at (columnsR (mixIn x md g) w) r j).trans ?_
  rw [columnsR_at]
  simp only [mixIn_at]
  rfl
theorem res2_at (r : Fin 16384) (j : Fin 128) :
    res2 x md g wg (ix2 r j) = columnAt (nX x) (nM md) (nG g) (nE wg j) r := by
  unfold res2
  rw [flatG_at, gatesR_at]
  simp only [mixIn_at]
  rfl
end

end Cert.Reference2Ideal.Value

end
-- ==== Proof.Inproj.lean ====
/-  The input projection: kernel and reference end with the same two results. -/
module

public import proofs.«01_k».proof.Defs
public import proofs.«01_k».proof.Proof.InKernel
public import proofs.«01_k».proof.Proof.InRef
public import proofs.«01_k».proof.Proof.Gen.Kernel2
public import Idealize.ShloMosaic.Adequacy
public import Idealize.ShloMosaic.Lib.Claim

@[expose] public section

set_option maxRecDepth 16384

noncomputable section

namespace Cert.Inproj

open Idealize.ShloMosaic Idealize.ShloMosaic.TcCoe Idealize.ShloMosaic.Tactic Idealize.SL.Sem Idealize.ShloMosaic.StableHlo

section
open Cert.Kernel2Ideal Cert.Kernel2Ideal.Gen Cert.Kernel2Ideal.Hand Cert.Kernel2Ideal.Value Cert.Reference2Ideal.Value
variable (m : (ℓ : Loc nD τ sig) → Buf (Elt Ideal) ℓ) (c : Dev nD)

/-- The reference's two results, of the kernel's arguments, are what the kernel's two windows end with. -/
theorem meet1 : (res1 (m (c.tc.loc main_arg0)) (m (c.tc.loc main_arg1)) (m (c.tc.loc main_arg2)) (m (c.tc.loc main_arg3))
    : FVec Ideal S16384x6656 .bf16) = (dats m 0 c).arrAt 4 cfg0.N := by
  refine Eq.trans ?_ (final4 m c).symm
  funext y
  have hy : y = ix2 (y 0) (y 1) := by funext a; fin_cases a <;> rfl
  exact (congrArg _ hy).trans (res1_at _ _ _ _ (y 0) (y 1))
theorem meet2 : (res2 (m (c.tc.loc main_arg0)) (m (c.tc.loc main_arg1)) (m (c.tc.loc main_arg2)) (m (c.tc.loc main_arg4))
    : FVec Ideal S16384x128 .f32) = (dats m 0 c).arrAt 5 cfg0.N := by
  refine Eq.trans ?_ (final5 m c).symm
  funext y
  have hy : y = ix2 (y 0) (y 1) := by funext a; fin_cases a <;> rfl
  exact (congrArg _ hy).trans (res2_at _ _ _ _ (y 0) (y 1))
end

set_option maxHeartbeats 1600000 in
/-- The two programs, idealized, compute the same two arrays from the same arguments. -/
theorem algebraic : Cert.algebraic_Kernel2Ideal_Reference2Ideal := by
  pair_intro
  · run_from Cert.Kernel2Ideal.Hand.run_arrays m g
  · hlo_run
    · exact meet1 m c
    · exact meet2 m c

/-- The kernel ends with its arguments unchanged and every counter at zero, idealized -/
theorem frame_ideal : Cert.quiescent_Kernel2Ideal := fun m g _ => Cert.Kernel2Ideal.Hand.frame_run m g

/-- The kernel's body table, on words, is the idealized program's: the two programs are one text. -/
theorem bodies_same : Cert.Kernel2.defs₀ (F := Bits) = Cert.Kernel2Ideal.defs₀ (F := Bits) := by
  unfold Cert.Kernel2.defs₀ Cert.Kernel2Ideal.defs₀
  refine congrArg (Defs.onTc (τ := Cert.Kernel2Ideal.τ)) (funext fun ℓ => funext fun a => ?_)
  match ℓ, a with
  | 0, (t, s) => rfl
theorem table_same : Cert.Kernel2.defs (F := Bits) = Cert.Kernel2Ideal.defs (F := Bits) :=
  congrArg (Pipeline.defs Cert.Kernel2Ideal.pcfgs) bodies_same

set_option maxHeartbeats 1600000 in
/-- and as it runs on words. -/
theorem frame_kernel : Cert.quiescent_Kernel2 := fun m g _ => by
  have h := Cert.Kernel2Ideal.Hand.frame_run (F := Bits) m g
  rw [← table_same] at h
  exact h

set_option maxHeartbeats 1600000 in
/-- The reference ends with its arguments unchanged and every counter at zero. -/
theorem frame_reference : Cert.quiescent_Reference2Ideal := by
  intro m g _
  hlo_run
  · exact fun _ => ⟨trivial, trivial, trivial, trivial, trivial⟩
  · clear hc
    exact sem_eq_zero_of_no_sems rfl _

end Cert.Inproj

end
-- ==== Proof.OutKernel.lean ====
/-  The output projection: what the kernel writes to its three results. -/
module

public import proofs.«01_k».proof.Proof.Norm
public import proofs.«01_k».proof.Proof.Gen.Kernel3Ideal.Frame
public import Idealize.ShloMosaic.Lib.Pipeline.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Layer

/-! ## One block of rows -/

section
variable (a b : Vec Ideal S512x1024 .bf16) (w w' : Vec Ideal S1024x2048 .f32) (x : Vec Ideal S512x2048 .f32)
  (gt sc sh : Vec Ideal S1x1x2048 .f32) (g : Vec Ideal S1x2048 .f32) (wr : Vec Ideal S128x2048 .bf16)

theorem stream_at (r : Fin 512) (k : Fin 2048) : k0_pay3 (F := Ideal) a w b w' x gt (ix2 r k)
    = x (ix2 r k) + gt (ix3 0 0 k) * ((∑ l, a (ix2 r l) * w (ix2 l k)) + ∑ l, b (ix2 r l) * w' (ix2 l k)) := by
  pointwise [k0_pay3]

/-- The norm of a block of rows. -/
def normV (y : FVec Ideal S512x2048 .f32) : FVec Ideal S512x2048 .f32 :=
  mulf (mulf y (broadcastTo S512x2048 (rsqrt (addf (divf (shapeCast S512x1 (multiReduction .add [1] S512 (mulf y y)
    0x00000000#32 reduces_S512x2048_S512 (.inl rfl) rfl) shapeCasts_S512_S512x1) (broadcast S512x1 (Scalar.ofBits .f32 0x45000000#32)))
    (broadcast S512x1 (Scalar.ofBits .f32 0x358637BD#32)))) broadcasts_S512x1_S512x2048))
    (broadcastTo S512x2048 (shapeCast S1x2048 g shapeCasts_S1x2048_S1x2048) broadcasts_S1x2048_S512x2048)

theorem norm_eq : k0_pay4 (F := Ideal) a w b w' x gt g = normV g (k0_pay3 a w b w' x gt) := rfl

theorem normV_at (y : FVec Ideal S512x2048 .f32) (r : Fin 512) (k : Fin 2048) :
    normV g y (ix2 r k) = normed (fun k => y (ix2 r k)) (fun k => g (ix2 0 k)) k := by
  pointwise [normV, normed]

theorem adapted_at (y : FVec Ideal S512x2048 .f32) (r : Fin 512) (k : Fin 2048) :
    k0_pay1 (F := Ideal) (normV g y) (k0_pay5 sc) (Scalar.ofBits .f32 0x3F800000#32) sh (ix2 r k)
      = adapted (fun k => y (ix2 r k)) (fun k => g (ix2 0 k)) (fun k => sc (ix3 0 0 k)) (fun k => sh (ix3 0 0 k)) k := by
  unfold adapted
  rw [← normV_at]
  generalize normV g y = z
  pointwise [k0_pay1, k0_pay5]

theorem logits_at (u : FVec Ideal S512x2048 .f32) (v : FVec Ideal S1x2048 .f32) (k : Ideal .f32) (e : Fin 128) (r : Fin 512) :
    k0_pay2 (F := Ideal) u v k sh wr (ix2 e r) = ∑ l, wr (ix2 e l) * k0_pay1 (F := Ideal) u v k sh (ix2 r l) := by
  unfold k0_pay2
  generalize k0_pay1 (F := Ideal) u v k sh = z
  pointwise
end

/-! ## The blocks at a point -/

variable (m : (ℓ : Loc nD τ sig) → Buf (Elt Ideal) ℓ)

theorem idx (t : Fin cfg0.N) : (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val / 4 ∧ win0_3.index t 1 = 0 ∧ win0_3.index t 2 = 0) ∧ (∀ a, win0_4.index t a = 0)
    ∧ (∀ a, win0_5.index t a = 0) ∧ (∀ a, win0_6.index t a = 0) ∧ (win0_7.index t 0 = t.val ∧ win0_7.index t 1 = 0)
    ∧ (win0_8.index t 0 = t.val ∧ win0_8.index t 1 = 0) ∧ (win0_9.index t 0 = 0 ∧ win0_9.index t 1 = t.val) := by
  revert t; decide +kernel

theorem rows_lt (t : Fin cfg0.N) (r : Fin 512) : 512 * t.val + r.val < 16384 := by
  have h : t.val < 32 := lt_of_lt_of_eq t.isLt N_0
  omega
/-- Row `r` of the block of rows of point `t`. -/
abbrev rowG (t : Fin cfg0.N) (r : Fin 512) : Fin 16384 := ⟨512 * t.val + r.val, rows_lt t r⟩

/-- The arguments, as numbers. -/
def argA (c : Dev nD) (r : Fin 16384) (k : Fin 1024) : EReal := (m ((c : Thread nD τ).loc main_arg0) : Vec Ideal S16384x1024 .bf16) (ix2 r k)
def argB (c : Dev nD) (r : Fin 16384) (k : Fin 1024) : EReal := (m ((c : Thread nD τ).loc main_arg1) : Vec Ideal S16384x1024 .bf16) (ix2 r k)
def argX (c : Dev nD) (r : Fin 16384) (k : Fin 2048) : EReal := (m ((c : Thread nD τ).loc main_arg2) : Vec Ideal S16384x2048 .f32) (ix2 r k)
def argM (c : Dev nD) (b : Fin 8) (o : Fin 6) (k : Fin 2048) : EReal := (m ((c : Thread nD τ).loc main_arg3) : Vec Ideal S8x6x2048 .f32) (ix3 b o k)
def argG (c : Dev nD) (k : Fin 2048) : EReal := (m ((c : Thread nD τ).loc main_arg4) : Vec Ideal S2048 .f32) (ix1 k)
def argW (c : Dev nD) (l k : Fin 2048) : EReal := (m ((c : Thread nD τ).loc main_arg5) : Vec Ideal S2048x2048 .f32) (ix2 l k)
def argR (c : Dev nD) (e : Fin 128) (k : Fin 2048) : EReal := (m ((c : Thread nD τ).loc main_arg6) : Vec Ideal S128x2048 .bf16) (ix2 e k)

theorem gain_at (c : Dev nD) (k : Fin 2048) : (V m c main_v0 : Vec Ideal S1x2048 .f32) (ix2 0 k) = argG m c k := by
  unfold V
  simp only [hostOps0, List.flatten_cons, List.flatten_nil, List.append_nil, List.cons_append, List.nil_append]
  after_results
  unfold argG
  pointwise

variable (c : Dev nD) (t : Fin cfg0.N)

theorem blk_A (r : Fin 512) (k : Fin 1024) : iblk m c 0 t (ix2 r k) = argA m c (rowG t r) k := by
  unfold argA
  rw [iblk, ← V_main_arg0 m c]
  blk_ext [idx t]
theorem blk_B (r : Fin 512) (k : Fin 1024) : iblk m c 1 t (ix2 r k) = argB m c (rowG t r) k := by
  unfold argB
  rw [iblk, ← V_main_arg1 m c]
  blk_ext [idx t]
theorem blk_X (r : Fin 512) (k : Fin 2048) : iblk m c 2 t (ix2 r k) = argX m c (rowG t r) k := by
  unfold argX
  rw [iblk, ← V_main_arg2 m c]
  blk_ext [idx t]
theorem blk_M (r : Fin 512) (o : Fin 6) (k : Fin 2048) : iblk m c 3 t (ix3 0 o k) = argM m c (seqOf (rowG t r)) o k := by
  have hb : (seqOf (rowG t r)).val = t.val / 4 := by
    show (512 * t.val + r.val) / 2048 = t.val / 4
    omega
  unfold argM
  rw [iblk, ← V_main_arg3 m c]
  blk_ext [idx t, hb]
theorem blk_G (k : Fin 2048) : iblk m c 4 t (ix2 0 k) = argG m c k := by
  refine Eq.trans ?_ (gain_at m c k)
  blk_ext [iblk, idx t]
theorem blk_W (l k : Fin 2048) : iblk m c 5 t (ix2 l k) = argW m c l k := by
  unfold argW
  rw [iblk, ← V_main_arg5 m c]
  blk_ext [idx t]
theorem blk_R (e : Fin 128) (k : Fin 2048) : iblk m c 6 t (ix2 e k) = argR m c e k := by
  unfold argR
  rw [iblk, ← V_main_arg6 m c]
  blk_ext [idx t]

/-! ## What a point writes -/

theorem zero2 : (![0, 0] : Fin 2 → ℕ) = fun _ => 0 := by decide

theorem ld_W1 (x : Vec Ideal S2048x2048 .f32) (l : Fin 1024) (k : Fin 2048) :
    View.ld x r0_1 (ix2 l k) = x (ix2 ⟨l.val, by omega⟩ k) :=
  View.ld_unit_apply_of x _ _ _ _ _ fun a => by fin_cases a <;> simp
theorem ld_W2 (x : Vec Ideal S2048x2048 .f32) (l : Fin 1024) (k : Fin 2048) :
    View.ld x r0_2 (ix2 l k) = x (ix2 ⟨1024 + l.val, by omega⟩ k) :=
  View.ld_unit_apply_of x _ _ _ _ _ fun a => by fin_cases a <;> simp
theorem ld_M2 (x : Vec Ideal S1x6x2048 .f32) (k : Fin 2048) : View.ld x r0_4 (ix3 0 0 k) = x (ix3 0 2 k) :=
  View.ld_unit_apply_of x _ _ _ _ _ fun a => by fin_cases a <;> simp
theorem ld_M4 (x : Vec Ideal S1x6x2048 .f32) (k : Fin 2048) : View.ld x r0_6 (ix3 0 0 k) = x (ix3 0 4 k) :=
  View.ld_unit_apply_of x _ _ _ _ _ fun a => by fin_cases a <;> simp
theorem ld_M3 (x : Vec Ideal S1x6x2048 .f32) (k : Fin 2048) : View.ld x r0_7 (ix3 0 0 k) = x (ix3 0 3 k) :=
  View.ld_unit_apply_of x _ _ _ _ _ fun a => by fin_cases a <;> simp
theorem ld_0 (x : Vec Ideal S512x1024 .bf16) : View.ld x r0_0 = x := View.ld_unit_zero zero2 _ _
theorem ld_3 (x : Vec Ideal S512x2048 .f32) : View.ld x r0_3 = x := View.ld_unit_zero zero2 _ _
theorem ld_5 (x : Vec Ideal S1x2048 .f32) : View.ld x r0_5 = x := View.ld_unit_zero zero2 _ _
theorem ld_8 (x : Vec Ideal S128x2048 .bf16) : View.ld x r0_8 = x := View.ld_unit_zero zero2 _ _

section
variable (a b : Vec Ideal S512x1024 .bf16) (x : Vec Ideal S512x2048 .f32) (md : Vec Ideal S1x6x2048 .f32)
  (g : Vec Ideal S1x2048 .f32) (w : Vec Ideal S2048x2048 .f32) (wr : Vec Ideal S128x2048 .bf16)

/-- The block of the stream that a point makes. -/
def streamB : FVec Ideal S512x2048 .f32 :=
  k0_pay3 (View.ld a r0_0) (View.ld w r0_1) (View.ld b r0_0) (View.ld w r0_2) (View.ld x r0_3) (View.ld md r0_4)
/-- The block of the experts' input. -/
def hiddenB : FVec Ideal S512x2048 .f32 :=
  k0_pay1 (normV (View.ld g r0_5) (streamB a b x md w)) (k0_pay5 (View.ld md r0_6)) (Scalar.ofBits .f32 0x3F800000#32)
    (View.ld md r0_7)
/-- The block of the logits. -/
def logitB : FVec Ideal S128x512 .f32 :=
  k0_pay2 (normV (View.ld g r0_5) (streamB a b x md w)) (k0_pay5 (View.ld md r0_6)) (Scalar.ofBits .f32 0x3F800000#32)
    (View.ld md r0_7) (View.ld wr r0_8)

theorem out7_eq : out0_7 a b x md g w wr = streamB a b x md w := View.canon_unit_zero zero2 _ _
theorem out8_eq : out0_8 a b x md g w wr = hiddenB a b x md g w := View.canon_unit_zero zero2 _ _
theorem out9_eq : out0_9 a b x md g w wr = logitB a b x md g w wr := View.canon_unit_zero zero2 _ _

theorem streamB_at (r : Fin 512) (k : Fin 2048) : streamB a b x md w (ix2 r k)
    = x (ix2 r k) + md (ix3 0 2 k) * ((∑ l : Fin 1024, a (ix2 r l) * w (ix2 ⟨l.val, by omega⟩ k))
      + ∑ l : Fin 1024, b (ix2 r l) * w (ix2 ⟨1024 + l.val, by omega⟩ k)) := by
  unfold streamB
  rw [stream_at, ld_M2, ld_0, ld_0, ld_3]
  exact congrArg (fun z => x (ix2 r k) + md (ix3 0 2 k) * z) (congrArg₂ (· + ·)
    (Finset.sum_congr rfl fun l _ => congrArg (a (ix2 r l) * ·) (ld_W1 w l k))
    (Finset.sum_congr rfl fun l _ => congrArg (b (ix2 r l) * ·) (ld_W2 w l k)))

theorem hiddenB_at (r : Fin 512) (k : Fin 2048) : hiddenB a b x md g w (ix2 r k)
    = adapted (fun k => streamB a b x md w (ix2 r k)) (fun k => g (ix2 0 k)) (fun k => md (ix3 0 4 k))
      (fun k => md (ix3 0 3 k)) k := by
  unfold hiddenB
  generalize streamB a b x md w = y
  rw [adapted_at, ld_5]
  exact congrArg₂ (fun u v => adapted (fun k => y (ix2 r k)) (fun k => g (ix2 0 k)) u v k)
    (funext fun k => ld_M4 md k) (funext fun k => ld_M3 md k)

theorem logitB_at (e : Fin 128) (r : Fin 512) : logitB a b x md g w wr (ix2 e r)
    = ∑ l, wr (ix2 e l) * hiddenB a b x md g w (ix2 r l) := by
  unfold logitB hiddenB
  rw [logits_at, ld_8]
end

/-- What point `t` writes to each result, in the arguments' numbers. -/
theorem stream_pt (r : Fin 512) (k : Fin 2048) :
    streamB (iblk m c 0 t) (iblk m c 1 t) (iblk m c 2 t) (iblk m c 3 t) (iblk m c 5 t) (ix2 r k)
      = streamAt (argA m c) (argB m c) (argX m c) (argM m c) (argW m c) (rowG t r) k := by
  rw [streamB_at, blk_X, blk_M m c t r 2 k]
  simp only [blk_A, blk_B, blk_W]
  rfl
theorem hidden_pt (r : Fin 512) (k : Fin 2048) :
    hiddenB (iblk m c 0 t) (iblk m c 1 t) (iblk m c 2 t) (iblk m c 3 t) (iblk m c 4 t) (iblk m c 5 t) (ix2 r k)
      = hiddenAt (argA m c) (argB m c) (argX m c) (argM m c) (argG m c) (argW m c) (rowG t r) k := by
  rw [hiddenB_at]
  simp only [stream_pt, blk_M m c t r, blk_G]
  rfl
theorem logit_pt (e : Fin 128) (r : Fin 512) :
    logitB (iblk m c 0 t) (iblk m c 1 t) (iblk m c 2 t) (iblk m c 3 t) (iblk m c 4 t) (iblk m c 5 t) (iblk m c 6 t) (ix2 e r)
      = logitAt (argA m c) (argB m c) (argX m c) (argM m c) (argG m c) (argW m c) (argR m c) e (rowG t r) := by
  rw [logitB_at]
  simp only [hidden_pt, blk_R]
  rfl

theorem stream_pt' (y : S512x2048.Idx) :
    streamB (iblk m c 0 t) (iblk m c 1 t) (iblk m c 2 t) (iblk m c 3 t) (iblk m c 5 t) y
      = streamAt (argA m c) (argB m c) (argX m c) (argM m c) (argW m c) (rowG t (y 0)) (y 1) := by
  have hy : y = ix2 (y 0) (y 1) := by funext a; fin_cases a <;> rfl
  exact (congrArg _ hy).trans (stream_pt m c t (y 0) (y 1))
theorem hidden_pt' (y : S512x2048.Idx) :
    hiddenB (iblk m c 0 t) (iblk m c 1 t) (iblk m c 2 t) (iblk m c 3 t) (iblk m c 4 t) (iblk m c 5 t) y
      = hiddenAt (argA m c) (argB m c) (argX m c) (argM m c) (argG m c) (argW m c) (rowG t (y 0)) (y 1) := by
  have hy : y = ix2 (y 0) (y 1) := by funext a; fin_cases a <;> rfl
  exact (congrArg _ hy).trans (hidden_pt m c t (y 0) (y 1))
theorem logit_pt' (y : S128x512.Idx) :
    logitB (iblk m c 0 t) (iblk m c 1 t) (iblk m c 2 t) (iblk m c 3 t) (iblk m c 4 t) (iblk m c 5 t) (iblk m c 6 t) y
      = logitAt (argA m c) (argB m c) (argX m c) (argM m c) (argG m c) (argW m c) (argR m c) (y 0) (rowG t (y 1)) := by
  have hy : y = ix2 (y 0) (y 1) := by funext a; fin_cases a <;> rfl
  exact (congrArg _ hy).trans (logit_pt m c t (y 0) (y 1))

/-! ## The three results -/

theorem final7 : (dats m 0 c).arrAt 7 cfg0.N
    = fun y => streamAt (argA m c) (argB m c) (argX m c) (argM m c) (argW m c) (y 0) (y 1) := by
  refine (dats m 0 c).arrAt_eq_of_covers 7 _ (by decide +kernel) fun t hf y => ?_
  blk_simp
  rw [after0_7, out7_eq]
  refine (stream_pt' m c t y).trans ?_
  congr 1
  · refine Fin.ext ?_
    blk_simp [idx t]
    have h : (rowG t (y 0)).val = 512 * t.val + (y 0).val := rfl
    omega
  · refine Fin.ext ?_
    blk_simp [idx t]
theorem final8 : (dats m 0 c).arrAt 8 cfg0.N
    = fun y => hiddenAt (argA m c) (argB m c) (argX m c) (argM m c) (argG m c) (argW m c) (y 0) (y 1) := by
  refine (dats m 0 c).arrAt_eq_of_covers 8 _ (by decide +kernel) fun t hf y => ?_
  blk_simp
  rw [after0_8, out8_eq]
  refine (hidden_pt' m c t y).trans ?_
  congr 1
  · refine Fin.ext ?_
    blk_simp [idx t]
    have h : (rowG t (y 0)).val = 512 * t.val + (y 0).val := rfl
    omega
  · refine Fin.ext ?_
    blk_simp [idx t]
theorem final9 : (dats m 0 c).arrAt 9 cfg0.N
    = fun y => logitAt (argA m c) (argB m c) (argX m c) (argM m c) (argG m c) (argW m c) (argR m c) (y 0) (y 1) := by
  refine (dats m 0 c).arrAt_eq_of_covers 9 _ (by decide +kernel) fun t hf y => ?_
  blk_simp
  rw [after0_9, out9_eq]
  refine (logit_pt' m c t y).trans ?_
  congr 1
  · refine Fin.ext ?_
    blk_simp [idx t]
  · refine Fin.ext ?_
    blk_simp [idx t]
    have h : (rowG t (y 1)).val = 512 * t.val + (y 1).val := rfl
    omega

end Cert.Kernel3Ideal.Value

end
-- ==== Proof.OutRef.lean ====
/-  The output projection's reference, read at an index. -/
module

public import proofs.«01_k».proof.Proof.Norm
public import proofs.«01_k».proof.Proof.Gen.Reference3Ideal
public import Idealize.ShloMosaic.Lib.Pipeline.Value
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem Idealize.ShloMosaic.StableHlo

namespace Cert.Reference3Ideal.Value

open Cert.Reference3Ideal Cert.Reference3Ideal.Gen Cert.Layer

/-- The two head groups side by side, by sequence and place. -/
def headsR (a b : FVec Ideal S16384x1024 .bf16) : FVec Ideal S8x2048x2048 .f32 :=
  shapeCast S8x2048x2048 (concatenate S16384x2048 1
    [⟨S16384x1024, extf .f32 a bitsLt_bf16_f32⟩, ⟨S16384x1024, extf .f32 b bitsLt_bf16_f32⟩]
    concatenates_S16384x1024_S16384x1024_S16384x2048_d1) shapeCasts_S16384x2048_S8x2048x2048
/-- The mixing product. -/
def mixR (h : FVec Ideal S8x2048x2048 .f32) (w : FVec Ideal S2048x2048 .f32) : FVec Ideal S8x2048x2048 .f32 :=
  Host.dotGeneral dot_S8x2048x2048_S2048x2048_S8x2048x2048_2_0_01_1_n_n none h w
/-- The stream after the mixing. -/
def streamR (x : FVec Ideal S16384x2048 .f32) (md : FVec Ideal S8x6x2048 .f32) (mix : FVec Ideal S8x2048x2048 .f32) :
    FVec Ideal S8x2048x2048 .f32 :=
  addf (shapeCast S8x2048x2048 x shapeCasts_S16384x2048_S8x2048x2048)
    (mulf (broadcastInDim S8x2048x2048 ![0, 1, 2] bcast_S8x1x2048_S8x2048x2048_0_1_2
      (extractStridedSlice S8x1x2048 ![0, 2, 0] md slices_S8x6x2048_S8x1x2048_0_2_0)) mix)
/-- The norm of the rows. -/
def normR (y : FVec Ideal S8x2048x2048 .f32) (g : FVec Ideal S2048 .f32) : FVec Ideal S8x2048x2048 .f32 :=
  mulf (mulf y (broadcastInDim S8x2048x2048 ![0, 1, 2] bcast_S8x2048x1_S8x2048x2048_0_1_2
      (Host.rsqrt (addf (Host.divf (broadcastInDim S8x2048x1 ![0, 1] bcast_S8x2048_S8x2048x1_0_1
          (Host.reduceAdd (mulf y y) (constant S_ .f32 0x00000000#32) reducesTo_S8x2048x2048_S8x2048_d2 h_S_))
        (broadcastInDim S8x2048x1 ![] bcast_S_S8x2048x1 (constant S_ .f32 0x45000000#32)))
        (broadcastInDim S8x2048x1 ![] bcast_S_S8x2048x1 (constant S_ .f32 0x358637BD#32))))))
    (broadcastInDim S8x2048x2048 ![0, 1, 2] bcast_S1x1x2048_S8x2048x2048_0_1_2
      (broadcastInDim S1x1x2048 ![2] bcast_S2048_S1x1x2048_2 g))
/-- The rows of all sequences, one below the other. -/
def flatR (y : FVec Ideal S8x2048x2048 .f32) : FVec Ideal S16384x2048 .f32 :=
  shapeCast S16384x2048 y shapeCasts_S8x2048x2048_S16384x2048
/-- The norm scaled and shifted. -/
def hiddenR (n : FVec Ideal S8x2048x2048 .f32) (md : FVec Ideal S8x6x2048 .f32) : FVec Ideal S8x2048x2048 .f32 :=
  addf (mulf n (broadcastInDim S8x2048x2048 ![0, 1, 2] bcast_S8x1x2048_S8x2048x2048_0_1_2
      (addf (broadcastInDim S8x1x2048 ![] bcast_S_S8x1x2048 (constant S_ .f32 0x3F800000#32))
        (extractStridedSlice S8x1x2048 ![0, 4, 0] md slices_S8x6x2048_S8x1x2048_0_4_0))))
    (broadcastInDim S8x2048x2048 ![0, 1, 2] bcast_S8x1x2048_S8x2048x2048_0_1_2
      (extractStridedSlice S8x1x2048 ![0, 3, 0] md slices_S8x6x2048_S8x1x2048_0_3_0))
/-- The logits. -/
def logitR (wr : FVec Ideal S128x2048 .bf16) (h : FVec Ideal S16384x2048 .f32) : FVec Ideal S128x16384 .f32 :=
  Host.dotGeneral dot_S128x2048_S16384x2048_S128x16384_1_1_0_0_n_n none (extf .f32 wr bitsLt_bf16_f32) h

section
variable (a b : FVec Ideal S16384x1024 .bf16) (x : FVec Ideal S16384x2048 .f32) (md : FVec Ideal S8x6x2048 .f32)
  (g : FVec Ideal S2048 .f32) (w : FVec Ideal S2048x2048 .f32) (wr : FVec Ideal S128x2048 .bf16)

theorem flatR_at (y : FVec Ideal S8x2048x2048 .f32) (r : Fin 16384) (k : Fin 2048) :
    flatR y (ix2 r k) = y (ix3 (seqOf r) (posOf r) k) := by
  pointwise [flatR]
  blk_ext []
theorem unflat_at (r : Fin 16384) (k : Fin 2048) :
    (shapeCast S8x2048x2048 x shapeCasts_S16384x2048_S8x2048x2048 : FVec Ideal S8x2048x2048 .f32) (ix3 (seqOf r) (posOf r) k) = x (ix2 r k) := by
  pointwise
  blk_ext []
theorem headsR_lo (r : Fin 16384) (l : Fin 1024) :
    headsR a b (ix3 (seqOf r) (posOf r) ⟨l.val, by omega⟩) = a (ix2 r l) := by
  unfold headsR
  rw [unflat_at]
  pointwise
theorem headsR_hi (r : Fin 16384) (l : Fin 1024) :
    headsR a b (ix3 (seqOf r) (posOf r) ⟨1024 + l.val, by omega⟩) = b (ix2 r l) := by
  unfold headsR
  rw [unflat_at]
  pointwise
theorem mixR_at (h : FVec Ideal S8x2048x2048 .f32) (s : Fin 8) (t k : Fin 2048) :
    mixR h w (ix3 s t k) = ∑ l, h (ix3 s t l) * w (ix2 l k) := by
  pointwise [mixR]
theorem streamR_at (mix : FVec Ideal S8x2048x2048 .f32) (r : Fin 16384) (k : Fin 2048) :
    streamR x md mix (ix3 (seqOf r) (posOf r) k) = x (ix2 r k) + md (ix3 (seqOf r) 2 k) * mix (ix3 (seqOf r) (posOf r) k) := by
  rw [← unflat_at x r k]
  unfold streamR
  generalize shapeCast S8x2048x2048 x shapeCasts_S16384x2048_S8x2048x2048 = z
  pointwise
theorem normR_at (y : FVec Ideal S8x2048x2048 .f32) (s : Fin 8) (t k : Fin 2048) :
    normR y g (ix3 s t k) = normed (fun k => y (ix3 s t k)) (fun k => g (ix1 k)) k := by
  pointwise [normR, normed]
theorem hiddenR_at (n : FVec Ideal S8x2048x2048 .f32) (s : Fin 8) (t k : Fin 2048) :
    hiddenR n md (ix3 s t k) = n (ix3 s t k) * (1 + md (ix3 s 4 k)) + md (ix3 s 3 k) := by
  pointwise [hiddenR]
theorem logitR_at (h : FVec Ideal S16384x2048 .f32) (e : Fin 128) (r : Fin 16384) :
    logitR wr h (ix2 e r) = ∑ l, wr (ix2 e l) * h (ix2 r l) := by
  pointwise [logitR]

/-- The arguments, as numbers. -/
def nA (r : Fin 16384) (k : Fin 1024) : EReal := a (ix2 r k)
def nX (r : Fin 16384) (k : Fin 2048) : EReal := x (ix2 r k)
def nM (b : Fin 8) (o : Fin 6) (k : Fin 2048) : EReal := md (ix3 b o k)
def nG (k : Fin 2048) : EReal := g (ix1 k)
def nW (l k : Fin 2048) : EReal := w (ix2 l k)
def nR (e : Fin 128) (k : Fin 2048) : EReal := wr (ix2 e k)

/-- The reference's stream, by its terms. -/
def streamF : FVec Ideal S8x2048x2048 .f32 := streamR x md (mixR (headsR a b) w)
/-- The reference's three results. -/
def res1 : FVec Ideal S16384x2048 .f32 := flatR (streamF a b x md w)
def res2 : FVec Ideal S16384x2048 .f32 := flatR (hiddenR (normR (streamF a b x md w) g) md)
def res3 : FVec Ideal S128x16384 .f32 := logitR wr (res2 a b x md g w)

theorem streamF_at (r : Fin 16384) (k : Fin 2048) : streamF a b x md w (ix3 (seqOf r) (posOf r) k)
    = streamAt (nA a) (nA b) (nX x) (nM md) (nW w) r k := by
  unfold streamF
  rw [streamR_at, mixR_at, sum_halves]
  simp only [headsR_lo, headsR_hi]
  rfl
theorem res1_at (r : Fin 16384) (k : Fin 2048) :
    res1 a b x md w (ix2 r k) = streamAt (nA a) (nA b) (nX x) (nM md) (nW w) r k := by
  unfold res1
  rw [flatR_at, streamF_at]
theorem res2_at (r : Fin 16384) (k : Fin 2048) :
    res2 a b x md g w (ix2 r k) = hiddenAt (nA a) (nA b) (nX x) (nM md) (nG g) (nW w) r k := by
  unfold res2
  rw [flatR_at, hiddenR_at, normR_at]
  simp only [streamF_at]
  rfl
theorem res3_at (e : Fin 128) (r : Fin 16384) :
    res3 a b x md g w wr (ix2 e r) = logitAt (nA a) (nA b) (nX x) (nM md) (nG g) (nW w) (nR wr) e r := by
  unfold res3
  rw [logitR_at]
  simp only [res2_at]
  rfl
end

end Cert.Reference3Ideal.Value

end
-- ==== Proof.Outproj.lean ====
/-  The output projection: kernel and reference end with the same three results. -/
module

public import proofs.«01_k».proof.Defs
public import proofs.«01_k».proof.Proof.OutKernel
public import proofs.«01_k».proof.Proof.OutRef
public import proofs.«01_k».proof.Proof.Gen.Kernel3
public import proofs.«01_k».proof.Proof.Gen.Kernel3.Frame
public import Idealize.ShloMosaic.Adequacy
public import Idealize.ShloMosaic.Lib.Claim

@[expose] public section

set_option maxRecDepth 16384

noncomputable section

namespace Cert.Outproj

open Idealize.ShloMosaic Idealize.ShloMosaic.TcCoe Idealize.ShloMosaic.Tactic Idealize.SL.Sem Idealize.ShloMosaic.StableHlo

section
open Cert.Kernel3Ideal Cert.Kernel3Ideal.Gen Cert.Kernel3Ideal.Value Cert.Reference3Ideal.Value
variable (m : (ℓ : Loc nD τ sig) → Buf (Elt Ideal) ℓ) (c : Dev nD)

/-- The reference's three results, of the kernel's arguments, are what the kernel's three windows end with. -/
theorem meet1 : (res1 (m (c.tc.loc main_arg0)) (m (c.tc.loc main_arg1)) (m (c.tc.loc main_arg2)) (m (c.tc.loc main_arg3))
    (m (c.tc.loc main_arg5)) : FVec Ideal S16384x2048 .f32) = (dats m 0 c).arrAt 7 cfg0.N := by
  refine Eq.trans ?_ (final7 m c).symm
  funext y
  have hy : y = ix2 (y 0) (y 1) := by funext a; fin_cases a <;> rfl
  exact (congrArg _ hy).trans (res1_at _ _ _ _ _ (y 0) (y 1))
theorem meet2 : (res2 (m (c.tc.loc main_arg0)) (m (c.tc.loc main_arg1)) (m (c.tc.loc main_arg2)) (m (c.tc.loc main_arg3))
    (m (c.tc.loc main_arg4)) (m (c.tc.loc main_arg5)) : FVec Ideal S16384x2048 .f32) = (dats m 0 c).arrAt 8 cfg0.N := by
  refine Eq.trans ?_ (final8 m c).symm
  funext y
  have hy : y = ix2 (y 0) (y 1) := by funext a; fin_cases a <;> rfl
  exact (congrArg _ hy).trans (res2_at _ _ _ _ _ _ (y 0) (y 1))
theorem meet3 : (res3 (m (c.tc.loc main_arg0)) (m (c.tc.loc main_arg1)) (m (c.tc.loc main_arg2)) (m (c.tc.loc main_arg3))
    (m (c.tc.loc main_arg4)) (m (c.tc.loc main_arg5)) (m (c.tc.loc main_arg6)) : FVec Ideal S128x16384 .f32)
      = (dats m 0 c).arrAt 9 cfg0.N := by
  refine Eq.trans ?_ (final9 m c).symm
  funext y
  have hy : y = ix2 (y 0) (y 1) := by funext a; fin_cases a <;> rfl
  exact (congrArg _ hy).trans (res3_at _ _ _ _ _ _ _ (y 0) (y 1))
end

set_option maxHeartbeats 1600000 in
/-- The two programs, idealized, compute the same three arrays from the same arguments. -/
theorem algebraic : Cert.algebraic_Kernel3Ideal_Reference3Ideal := by
  pair_intro
  · run_from Cert.Kernel3Ideal.Gen.run_main m g
  · hlo_run
    · exact meet1 m c
    · exact meet2 m c
    · exact meet3 m c

set_option maxHeartbeats 1600000 in
/-- The reference ends with its arguments unchanged and every counter at zero. -/
theorem frame_reference : Cert.quiescent_Reference3Ideal := by
  intro m g _
  hlo_run
  · exact fun _ => ⟨trivial, trivial, trivial, trivial, trivial, trivial, trivial⟩
  · clear hc
    exact sem_eq_zero_of_no_sems rfl _

end Cert.Outproj

end
-- ==== Proof.ExBase.lean ====
/-  The experts' call: the memrefs its body slices at run time, by the expert and by the slot. -/
module

public import proofs.«01_k».proof.Proof.Gen.Kernel4Ideal.Launch
public import proofs.«01_k».proof.Proof.Gen.Kernel4Ideal.Skeleton
public import Idealize.ShloMosaic.Lib.Claim
public import Idealize.ShloMosaic.Lib.VecWindow
public import Idealize.ShloMosaic.Lib.WholeRead
public import Idealize.ShloMosaic.Lib.WordCmp
public import Idealize.ShloMosaic.Lib.Tactic
public import Idealize.ShloMosaic.Lib.Pipeline.Value

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The buffers -/

/-- The two slots the gate, up and down weights of an expert are copied into. -/
abbrev gM : Memref sig .tc .vmem S2x2048x512 .f32 := Memref.whole cc0_scratch0
abbrev uM : Memref sig .tc .vmem S2x2048x512 .f32 := Memref.whole cc0_scratch1
abbrev dM : Memref sig .tc .vmem S2x512x2048 .f32 := Memref.whole cc0_scratch2
/-- The weights the products are formed with. -/
abbrev gC : Memref sig .tc .vmem S2048x512 .bf16 := Memref.whole cc0_scratch3
abbrev uC : Memref sig .tc .vmem S2048x512 .bf16 := Memref.whole cc0_scratch4
abbrev dC : Memref sig .tc .vmem S512x2048 .bf16 := Memref.whole cc0_scratch5
/-- All experts' weights, left in HBM. -/
abbrev wg : Memref sig .tc .hbm S64x2048x512 .f32 := Memref.whole main_arg5
abbrev wu : Memref sig .tc .hbm S64x2048x512 .f32 := Memref.whole main_arg6
abbrev wd : Memref sig .tc .hbm S64x512x2048 .f32 := Memref.whole main_arg7

/-! ## A slot, an expert's weights, a slot's cells -/

theorem slotW_inb (k : ℕ) : ∀ a, (![k % 2, 0, 0] : Fin 3 → Nat) a + S1x2048x512.size a ≤ S2x2048x512.size a := by
  intro a; fin_cases a <;> simp <;> omega
theorem slotV_inb (k : ℕ) : ∀ a, (![k % 2, 0, 0] : Fin 3 → Nat) a + S1x512x2048.size a ≤ S2x512x2048.size a := by
  intro a; fin_cases a <;> simp <;> omega
theorem rowW_inb (e : ℕ) : ∀ a, (![e % 64, 0, 0] : Fin 3 → Nat) a + S1x2048x512.size a ≤ S64x2048x512.size a := by
  intro a; fin_cases a <;> simp <;> omega
theorem rowV_inb (e : ℕ) : ∀ a, (![e % 64, 0, 0] : Fin 3 → Nat) a + S1x512x2048.size a ≤ S64x512x2048.size a := by
  intro a; fin_cases a <;> simp <;> omega
theorem cell_inb (k : ℕ) (j : Fin 3) : ∀ a, (![k % 2, j.val] : Fin 2 → Nat) a + S1x1.size a ≤ S2x3.size a := by
  have := j.isLt; intro a; fin_cases a <;> simp <;> omega

/-- Slot `k % 2` of a two-slot buffer. -/
def slotW (M : Memref sig .tc .vmem S2x2048x512 .f32) (k : ℕ) : Memref sig .tc .vmem S2048x512 .f32 :=
  (M.slice (Rect.unit (s := S2x2048x512) ![k % 2, 0, 0] S1x2048x512.size (slotW_inb k)) (fun _ => rfl)).squeeze S2048x512 squeezes_S1x2048x512_S2048x512
def slotV (M : Memref sig .tc .vmem S2x512x2048 .f32) (k : ℕ) : Memref sig .tc .vmem S512x2048 .f32 :=
  (M.slice (Rect.unit (s := S2x512x2048) ![k % 2, 0, 0] S1x512x2048.size (slotV_inb k)) (fun _ => rfl)).squeeze S512x2048 squeezes_S1x512x2048_S512x2048
/-- The weights of expert `e % 64`. -/
def rowW (M : Memref sig .tc .hbm S64x2048x512 .f32) (e : ℕ) : Memref sig .tc .hbm S2048x512 .f32 :=
  (M.slice (Rect.unit (s := S64x2048x512) ![e % 64, 0, 0] S1x2048x512.size (rowW_inb e)) (fun _ => rfl)).squeeze S2048x512 squeezes_S1x2048x512_S2048x512
def rowV (M : Memref sig .tc .hbm S64x512x2048 .f32) (e : ℕ) : Memref sig .tc .hbm S512x2048 .f32 :=
  (M.slice (Rect.unit (s := S64x512x2048) ![e % 64, 0, 0] S1x512x2048.size (rowV_inb e)) (fun _ => rfl)).squeeze S512x2048 squeezes_S1x512x2048_S512x2048
/-- Cell `j` of slot `k % 2`. -/
def semA (k : ℕ) (j : Fin 3) : DmaSems sig S_ :=
  (cc0_scratch6.slice (Rect.unit (s := S2x3) ![k % 2, j.val] S1x1.size (cell_inb k j))).squeeze S_ squeezes_S1x1_S_
def cell (k : ℕ) (j : Fin 3) : SemLoc sig := SemLoc.dma (semA k j).sem

/-! ## Three copies, and three waits -/

def copy3 (k e : ℕ) : Prog (TpuEff nD τ sig (Elt F) Λ₀ .tc) PUnit := do
  Prog.lift (.enqueueDma (rowW wg e) (.here (slotW gM k)) (.dma (semA k 0).sem) (View.wordExact_bits rfl) (View.wordExact_bits rfl) ⟨Or.inl rfl, trivial⟩)
  Prog.lift (.enqueueDma (rowW wu e) (.here (slotW uM k)) (.dma (semA k 1).sem) (View.wordExact_bits rfl) (View.wordExact_bits rfl) ⟨Or.inl rfl, trivial⟩)
  Prog.lift (.enqueueDma (rowV wd e) (.here (slotV dM k)) (.dma (semA k 2).sem) (View.wordExact_bits rfl) (View.wordExact_bits rfl) ⟨Or.inl rfl, trivial⟩)
  pure ⟨⟩

def wait3 (k e : ℕ) : Prog (TpuEff nD τ sig (Elt F) Λ₀ .tc) PUnit := do
  Prog.lift (.waitDma2 (semA k 0).sem (rowW wg e) (slotW gM k) (View.wordExact_bits rfl) (View.wordExact_bits rfl))
  Prog.lift (.waitDma2 (semA k 1).sem (rowW wu e) (slotW uM k) (View.wordExact_bits rfl) (View.wordExact_bits rfl))
  Prog.lift (.waitDma2 (semA k 2).sem (rowV wd e) (slotV dM k) (View.wordExact_bits rfl) (View.wordExact_bits rfl))
  pure ⟨⟩

section
variable (c : Dev nD)
abbrev half (k : ℕ) : PosShare TreeShare := if k % 2 = 0 then fullShare.left else fullShare.right
abbrev BufW (M : Memref sig .tc .hbm S64x2048x512 .f32) : Type := Buf (Elt F) (M.view.loc (c : Thread nD τ))
abbrev slotWP (M : Memref sig .tc .vmem S2x2048x512 .f32) (k : ℕ) (f : Buf (Elt F) ((slotW M k).view.loc (c : Thread nD τ))) : sProp 𝕄 :=
  (slotW M k).view.loc (c : Thread nD τ) ↦[(slotW M k).view.set]{fullShare} f
abbrev slotVP (M : Memref sig .tc .vmem S2x512x2048 .f32) (k : ℕ) (f : Buf (Elt F) ((slotV M k).view.loc (c : Thread nD τ))) : sProp 𝕄 :=
  (slotV M k).view.loc (c : Thread nD τ) ↦[(slotV M k).view.set]{fullShare} f
abbrev rowWP (M : Memref sig .tc .hbm S64x2048x512 .f32) (k e : ℕ) (R : Buf (Elt F) ((rowW M e).view.loc (c : Thread nD τ))) : sProp 𝕄 :=
  (rowW M e).view.loc (c : Thread nD τ) ↦[(rowW M e).view.set]{half k} R
abbrev rowVP (M : Memref sig .tc .hbm S64x512x2048 .f32) (k e : ℕ) (R : Buf (Elt F) ((rowV M e).view.loc (c : Thread nD τ))) : sProp 𝕄 :=
  (rowV M e).view.loc (c : Thread nD τ) ↦[(rowV M e).view.set]{half k} R
end

section
variable (c : Dev nD)
/-- A copy of expert `e`'s weights into slot `k`, in flight. -/
abbrev flightW (B : Memref sig .tc .hbm S64x2048x512 .f32) (M : Memref sig .tc .vmem S2x2048x512 .f32) (j : Fin 3) (k e : ℕ)
    (R : Buf (Elt F) ((rowW B e).view.loc (c : Thread nD τ))) (f : Buf (Elt F) ((slotW M k).view.loc (c : Thread nD τ))) : sProp 𝕄 :=
  Transfers.Flight countersEmb (c : Thread nD τ) (cell k j) default 131072
    iprop(slotWP c M k ((slotW M k).view.writes (Elt F) f [⟨Rect.whole S2048x512, ReadAs.same.apply ((rowW B e).view.read (Elt F) R)⟩]) ∗ rowWP c B k e R)
abbrev flightV (B : Memref sig .tc .hbm S64x512x2048 .f32) (M : Memref sig .tc .vmem S2x512x2048 .f32) (j : Fin 3) (k e : ℕ)
    (R : Buf (Elt F) ((rowV B e).view.loc (c : Thread nD τ))) (f : Buf (Elt F) ((slotV M k).view.loc (c : Thread nD τ))) : sProp 𝕄 :=
  Transfers.Flight countersEmb (c : Thread nD τ) (cell k j) default 131072
    iprop(slotVP c M k ((slotV M k).view.writes (Elt F) f [⟨Rect.whole S512x2048, ReadAs.same.apply ((rowV B e).view.read (Elt F) R)⟩]) ∗ rowVP c B k e R)
/-- The cells of a slot at zero. -/
def cells0 (k : ℕ) : sProp 𝕄 := iprop(semVal ((c : Thread nD τ), cell k 0) 0 ∗ semVal ((c : Thread nD τ), cell k 1) 0 ∗ semVal ((c : Thread nD τ), cell k 2) 0)
def slots (k : ℕ) : sProp 𝕄 := iprop((∃ f, slotWP (F := F) c gM k f) ∗ (∃ f, slotWP (F := F) c uM k f) ∗ (∃ f, slotVP (F := F) c dM k f))
variable (Rg : Buf (Elt F) ((c : Thread nD τ).loc main_arg5)) (Ru : Buf (Elt F) ((c : Thread nD τ).loc main_arg6)) (Rd : Buf (Elt F) ((c : Thread nD τ).loc main_arg7))
def rows (k e : ℕ) : sProp 𝕄 := iprop(rowWP c wg k e Rg ∗ rowWP c wu k e Ru ∗ rowVP c wd k e Rd)
def flying (k e : ℕ) : sProp 𝕄 :=
  iprop((∃ f, flightW c wg gM 0 k e Rg f) ∗ (∃ f, flightW c wu uM 1 k e Ru f) ∗ (∃ f, flightV c wd dM 2 k e Rd f))
def landedP (k e : ℕ) : sProp 𝕄 :=
  iprop((∃ f, slotWP c gM k ((slotW gM k).view.writes (Elt F) f [⟨Rect.whole S2048x512, ReadAs.same.apply ((rowW wg e).view.read (Elt F) Rg)⟩]))
    ∗ (∃ f, slotWP c uM k ((slotW uM k).view.writes (Elt F) f [⟨Rect.whole S2048x512, ReadAs.same.apply ((rowW wu e).view.read (Elt F) Ru)⟩]))
    ∗ (∃ f, slotVP c dM k ((slotV dM k).view.writes (Elt F) f [⟨Rect.whole S512x2048, ReadAs.same.apply ((rowV wd e).view.read (Elt F) Rd)⟩])))
theorem landed_slots (k e : ℕ) : landedP c Rg Ru Rd k e ⊢ (slots (F := F) c k) := by
  unfold landedP slots
  iintro ⟨⟨%f0, H0⟩, ⟨%f1, H1⟩, ⟨%f2, H2⟩⟩
  isplitl [H0]; · iexists _; iexact H0
  isplitl [H1]; · iexists _; iexact H1
  iexists _; iexact H2
end

set_option maxHeartbeats 1000000 in
/-- The three copies of an expert's weights start. -/
theorem run_copy3 (c : Dev nD) (k e : ℕ) (Rg : Buf (Elt F) ((c : Thread nD τ).loc main_arg5)) (Ru : Buf (Elt F) ((c : Thread nD τ).loc main_arg6)) (Rd : Buf (Elt F) ((c : Thread nD τ).loc main_arg7))
    (W : Waits sig Unit) (K : PUnit → sProp 𝕄) :
    iprop(cells0 c k ∗ slots c k ∗ rows c Rg Ru Rd k e ∗ owes (c : Thread nD τ) 0 W
        ∗ (iprop(flying c Rg Ru Rd k e ∗ (∃ W', owes (c : Thread nD τ) 0 W')) -∗ K ⟨⟩))
      ⊢ wp frame (wpE (defs₀ (F := F)) Variants.none c none) Set.univ (copy3 k e) K := by
  unfold copy3 cells0 slots rows flying
  iintro ⟨⟨Hc0, Hc1, Hc2⟩, ⟨⟨%fg, Hg⟩, ⟨%fu, Hu⟩, ⟨%fd, Hd⟩⟩, ⟨Hrg, Hru, Hrd⟩, HW, Hk⟩
  sl_exec
  sl_step
  iapply Hk
  isplitr [HW]
  · isplitl [Hc0]; · iexists fg; iexact Hc0
    isplitl [Hc1]; · iexists fu; iexact Hc1
    iexists fd; iexact Hc2
  iexists _; iexact HW

set_option maxHeartbeats 1000000 in
/-- The body waits for the three. -/
theorem run_wait3 (c : Dev nD) (k e : ℕ) (Rg : Buf (Elt F) ((c : Thread nD τ).loc main_arg5)) (Ru : Buf (Elt F) ((c : Thread nD τ).loc main_arg6)) (Rd : Buf (Elt F) ((c : Thread nD τ).loc main_arg7))
    (W : Waits sig Unit) (K : PUnit → sProp 𝕄) :
    iprop(flying c Rg Ru Rd k e ∗ owes (c : Thread nD τ) 0 W
        ∗ (iprop(cells0 c k ∗ landedP c Rg Ru Rd k e ∗ rows c Rg Ru Rd k e ∗ (∃ W', owes (c : Thread nD τ) 0 W')) -∗ K ⟨⟩))
      ⊢ wp frame (wpE (defs₀ (F := F)) Variants.none c none) Set.univ (wait3 k e) K := by
  unfold wait3 cells0 landedP rows flying
  iintro ⟨⟨⟨%fg, Hg⟩, ⟨%fu, Hu⟩, ⟨%fd, Hd⟩⟩, HW, Hk⟩
  sl_exec
  sl_step
  iapply Hk
  isplitl [Hg Hu Hd]
  · isplitl [Hg]; · iexact Hg
    isplitl [Hu]; · iexact Hu
    iexact Hd
  isplitl [Hg_dst Hu_dst Hd_dst]
  · isplitl [Hg_dst]; · iexists fg; iexact Hg_dst
    isplitl [Hu_dst]; · iexists fu; iexact Hu_dst
    iexists fd; iexact Hd_dst
  isplitl [Hg_src Hu_src Hd_src]
  · isplitl [Hg_src]; · iexact Hg_src
    isplitl [Hu_src]; · iexact Hu_src
    iexact Hd_src
  iexists _; iexact HW

/-! ## The weights rounded, from a slot -/

/-- The rounding of a slot's weights. -/
def roundW (w : Vec F S2048x512 .f32) : Vec F S2048x512 .bf16 := truncf .bf16 w bitsLt_bf16_f32
def roundV (w : Vec F S512x2048 .f32) : Vec F S512x2048 .bf16 := truncf .bf16 w bitsLt_bf16_f32
theorem pay5_eq (v : Vec F S1x2048x512 .f32) : k0_pay5 v = roundW (shapeCast S2048x512 v shapeCasts_S1x2048x512_S2048x512) := by
  unfold k0_pay5 roundW; exact shapeCast_self _ _
theorem pay1_eq (v : Vec F S1x2048x512 .f32) : k0_pay1 v = roundW (shapeCast S2048x512 v shapeCasts_S1x2048x512_S2048x512) := by
  unfold k0_pay1 roundW; exact shapeCast_self _ _
theorem pay2_eq (v : Vec F S1x512x2048 .f32) : k0_pay2 v = roundV (shapeCast S512x2048 v shapeCasts_S1x512x2048_S512x2048) := by
  unfold k0_pay2 roundV; exact shapeCast_self _ _
/-- What a load of a slot reads of what landed in it. -/
theorem slotW_read (M : Memref sig .tc .vmem S2x2048x512 .f32) (k : ℕ) (f : (slotW M k).view.ty.Contents (Elt F)) (w : Vec F S2048x512 .f32) :
    shapeCast S2048x512 (M.view.readAt (Elt F) (Rect.unit (s := S2x2048x512) ![k % 2, 0, 0] S1x2048x512.size (slotW_inb k)).toLoadRect
      ((slotW M k).view.writes (Elt F) f [⟨Rect.whole S2048x512, w⟩])) shapeCasts_S1x2048x512_S2048x512 = w :=
  (Memref.read_squeeze_slice M _ _ squeezes_S1x2048x512_S2048x512 shapeCasts_S1x2048x512_S2048x512 _).symm.trans (View.read_writes_whole (slotW M k).view f w)
theorem slotV_read (M : Memref sig .tc .vmem S2x512x2048 .f32) (k : ℕ) (f : (slotV M k).view.ty.Contents (Elt F)) (w : Vec F S512x2048 .f32) :
    shapeCast S512x2048 (M.view.readAt (Elt F) (Rect.unit (s := S2x512x2048) ![k % 2, 0, 0] S1x512x2048.size (slotV_inb k)).toLoadRect
      ((slotV M k).view.writes (Elt F) f [⟨Rect.whole S512x2048, w⟩])) shapeCasts_S1x512x2048_S512x2048 = w :=
  (Memref.read_squeeze_slice M _ _ squeezes_S1x512x2048_S512x2048 shapeCasts_S1x512x2048_S512x2048 _).symm.trans (View.read_writes_whole (slotV M k).view f w)

def convG (k : ℕ) : Prog (TpuEff nD τ sig (Elt F) Λ₀ .tc) PUnit := do
  let v : Vec F S1x2048x512 .f32 ← Prog.lift (.load gM (Rect.unit (s := S2x2048x512) ![k % 2, 0, 0] S1x2048x512.size (slotW_inb k)).toLoadRect (View.loadsAt_vmem h_S1x2048x512))
  let v53 : Vec F S2048x512 .bf16 ← Prog.lift (.load gC (Rect.unit (s := S2048x512) ![0, 0] S2048x512.size inb_S2048x512_S2048x512_0_0).toLoadRect (View.loadsAt_vmem h_S2048x512))
  Prog.lift (.store gC (Rect.unit (s := S2048x512) ![0, 0] S2048x512.size inb_S2048x512_S2048x512_0_0) (k0_pay5 v) Finset.univ (View.stores_vmem h_S2048x512 ((Memref.isWhole_whole cc0_scratch3).storeExact_slice rfl _ packedbf16_S2048x512_S2048x512_0_0) (fun _ => rfl)) (.inl rfl))
  pure ⟨⟩

def convUD (k : ℕ) : Prog (TpuEff nD τ sig (Elt F) Λ₀ .tc) PUnit := do
  let v57 : Vec F S1x2048x512 .f32 ← Prog.lift (.load uM (Rect.unit (s := S2x2048x512) ![k % 2, 0, 0] S1x2048x512.size (slotW_inb k)).toLoadRect (View.loadsAt_vmem h_S1x2048x512))
  let v60 : Vec F S2048x512 .bf16 ← Prog.lift (.load uC (Rect.unit (s := S2048x512) ![0, 0] S2048x512.size inb_S2048x512_S2048x512_0_0).toLoadRect (View.loadsAt_vmem h_S2048x512))
  Prog.lift (.store uC (Rect.unit (s := S2048x512) ![0, 0] S2048x512.size inb_S2048x512_S2048x512_0_0) (k0_pay1 v57) Finset.univ (View.stores_vmem h_S2048x512 ((Memref.isWhole_whole cc0_scratch4).storeExact_slice rfl _ packedbf16_S2048x512_S2048x512_0_0) (fun _ => rfl)) (.inl rfl))
  let v64 : Vec F S1x512x2048 .f32 ← Prog.lift (.load dM (Rect.unit (s := S2x512x2048) ![k % 2, 0, 0] S1x512x2048.size (slotV_inb k)).toLoadRect (View.loadsAt_vmem h_S1x512x2048))
  let v67 : Vec F S512x2048 .bf16 ← Prog.lift (.load dC (Rect.unit (s := S512x2048) ![0, 0] S512x2048.size inb_S512x2048_S512x2048_0_0).toLoadRect (View.loadsAt_vmem h_S512x2048))
  Prog.lift (.store dC (Rect.unit (s := S512x2048) ![0, 0] S512x2048.size inb_S512x2048_S512x2048_0_0) (k0_pay2 v64) Finset.univ (View.stores_vmem h_S512x2048 ((Memref.isWhole_whole cc0_scratch5).storeExact_slice rfl _ packedbf16_S512x2048_S512x2048_0_0) (fun _ => rfl)) (.inl rfl))
  pure ⟨⟩

set_option maxHeartbeats 1000000 in
/-- The gate weights, rounded, replace what the first of the three holds. -/
theorem run_convG (c : Dev nD) (k : ℕ) (f : Buf (Elt F) ((slotW gM k).view.loc (c : Thread nD τ))) (w : Vec F S2048x512 .f32)
    (W : Waits sig Unit) (K : PUnit → sProp 𝕄) :
    iprop(slotWP c gM k ((slotW gM k).view.writes (Elt F) f [⟨Rect.whole S2048x512, w⟩])
        ∗ (∃ d, owns (c : Thread nD τ) gC fullShare d) ∗ owes (c : Thread nD τ) 0 W
        ∗ (iprop((∃ f, slotWP (F := F) c gM k f) ∗ owns (c : Thread nD τ) gC fullShare (roundW w) ∗ (∃ W', owes (c : Thread nD τ) 0 W')) -∗ K ⟨⟩))
      ⊢ wp frame (wpE (defs₀ (F := F)) Variants.none c none) Set.univ (convG k) K := by
  unfold convG
  unfold owns
  iintro ⟨Hs, ⟨%d, %f4, -, H4⟩, HW, Hk⟩
  sl_exec
  sl_step
  iapply Hk
  isplitl [Hs]; · iexists _; iexact Hs
  isplitl [H4]
  · iexists _; isplitr; swap; · iexact H4
    ipureintro
    rw [View.read_writes_full, pay5_eq]
    unfold run_convG.sl.v
    exact congrArg roundW (slotW_read gM k _ w)
  iexists _; iexact HW

set_option maxHeartbeats 1000000 in
/-- The up and down weights likewise. -/
theorem run_convUD (c : Dev nD) (k : ℕ) (f : Buf (Elt F) ((slotW uM k).view.loc (c : Thread nD τ))) (w : Vec F S2048x512 .f32)
    (f' : Buf (Elt F) ((slotV dM k).view.loc (c : Thread nD τ))) (w' : Vec F S512x2048 .f32)
    (W : Waits sig Unit) (K : PUnit → sProp 𝕄) :
    iprop(slotWP c uM k ((slotW uM k).view.writes (Elt F) f [⟨Rect.whole S2048x512, w⟩]) ∗ slotVP c dM k ((slotV dM k).view.writes (Elt F) f' [⟨Rect.whole S512x2048, w'⟩])
        ∗ (∃ d, owns (c : Thread nD τ) uC fullShare d) ∗ (∃ d, owns (c : Thread nD τ) dC fullShare d) ∗ owes (c : Thread nD τ) 0 W
        ∗ (iprop((∃ f, slotWP (F := F) c uM k f) ∗ (∃ f, slotVP (F := F) c dM k f)
            ∗ owns (c : Thread nD τ) uC fullShare (roundW w) ∗ owns (c : Thread nD τ) dC fullShare (roundV w') ∗ (∃ W', owes (c : Thread nD τ) 0 W')) -∗ K ⟨⟩))
      ⊢ wp frame (wpE (defs₀ (F := F)) Variants.none c none) Set.univ (convUD k) K := by
  unfold convUD
  unfold owns
  iintro ⟨Hs, Ht, ⟨%d, %f4, -, H4⟩, ⟨%d5, %f5, -, H5⟩, HW, Hk⟩
  sl_exec
  sl_step
  iapply Hk
  isplitl [Hs]; · iexists _; iexact Hs
  isplitl [Ht]; · iexists _; iexact Ht
  isplitl [H4]
  · iexists _; isplitr; swap; · iexact H4
    ipureintro
    rw [View.read_writes_full, pay1_eq]
    unfold run_convUD.sl.v57
    exact congrArg roundW (slotW_read uM k _ w)
  isplitl [H5]
  · iexists _; isplitr; swap; · iexact H5
    ipureintro
    rw [View.read_writes_full, pay2_eq]
    unfold run_convUD.sl.v64
    exact congrArg roundV (slotV_read dM k _ w')
  iexists _; iexact HW

/-! ## The result's block -/

def mlp (arg5 : Memref sig .tc .vmem S256x2048 .f32) (arg9 : Memref sig .tc .vmem S256x2048 .f32) : Prog (TpuEff nD τ sig (Elt F) Λ₀ .tc) PUnit := do
  let v26 : Vec F S256x2048 .f32 ← Prog.lift (.load arg5 (Rect.unit (s := S256x2048) ![0, 0] S256x2048.size inb_S256x2048_S256x2048_0_0).toLoadRect (View.loadsAt_vmem h_S256x2048))
  let v28 : Vec F S2048x512 .bf16 ← Prog.lift (.load gC (Rect.unit (s := S2048x512) ![0, 0] S2048x512.size inb_S2048x512_S2048x512_0_0).toLoadRect (View.loadsAt_vmem h_S2048x512))
  let v32 : Vec F S2048x512 .bf16 ← Prog.lift (.load uC (Rect.unit (s := S2048x512) ![0, 0] S2048x512.size inb_S2048x512_S2048x512_0_0).toLoadRect (View.loadsAt_vmem h_S2048x512))
  let v36 : Vec F S512x2048 .bf16 ← Prog.lift (.load dC (Rect.unit (s := S512x2048) ![0, 0] S512x2048.size inb_S512x2048_S512x2048_0_0).toLoadRect (View.loadsAt_vmem h_S512x2048))
  let v38 : Vec F S256x2048 .f32 ← Prog.lift (.load arg9 (Rect.unit (s := S256x2048) ![0, 0] S256x2048.size inb_S256x2048_S256x2048_0_0).toLoadRect (View.loadsAt_vmem h_S256x2048))
  Prog.lift (.store arg9 (Rect.unit (s := S256x2048) ![0, 0] S256x2048.size inb_S256x2048_S256x2048_0_0) (k0_pay3 v26 v28 v32 v36) Finset.univ (View.stores_vmem_bits_univ h_S256x2048 rfl) (.inl rfl))
  pure ⟨⟩

def blank (arg9 : Memref sig .tc .vmem S256x2048 .f32) : Prog (TpuEff nD τ sig (Elt F) Λ₀ .tc) PUnit := do
  let v27 : Vec F S256x2048 .f32 ← Prog.lift (.load arg9 (Rect.unit (s := S256x2048) ![0, 0] S256x2048.size inb_S256x2048_S256x2048_0_0).toLoadRect (View.loadsAt_vmem h_S256x2048))
  Prog.lift (.store arg9 (Rect.unit (s := S256x2048) ![0, 0] S256x2048.size inb_S256x2048_S256x2048_0_0) (k0_pay4 (F := F)) Finset.univ (View.stores_vmem_bits_univ h_S256x2048 rfl) (.inl rfl))
  pure ⟨⟩

section
variable {κ : Kind} {sp : Space} {s : Shape} {e : EltTy} {m : Memref sig κ sp s e}
/-- A load of a whole buffer's own sizes reads its contents. -/
theorem rd_full (h : m.IsWhole) (X : s.Idx → Elt F e) {off : Fin s.rank → ℕ} (inb : ∀ a, off a + s.size a ≤ s.size a) :
    m.view.readAt (Elt F) (Rect.unit off s.size inb).toLoadRect (h.unread X) = X := by
  rw [View.readAt_full]; exact h.read_unread X
end

set_option maxHeartbeats 1000000 in
theorem run_mlp (c : Dev nD) (arg5 : Memref sig .tc .vmem S256x2048 .f32) (harg5 : arg5.IsWhole) (arg9 : Memref sig .tc .vmem S256x2048 .f32) (harg9 : arg9.IsWhole)
    (x : Vec F S256x2048 .f32) (g u : Vec F S2048x512 .bf16) (d : Vec F S512x2048 .bf16) (W : Waits sig Unit) (K : PUnit → sProp 𝕄) :
    iprop(owns (c : Thread nD τ) arg5 fullShare x ∗ (∃ d, owns (c : Thread nD τ) arg9 fullShare d)
        ∗ owns (c : Thread nD τ) gC fullShare g ∗ owns (c : Thread nD τ) uC fullShare u ∗ owns (c : Thread nD τ) dC fullShare d ∗ owes (c : Thread nD τ) 0 W
        ∗ (iprop(owns (c : Thread nD τ) arg5 fullShare x ∗ owns (c : Thread nD τ) arg9 fullShare (k0_pay3 x g u d)
            ∗ owns (c : Thread nD τ) gC fullShare g ∗ owns (c : Thread nD τ) uC fullShare u ∗ owns (c : Thread nD τ) dC fullShare d ∗ (∃ W', owes (c : Thread nD τ) 0 W')) -∗ K ⟨⟩))
      ⊢ wp frame (wpE (defs₀ (F := F)) Variants.none c none) Set.univ (mlp arg5 arg9) K := by
  unfold mlp
  unfold owns
  iintro ⟨⟨%f0, %hf0, H0⟩, ⟨%d1, %f1, -, H1⟩, ⟨%f2, %hf2, H2⟩, ⟨%f3, %hf3, H3⟩, ⟨%f4, %hf4, H4⟩, HW, Hk⟩
  obtain rfl := harg5.eq_unread hf0
  obtain rfl := (Memref.isWhole_whole cc0_scratch3).eq_unread hf2
  obtain rfl := (Memref.isWhole_whole cc0_scratch4).eq_unread hf3
  obtain rfl := (Memref.isWhole_whole cc0_scratch5).eq_unread hf4
  sl_exec
  sl_step
  iapply Hk
  isplitl [H0]
  · iexists _; isplitr; · ipureintro; exact harg5.read_unread _
    iexact H0
  isplitl [H1]
  · iexists _; isplitr; swap; · iexact H1
    ipureintro
    rw [View.read_writes_full, rd_full, rd_full, rd_full, rd_full]
  isplitl [H2]
  · iexists _; isplitr; · ipureintro; exact (Memref.isWhole_whole cc0_scratch3).read_unread _
    iexact H2
  isplitl [H3]
  · iexists _; isplitr; · ipureintro; exact (Memref.isWhole_whole cc0_scratch4).read_unread _
    iexact H3
  isplitl [H4]
  · iexists _; isplitr; · ipureintro; exact (Memref.isWhole_whole cc0_scratch5).read_unread _
    iexact H4
  iexists _; iexact HW

set_option maxHeartbeats 1000000 in
theorem run_blank (c : Dev nD) (arg9 : Memref sig .tc .vmem S256x2048 .f32) (harg9 : arg9.IsWhole)
    (W : Waits sig Unit) (K : PUnit → sProp 𝕄) :
    iprop((∃ d, owns (c : Thread nD τ) arg9 fullShare d) ∗ owes (c : Thread nD τ) 0 W
        ∗ (iprop(owns (c : Thread nD τ) arg9 fullShare (k0_pay4 (F := F)) ∗ (∃ W', owes (c : Thread nD τ) 0 W')) -∗ K ⟨⟩))
      ⊢ wp frame (wpE (defs₀ (F := F)) Variants.none c none) Set.univ (blank arg9) K := by
  unfold blank
  unfold owns
  iintro ⟨⟨%d1, %f1, -, H1⟩, HW, Hk⟩
  sl_exec
  sl_step
  iapply Hk
  isplitl [H1]
  · iexists _; isplitr; swap; · iexact H1
    ipureintro
    exact View.read_writes_full _ _ _ _ _
  iexists _; iexact HW

end Cert.Kernel4Ideal.Hand

end
-- ==== Proof.ExBody.lean ====
/-  The experts' call: its body is copies, waits and products over the named memrefs. -/
module

public import proofs.«01_k».proof.Proof.ExBase
public import Idealize.ShloMosaic.Lib.Claim
public import Idealize.ShloMosaic.Lib.VecWindow
public import Idealize.ShloMosaic.Lib.WholeRead
public import Idealize.ShloMosaic.Lib.WordCmp
public import Idealize.ShloMosaic.Lib.Tactic
public import Idealize.ShloMosaic.Lib.Pipeline.Value

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The tables -/

/-- The blocks' experts, their ordinals, the experts that follow, and the number of blocks in use. -/
abbrev tE : Memref sig .tc .smem S192 .i32 := Memref.whole main_arg0
abbrev tO : Memref sig .tc .smem S192 .i32 := Memref.whole main_arg1
abbrev tX : Memref sig .tc .smem S192 .i32 := Memref.whole main_arg2
abbrev tN : Memref sig .tc .smem S1 .i32 := Memref.whole main_arg3

/-! ## The offsets the body computes from the words it loads -/

theorem below {v : BitVec 32} (h : v.toNat < 64) : ∃ n : Fin 64, v = BitVec.ofNat 32 n.val :=
  ⟨⟨v.toNat, h⟩, by simp⟩
theorem off3_eq {v : BitVec 32} (h : v.toNat < 64) : k0_off3 v = ![v.toNat % 2, 0] := by
  obtain ⟨n, rfl⟩ := below h; revert n; decide +kernel
theorem off6_eq {v : BitVec 32} (h : v.toNat < 64) : k0_off6 v = ![v.toNat % 2, 1] := by
  obtain ⟨n, rfl⟩ := below h; revert n; decide +kernel
theorem off8_eq {v : BitVec 32} (h : v.toNat < 64) : k0_off8 v = ![v.toNat % 2, 2] := by
  obtain ⟨n, rfl⟩ := below h; revert n; decide +kernel
theorem off11_eq {v : BitVec 32} (h : v.toNat < 64) : k0_off11 v = ![v.toNat % 2, 0] := off3_eq h
theorem off14_eq {v : BitVec 32} (h : v.toNat < 64) : k0_off14 v = ![v.toNat % 2, 1] := off6_eq h
theorem off15_eq {v : BitVec 32} (h : v.toNat < 64) : k0_off15 v = ![v.toNat % 2, 2] := off8_eq h
theorem off19_eq {v : BitVec 32} (h : v.toNat < 64) : k0_off19 v = ![(v.toNat + 1) % 2, 0] := by
  obtain ⟨n, rfl⟩ := below h; revert n; decide +kernel
theorem off22_eq {v : BitVec 32} (h : v.toNat < 64) : k0_off22 v = ![(v.toNat + 1) % 2, 1] := by
  obtain ⟨n, rfl⟩ := below h; revert n; decide +kernel
theorem off23_eq {v : BitVec 32} (h : v.toNat < 64) : k0_off23 v = ![(v.toNat + 1) % 2, 2] := by
  obtain ⟨n, rfl⟩ := below h; revert n; decide +kernel
theorem off4_eq {v : BitVec 32} (h : v.toNat < 64) : k0_off4 v = ![v.toNat % 2, 0, 0] := by
  obtain ⟨n, rfl⟩ := below h; revert n; decide +kernel
theorem off7_eq {v : BitVec 32} (h : v.toNat < 64) : k0_off7 v = ![v.toNat % 2, 0, 0] := off4_eq h
theorem off9_eq {v : BitVec 32} (h : v.toNat < 64) : k0_off9 v = ![v.toNat % 2, 0, 0] := off4_eq h
theorem off12_eq {v : BitVec 32} (h : v.toNat < 64) : k0_off12 v = ![v.toNat % 2, 0, 0] := off4_eq h
theorem off16_eq {v : BitVec 32} (h : v.toNat < 64) : k0_off16 v = ![v.toNat % 2, 0, 0] := off4_eq h
theorem off20_eq {v : BitVec 32} (h : v.toNat < 64) : k0_off20 v = ![(v.toNat + 1) % 2, 0, 0] := by
  obtain ⟨n, rfl⟩ := below h; revert n; decide +kernel
theorem off24_eq {v : BitVec 32} (h : v.toNat < 64) : k0_off24 v = ![(v.toNat + 1) % 2, 0, 0] := off20_eq h
theorem off26_eq {v : BitVec 32} (h : v.toNat < 64) : k0_off26 v = ![v.toNat % 2, 0, 0] := by
  obtain ⟨n, rfl⟩ := below h; revert n; decide +kernel
theorem off27_eq {v : BitVec 32} (h : v.toNat < 64) : k0_off27 v = ![v.toNat % 2, 0, 0] := off26_eq h
theorem row_eq {v : BitVec 32} (h : v.toNat < 64) : (![v.toNat, 0, 0] : Fin 3 → ℕ) = ![v.toNat % 64, 0, 0] := by
  rw [Nat.mod_eq_of_lt h]
theorem off5_eq {v : BitVec 32} (h : v.toNat < 64) : k0_off5 v = ![v.toNat % 64, 0, 0] := row_eq h
theorem off10_eq {v : BitVec 32} (h : v.toNat < 64) : k0_off10 v = ![v.toNat % 64, 0, 0] := row_eq h
theorem off13_eq {v : BitVec 32} (h : v.toNat < 64) : k0_off13 v = ![v.toNat % 64, 0, 0] := row_eq h
theorem off17_eq {v : BitVec 32} (h : v.toNat < 64) : k0_off17 v = ![v.toNat % 64, 0, 0] := row_eq h
theorem off21_eq {v : BitVec 32} (h : v.toNat < 64) : k0_off21 v = ![v.toNat % 64, 0, 0] := row_eq h
theorem off25_eq {v : BitVec 32} (h : v.toNat < 64) : k0_off25 v = ![v.toNat % 64, 0, 0] := row_eq h

theorem slotW_of (M : Memref sig .tc .vmem S2x2048x512 .f32) {off : Fin 3 → ℕ} {k : ℕ} (e : off = ![k % 2, 0, 0]) {hi : ∀ a, off a + S1x2048x512.size a ≤ S2x2048x512.size a} :
    (M.slice (Rect.unit (s := S2x2048x512) off S1x2048x512.size hi) (fun _ => rfl)).squeeze S2048x512 squeezes_S1x2048x512_S2048x512 = slotW M k := by
  subst e; rfl
theorem slotV_of (M : Memref sig .tc .vmem S2x512x2048 .f32) {off : Fin 3 → ℕ} {k : ℕ} (e : off = ![k % 2, 0, 0]) {hi : ∀ a, off a + S1x512x2048.size a ≤ S2x512x2048.size a} :
    (M.slice (Rect.unit (s := S2x512x2048) off S1x512x2048.size hi) (fun _ => rfl)).squeeze S512x2048 squeezes_S1x512x2048_S512x2048 = slotV M k := by
  subst e; rfl
theorem rowW_of (M : Memref sig .tc .hbm S64x2048x512 .f32) {off : Fin 3 → ℕ} {k : ℕ} (e : off = ![k % 64, 0, 0]) {hi : ∀ a, off a + S1x2048x512.size a ≤ S64x2048x512.size a} :
    (M.slice (Rect.unit (s := S64x2048x512) off S1x2048x512.size hi) (fun _ => rfl)).squeeze S2048x512 squeezes_S1x2048x512_S2048x512 = rowW M k := by
  subst e; rfl
theorem rowV_of (M : Memref sig .tc .hbm S64x512x2048 .f32) {off : Fin 3 → ℕ} {k : ℕ} (e : off = ![k % 64, 0, 0]) {hi : ∀ a, off a + S1x512x2048.size a ≤ S64x512x2048.size a} :
    (M.slice (Rect.unit (s := S64x512x2048) off S1x512x2048.size hi) (fun _ => rfl)).squeeze S512x2048 squeezes_S1x512x2048_S512x2048 = rowV M k := by
  subst e; rfl
theorem semA_of {off : Fin 2 → ℕ} (k : ℕ) (j : Fin 3) (e : off = ![k % 2, j.val]) {hi : ∀ a, off a + S1x1.size a ≤ S2x3.size a} :
    (cc0_scratch6.slice (Rect.unit (s := S2x3) off S1x1.size hi)).squeeze S_ squeezes_S1x1_S_ = semA k j := by
  subst e; rfl

/-! ## The body's blocks -/

/-- The very first block starts its own copies. -/
def startP (i : grid0.Coords) (v0 v3 v8 v12 : BitVec 32) (k0_hw2 : k0_chk2 i v0 v3) (k0_hw1 : k0_chk1 i v0 v3 v8 v12) : Prog (TpuEff nD τ sig (Elt F) Λ₀ .tc) PUnit := do
  if k0_h1 : k0_cond1 i v0 = 1#1 then do
    let v26 : DmaSems sig S1x1 := cc0_scratch6.slice (Rect.unit (s := S2x3) (k0_off3 v12) S1x1.size (k0_off3_inb i v0 v3 v8 v12 k0_hw1 k0_h1))
    let v27 : DmaSems sig S_ := v26.squeeze S_ squeezes_S1x1_S_
    let v28 : Memref sig .tc .vmem S1x2048x512 .f32 := gM.slice (Rect.unit (s := S2x2048x512) (k0_off4 v12) S1x2048x512.size (k0_off4_inb i v0 v3 v8 v12 k0_hw1 k0_h1)) (fun _ => rfl)
    let v29 : Memref sig .tc .vmem S2048x512 .f32 := v28.squeeze S2048x512 squeezes_S1x2048x512_S2048x512
    let v30 : Memref sig .tc .hbm S1x2048x512 .f32 := wg.slice (Rect.unit (s := S64x2048x512) (k0_off5 v3) S1x2048x512.size (k0_off5_inb i v0 v3 k0_hw2 k0_h1)) (fun _ => rfl)
    let v31 : Memref sig .tc .hbm S2048x512 .f32 := v30.squeeze S2048x512 squeezes_S1x2048x512_S2048x512
    Prog.lift (.enqueueDma v31 (.here v29) (.dma v27.sem) ((View.wordExact_bits rfl).reshape _ _) ((View.wordExact_bits rfl).reshape _ _) ⟨Or.inl rfl, trivial⟩)
    let v32 : DmaSems sig S1x1 := cc0_scratch6.slice (Rect.unit (s := S2x3) (k0_off6 v12) S1x1.size (k0_off6_inb i v0 v3 v8 v12 k0_hw1 k0_h1))
    let v33 : DmaSems sig S_ := v32.squeeze S_ squeezes_S1x1_S_
    let v34 : Memref sig .tc .vmem S1x2048x512 .f32 := uM.slice (Rect.unit (s := S2x2048x512) (k0_off7 v12) S1x2048x512.size (k0_off7_inb i v0 v3 v8 v12 k0_hw1 k0_h1)) (fun _ => rfl)
    let v35 : Memref sig .tc .vmem S2048x512 .f32 := v34.squeeze S2048x512 squeezes_S1x2048x512_S2048x512
    let v36 : Memref sig .tc .hbm S1x2048x512 .f32 := wu.slice (Rect.unit (s := S64x2048x512) (k0_off5 v3) S1x2048x512.size (k0_off5_inb i v0 v3 k0_hw2 k0_h1)) (fun _ => rfl)
    let v37 : Memref sig .tc .hbm S2048x512 .f32 := v36.squeeze S2048x512 squeezes_S1x2048x512_S2048x512
    Prog.lift (.enqueueDma v37 (.here v35) (.dma v33.sem) ((View.wordExact_bits rfl).reshape _ _) ((View.wordExact_bits rfl).reshape _ _) ⟨Or.inl rfl, trivial⟩)
    let v38 : DmaSems sig S1x1 := cc0_scratch6.slice (Rect.unit (s := S2x3) (k0_off8 v12) S1x1.size (k0_off8_inb i v0 v3 v8 v12 k0_hw1 k0_h1))
    let v39 : DmaSems sig S_ := v38.squeeze S_ squeezes_S1x1_S_
    let v40 : Memref sig .tc .vmem S1x512x2048 .f32 := dM.slice (Rect.unit (s := S2x512x2048) (k0_off9 v12) S1x512x2048.size (k0_off9_inb i v0 v3 v8 v12 k0_hw1 k0_h1)) (fun _ => rfl)
    let v41 : Memref sig .tc .vmem S512x2048 .f32 := v40.squeeze S512x2048 squeezes_S1x512x2048_S512x2048
    let v42 : Memref sig .tc .hbm S1x512x2048 .f32 := wd.slice (Rect.unit (s := S64x512x2048) (k0_off10 v3) S1x512x2048.size (k0_off10_inb i v0 v3 k0_hw2 k0_h1)) (fun _ => rfl)
    let v43 : Memref sig .tc .hbm S512x2048 .f32 := v42.squeeze S512x2048 squeezes_S1x512x2048_S512x2048
    Prog.lift (.enqueueDma v43 (.here v41) (.dma v39.sem) ((View.wordExact_bits rfl).reshape _ _) ((View.wordExact_bits rfl).reshape _ _) ⟨Or.inl rfl, trivial⟩)
    pure ⟨⟩
  else do
    pure ⟨⟩
/-- An expert's first block. -/
def freshP (i : grid0.Coords) (arg5 : Memref sig .tc .vmem S256x2048 .f32) (harg5 : arg5.IsWhole) (arg9 : Memref sig .tc .vmem S256x2048 .f32) (harg9 : arg9.IsWhole) (v0 v3 v8 v12 : BitVec 32) (k0_hw3 : k0_chk3 i v0 v3 v8) (k0_hw1 : k0_chk1 i v0 v3 v8 v12) : Prog (TpuEff nD τ sig (Elt F) Λ₀ .tc) PUnit := do
  if k0_h2 : k0_cond2 i v0 v3 v8 = 1#1 then do
    k0_part1 i tE (Memref.isWhole_whole _) tO (Memref.isWhole_whole _) tX (Memref.isWhole_whole _) tN (Memref.isWhole_whole _) arg5 harg5 wg (Memref.isWhole_whole _) wu (Memref.isWhole_whole _) wd (Memref.isWhole_whole _) arg9 harg9 gM (Memref.isWhole_whole _) uM (Memref.isWhole_whole _) dM (Memref.isWhole_whole _) gC (Memref.isWhole_whole _) uC (Memref.isWhole_whole _) dC (Memref.isWhole_whole _) cc0_scratch6 (BitVec.ofNat 32 (i 0).val) v0 v3 v8 k0_hw3 v12 k0_hw1 (Scalar.remsi v12 2#32) k0_h2
    let v57 : Vec F S1x2048x512 .f32 ← Prog.lift (.load uM (Rect.unit (s := S2x2048x512) (k0_off26 v12) S1x2048x512.size (k0_off26_inb i v0 v3 v8 v12 k0_hw1 k0_h2)).toLoadRect (View.loadsAt_vmem h_S1x2048x512))
    let v60 : Vec F S2048x512 .bf16 ← Prog.lift (.load uC (Rect.unit (s := S2048x512) ![0, 0] S2048x512.size inb_S2048x512_S2048x512_0_0).toLoadRect (View.loadsAt_vmem h_S2048x512))
    Prog.lift (.store uC (Rect.unit (s := S2048x512) ![0, 0] S2048x512.size inb_S2048x512_S2048x512_0_0) (k0_pay1 v57) Finset.univ (View.stores_vmem h_S2048x512 ((Memref.isWhole_whole _).storeExact_slice rfl _ packedbf16_S2048x512_S2048x512_0_0) (fun _ => rfl)) (.inl rfl))
    let v64 : Vec F S1x512x2048 .f32 ← Prog.lift (.load dM (Rect.unit (s := S2x512x2048) (k0_off27 v12) S1x512x2048.size (k0_off27_inb i v0 v3 v8 v12 k0_hw1 k0_h2)).toLoadRect (View.loadsAt_vmem h_S1x512x2048))
    let v67 : Vec F S512x2048 .bf16 ← Prog.lift (.load dC (Rect.unit (s := S512x2048) ![0, 0] S512x2048.size inb_S512x2048_S512x2048_0_0).toLoadRect (View.loadsAt_vmem h_S512x2048))
    Prog.lift (.store dC (Rect.unit (s := S512x2048) ![0, 0] S512x2048.size inb_S512x2048_S512x2048_0_0) (k0_pay2 v64) Finset.univ (View.stores_vmem h_S512x2048 ((Memref.isWhole_whole _).storeExact_slice rfl _ packedbf16_S512x2048_S512x2048_0_0) (fun _ => rfl)) (.inl rfl))
    pure ⟨⟩
  else do
    pure ⟨⟩
/-- The result's block. -/
def resP (i : grid0.Coords) (arg5 arg9 : Memref sig .tc .vmem S256x2048 .f32) (v0 : BitVec 32) : Prog (TpuEff nD τ sig (Elt F) Λ₀ .tc) PUnit := do
  (if k0_cond4 i v0 = 1#1 then mlp arg5 arg9 else pure ⟨⟩)
  (if k0_cond5 i v0 = 1#1 then blank arg9 else pure ⟨⟩)

theorem op_congr {E : Type → Type _} {α β : Type} {e : E β} {k k' : β → Prog E α} (h : ∀ x, k x = k' x) : Prog.op e k = Prog.op e k' :=
  congrArg _ (funext h)

theorem bind_def {E : Type → Type _} {α β : Type} (p : Prog E α) (k : α → Prog E β) : Prog.bind p k = p >>= k := rfl

/-- The body: four words, then its blocks. -/
theorem body_eq (i : grid0.Coords) (arg5 : Memref sig .tc .vmem S256x2048 .f32) (harg5 : arg5.IsWhole) (arg9 : Memref sig .tc .vmem S256x2048 .f32) (harg9 : arg9.IsWhole) :
    cc0_experts (F := F) i tE (Memref.isWhole_whole _) tO (Memref.isWhole_whole _) tX (Memref.isWhole_whole _) tN (Memref.isWhole_whole _) arg5 harg5 wg (Memref.isWhole_whole _) wu (Memref.isWhole_whole _) wd (Memref.isWhole_whole _) arg9 harg9 gM (Memref.isWhole_whole _) uM (Memref.isWhole_whole _) dM (Memref.isWhole_whole _) gC (Memref.isWhole_whole _) uC (Memref.isWhole_whole _) dC (Memref.isWhole_whole _) cc0_scratch6
    = (do
      let v0 : Elt F .i32 ← smemLoad tN (Rect.unit (s := S1) ![0] S1.size inb_S1_S1_0) numel1_S1 rfl
      let v3 : Elt F .i32 ← smemLoad tE (Rect.unit (s := S192) (k0_off1 i) S1.size (k0_off1_inb i)) numel1_S1 rfl
      have k0_hw2 : k0_chk2 i v0 v3 := (← Prog.lift (TpuEff.assume (k0_chk2 i v0 v3) (k0_chk2.dec i v0 v3))).down
      let v8 : Elt F .i32 ← smemLoad tE (Rect.unit (s := S192) (k0_off2 i) S1.size (k0_off2_inb i)) numel1_S1 rfl
      have k0_hw3 : k0_chk3 i v0 v3 v8 := (← Prog.lift (TpuEff.assume (k0_chk3 i v0 v3 v8) (k0_chk3.dec i v0 v3 v8))).down
      let v12 : Elt F .i32 ← smemLoad tO (Rect.unit (s := S192) (k0_off1 i) S1.size (k0_off1_inb i)) numel1_S1 rfl
      have k0_hw1 : k0_chk1 i v0 v3 v8 v12 := (← Prog.lift (TpuEff.assume (k0_chk1 i v0 v3 v8 v12) (k0_chk1.dec i v0 v3 v8 v12))).down
      startP i v0 v3 v8 v12 k0_hw2 k0_hw1
      freshP i arg5 harg5 arg9 harg9 v0 v3 v8 v12 k0_hw3 k0_hw1
      resP i arg5 arg9 v0) := by
  rw [cc0_experts_eq_skeleton]; unfold cc0_experts_skel startP freshP resP
  refine op_congr fun f0 => op_congr fun f1 => op_congr fun hw2 => op_congr fun f2 => op_congr fun hw3 => op_congr fun f3 => op_congr fun hw1 => ?_
  dsimp only [Prog.bind]
  split_ifs <;> simp only [mlp, blank, bind_def, bind_assoc, pure_bind] <;> rfl

theorem startP_eq (i : grid0.Coords) (v0 v3 v8 v12 : BitVec 32) (hw2 : k0_chk2 i v0 v3) (hw1 : k0_chk1 i v0 v3 v8 v12) (h1 : k0_cond1 i v0 = 1#1) (h3 : v3.toNat < 64) (h12 : v12.toNat < 64) :
    startP (F := F) i v0 v3 v8 v12 hw2 hw1 = copy3 v12.toNat v3.toNat := by
  unfold startP copy3
  rw [dif_pos h1]
  simp only [slotW_of _ (off4_eq h12), slotW_of _ (off7_eq h12), slotV_of _ (off9_eq h12), rowW_of _ (off5_eq h3), rowV_of _ (off10_eq h3),
    semA_of v12.toNat 0 (off3_eq h12), semA_of v12.toNat 1 (off6_eq h12), semA_of v12.toNat 2 (off8_eq h12)]

theorem load_of {sp : CoreSpace} {s : Shape} {e : EltTy} {M : Memref sig .tc sp s e} {o o' : Fin s.rank → ℕ} (h : o = o') {sz : Fin s.rank → ℕ} {hi : ∀ a, o a + sz a ≤ s.size a} {hl : M.view.LoadsAt (Rect.unit o sz hi).toLoadRect}
    {α : Type} {k : Vec F ⟨s.rank, sz⟩ e → Prog (TpuEff nD τ sig (Elt F) Λ₀ .tc) α} :
    ((Prog.lift (.load M (Rect.unit o sz hi).toLoadRect hl) : Prog (TpuEff nD τ sig (Elt F) Λ₀ .tc) _) >>= k) = (Prog.lift (.load M (Rect.unit o' sz (h ▸ hi)).toLoadRect (by subst h; exact hl)) : Prog (TpuEff nD τ sig (Elt F) Λ₀ .tc) _) >>= k := by
  subst h; rfl

/-- An expert's first block, past its check: it waits for its weights, the next expert's start, its own are rounded. -/
theorem freshP_eq (i : grid0.Coords) (arg5 : Memref sig .tc .vmem S256x2048 .f32) (harg5 : arg5.IsWhole) (arg9 : Memref sig .tc .vmem S256x2048 .f32) (harg9 : arg9.IsWhole) (v0 v3 v8 v12 : BitVec 32) (hw3 : k0_chk3 i v0 v3 v8) (hw1 : k0_chk1 i v0 v3 v8 v12)
    (h2 : k0_cond2 i v0 v3 v8 = 1#1) (h3 : v3.toNat < 64) (h12 : v12.toNat < 64) :
    freshP (F := F) i arg5 harg5 arg9 harg9 v0 v3 v8 v12 hw3 hw1
      = (do
        wait3 v12.toNat v3.toNat
        let v45 : Elt F .i32 ← smemLoad tX (Rect.unit (s := S192) (k0_off18 i) S1.size (k0_off18_inb i)) numel1_S1 rfl
        have hw4 : k0_chk4 i v0 v3 v8 v12 v45 := (← Prog.lift (TpuEff.assume (k0_chk4 i v0 v3 v8 v12 v45) (k0_chk4.dec i v0 v3 v8 v12 v45))).down
        (if k0_cond3 v45 = 1#1 then copy3 (v12.toNat + 1) v45.toNat else pure ⟨⟩)
        convG v12.toNat
        convUD v12.toNat) := by
  unfold freshP
  rw [dif_pos h2, k0_part1_eq_skeleton]
  unfold k0_part1_skel wait3 convG convUD
  simp only [slotW_of _ (off12_eq h12), slotV_of _ (off16_eq h12), rowW_of _ (off13_eq h3), rowV_of _ (off17_eq h3),
    semA_of v12.toNat 0 (off11_eq h12), semA_of v12.toNat 1 (off14_eq h12), semA_of v12.toNat 2 (off15_eq h12),
    load_of (s := S2x2048x512) (off26_eq h12), load_of (s := S2x512x2048) (off27_eq h12)]
  refine op_congr fun _ => op_congr fun _ => op_congr fun _ => op_congr fun f => op_congr fun hw4 => ?_
  dsimp only [Prog.bind]
  have e : ∀ {v : BitVec 32}, k0_chk4 i v0 v3 v8 v12 v → k0_cond3 v = 1#1 → v.toNat < 64 := fun h hc => by
    have := k0_off21_inb i v0 v3 v8 v12 _ h h2 hc 0
    simp [k0_off21] at this; omega
  split_ifs with hc
  · simp only [slotW_of _ (off20_eq h12), slotV_of _ (off24_eq h12),
      semA_of (v12.toNat + 1) 0 (off19_eq h12), semA_of (v12.toNat + 1) 1 (off22_eq h12), semA_of (v12.toNat + 1) 2 (off23_eq h12),
      rowW_of _ (off21_eq (e hw4.down hc)), rowV_of _ (off25_eq (e hw4.down hc)), load_of (s := S2x2048x512) (off26_eq h12), load_of (s := S2x512x2048) (off27_eq h12), copy3, bind_def, bind_assoc, pure_bind]
    rfl
  · simp only [load_of (s := S2x2048x512) (off26_eq h12), load_of (s := S2x512x2048) (off27_eq h12), bind_def, bind_assoc, pure_bind]
    rfl

end Cert.Kernel4Ideal.Hand

end
-- ==== Proof.ExStep.lean ====
/-  The experts' call: one point of its body, by what its four words say. -/
module

public import proofs.«01_k».proof.Proof.ExBody
public import Idealize.ShloMosaic.Lib.Claim
public import Idealize.ShloMosaic.Lib.VecWindow
public import Idealize.ShloMosaic.Lib.WholeRead
public import Idealize.ShloMosaic.Lib.WordCmp
public import Idealize.ShloMosaic.Lib.Tactic
public import Idealize.ShloMosaic.Lib.Pipeline.Value

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The words of a point -/

section
variable (c : Dev nD)
abbrev TbBuf {S : Shape} {e : EltTy} (M : Memref sig .tc .smem S e) : Type := Buf (Elt F) (M.view.loc (c : Thread nD τ))
abbrev tbPt {S : Shape} {e : EltTy} (M : Memref sig .tc .smem S e) (f : TbBuf (F := F) c M) : sProp 𝕄 :=
  M.view.loc (c : Thread nD τ) ↦{fullShare.right} f
/-- The four tables, held as the pipeline hands them. -/
def tabs (fE : TbBuf (F := F) c tE) (fO : TbBuf (F := F) c tO) (fX : TbBuf (F := F) c tX) (fN : TbBuf (F := F) c tN) : sProp 𝕄 :=
  iprop(tbPt c tE fE ∗ tbPt c tO fO ∗ tbPt c tX fX ∗ tbPt c tN fN)
def word {s : Shape} (M : Memref sig .tc .smem s .i32) (r : Rect s) (h : r.shape.numel = 1) (f : TbBuf (F := F) c M) : BitVec 32 :=
  M.view.readAt (Elt F) r.toLoadRect f (Shape.Idx.first (h.symm ▸ Nat.one_pos))
abbrev w0 (f : TbBuf (F := F) c tN) : BitVec 32 := word c tN (Rect.unit (s := S1) ![0] S1.size inb_S1_S1_0) numel1_S1 f
abbrev w3 (i : grid0.Coords) (f : TbBuf (F := F) c tE) : BitVec 32 := word c tE (Rect.unit (s := S192) (k0_off1 i) S1.size (k0_off1_inb i)) numel1_S1 f
abbrev w8 (i : grid0.Coords) (f : TbBuf (F := F) c tE) : BitVec 32 := word c tE (Rect.unit (s := S192) (k0_off2 i) S1.size (k0_off2_inb i)) numel1_S1 f
abbrev w12 (i : grid0.Coords) (f : TbBuf (F := F) c tO) : BitVec 32 := word c tO (Rect.unit (s := S192) (k0_off1 i) S1.size (k0_off1_inb i)) numel1_S1 f
abbrev w45 (i : grid0.Coords) (f : TbBuf (F := F) c tX) : BitVec 32 := word c tX (Rect.unit (s := S192) (k0_off18 i) S1.size (k0_off18_inb i)) numel1_S1 f
end

theorem chk2_of (i : grid0.Coords) (v0 v3 : BitVec 32) (h3 : v3.toNat < 64) : k0_chk2 i v0 v3 :=
  ⟨fun _ => by rw [off5_eq h3]; exact rowW_inb _, fun _ => by rw [off10_eq h3]; exact rowV_inb _⟩
theorem chk3_of (i : grid0.Coords) (v0 v3 v8 : BitVec 32) (h3 : v3.toNat < 64) : k0_chk3 i v0 v3 v8 :=
  ⟨fun _ => by rw [off13_eq h3]; exact rowW_inb _, fun _ => by rw [off17_eq h3]; exact rowV_inb _⟩
theorem chk1_of (i : grid0.Coords) (v0 v3 v8 v12 : BitVec 32) (h : v12.toNat < 64) : k0_chk1 i v0 v3 v8 v12 :=
  ⟨fun _ => by rw [off3_eq h]; exact cell_inb _ 0, fun _ => by rw [off4_eq h]; exact slotW_inb _, fun _ => by rw [off6_eq h]; exact cell_inb _ 1, fun _ => by rw [off7_eq h]; exact slotW_inb _,
    fun _ => by rw [off8_eq h]; exact cell_inb _ 2, fun _ => by rw [off9_eq h]; exact slotV_inb _, fun _ => by rw [off11_eq h]; exact cell_inb _ 0, fun _ => by rw [off12_eq h]; exact slotW_inb _,
    fun _ => by rw [off14_eq h]; exact cell_inb _ 1, fun _ => by rw [off15_eq h]; exact cell_inb _ 2, fun _ => by rw [off16_eq h]; exact slotV_inb _, fun _ => by rw [off26_eq h]; exact slotW_inb _,
    fun _ => by rw [off27_eq h]; exact slotV_inb _⟩
theorem chk4_of (i : grid0.Coords) (v0 v3 v8 v12 v45 : BitVec 32) (h : v12.toNat < 64) (hx : k0_cond3 v45 = 1#1 → v45.toNat < 64) : k0_chk4 i v0 v3 v8 v12 v45 :=
  ⟨fun _ _ => by rw [off19_eq h]; exact cell_inb (_ + 1) 0, fun _ _ => by rw [off20_eq h]; exact slotW_inb (_ + 1), fun _ g => by rw [off21_eq (hx g)]; exact rowW_inb _, fun _ _ => by rw [off22_eq h]; exact cell_inb (_ + 1) 1,
    fun _ _ => by rw [off23_eq h]; exact cell_inb (_ + 1) 2, fun _ _ => by rw [off24_eq h]; exact slotV_inb (_ + 1), fun _ g => by rw [off25_eq (hx g)]; exact rowV_inb _⟩

/-- A word's load. -/
theorem run_word (c : Dev nD) {s : Shape} (M : Memref sig .tc .smem s .i32) (r : Rect s) (h1 : r.shape.numel = 1) (hp : EltTy.i32.packing = 1) (f : TbBuf (F := F) c M)
    (k : BitVec 32 → Prog (TpuEff nD τ sig (Elt F) Λ₀ .tc) PUnit) (P : sProp 𝕄) (K : PUnit → sProp 𝕄)
    (h : iprop(tbPt c M f ∗ P) ⊢ wp frame (wpE (defs₀ (F := F)) Variants.none c none) Set.univ (k (word c M r h1 f)) K) :
    iprop(tbPt c M f ∗ P) ⊢ wp frame (wpE (defs₀ (F := F)) Variants.none c none) Set.univ (smemLoad M r h1 hp >>= k) K := by
  show _ ⊢ wp frame (wpE (defs₀ (F := F)) Variants.none c none) Set.univ (Prog.op (.load M r.toLoadRect (View.loadsAt_rect (View.loads_smem_one hp h1))) fun g => k (g (Shape.Idx.first (h1.symm ▸ Nat.one_pos)))) K
  iintro ⟨H, HP⟩
  sl_step
  iapply h
  isplitl [H]; · iexact H
  iexact HP

/-- A check that holds. -/
theorem run_assume (c : Dev nD) {Q : Prop} (d : Decidable Q) (hq : Q) (k : PLift Q → Prog (TpuEff nD τ sig (Elt F) Λ₀ .tc) PUnit) (P : sProp 𝕄) (K : PUnit → sProp 𝕄)
    (h : P ⊢ wp frame (wpE (defs₀ (F := F)) Variants.none c none) Set.univ (k ⟨hq⟩) K) :
    P ⊢ wp frame (wpE (defs₀ (F := F)) Variants.none c none) Set.univ (Prog.lift (.assume Q d) >>= k) K :=
  BIBase.Entails.trans h (wp_assume (𝒱 := Variants.none) (c := (c : Thread nD τ)) (bd := none) (E := Set.univ) (d := d) hq)

/-- The body loads its four words; the rest runs at them. -/
theorem run_head (c : Dev nD) (i : grid0.Coords) (arg5 : Memref sig .tc .vmem S256x2048 .f32) (harg5 : arg5.IsWhole) (arg9 : Memref sig .tc .vmem S256x2048 .f32) (harg9 : arg9.IsWhole)
    (fE : TbBuf (F := F) c tE) (fO : TbBuf (F := F) c tO) (fX : TbBuf (F := F) c tX) (fN : TbBuf (F := F) c tN)
    (h2 : k0_chk2 i (w0 c fN) (w3 c i fE)) (h3 : k0_chk3 i (w0 c fN) (w3 c i fE) (w8 c i fE)) (h1 : k0_chk1 i (w0 c fN) (w3 c i fE) (w8 c i fE) (w12 c i fO))
    (P : sProp 𝕄) (K : PUnit → sProp 𝕄)
    (h : iprop(tabs c fE fO fX fN ∗ P) ⊢ wp frame (wpE (defs₀ (F := F)) Variants.none c none) Set.univ
      (do startP i (w0 c fN) (w3 c i fE) (w8 c i fE) (w12 c i fO) h2 h1
          freshP i arg5 harg5 arg9 harg9 (w0 c fN) (w3 c i fE) (w8 c i fE) (w12 c i fO) h3 h1
          resP i arg5 arg9 (w0 c fN)) K) :
    iprop(tabs c fE fO fX fN ∗ P) ⊢ wp frame (wpE (defs₀ (F := F)) Variants.none c none) Set.univ
      (cc0_experts (F := F) i tE (Memref.isWhole_whole _) tO (Memref.isWhole_whole _) tX (Memref.isWhole_whole _) tN (Memref.isWhole_whole _) arg5 harg5 wg (Memref.isWhole_whole _) wu (Memref.isWhole_whole _) wd (Memref.isWhole_whole _) arg9 harg9 gM (Memref.isWhole_whole _) uM (Memref.isWhole_whole _) dM (Memref.isWhole_whole _) gC (Memref.isWhole_whole _) uC (Memref.isWhole_whole _) dC (Memref.isWhole_whole _) cc0_scratch6) K := by
  rw [body_eq]
  unfold tabs at h ⊢
  have p1 : iprop((tbPt c tE fE ∗ tbPt c tO fO ∗ tbPt c tX fX ∗ tbPt c tN fN) ∗ P) ⊣⊢ iprop(tbPt c tN fN ∗ tbPt c tE fE ∗ tbPt c tO fO ∗ tbPt c tX fX ∗ P) := by
    constructor
    · iintro ⟨⟨HE, HO, HX, HN⟩, HP⟩
      isplitl [HN]; · iexact HN
      isplitl [HE]; · iexact HE
      isplitl [HO]; · iexact HO
      isplitl [HX]; · iexact HX
      iexact HP
    · iintro ⟨HN, HE, HO, HX, HP⟩
      isplitr [HP]
      · isplitl [HE]; · iexact HE
        isplitl [HO]; · iexact HO
        isplitl [HX]; · iexact HX
        iexact HN
      iexact HP
  have p2 : iprop(tbPt c tN fN ∗ tbPt c tE fE ∗ tbPt c tO fO ∗ tbPt c tX fX ∗ P) ⊣⊢ iprop(tbPt c tE fE ∗ tbPt c tN fN ∗ tbPt c tO fO ∗ tbPt c tX fX ∗ P) := by
    constructor <;>
    · iintro ⟨HN, HE, HO, HX, HP⟩
      isplitl [HE]; · iexact HE
      isplitl [HN]; · iexact HN
      isplitl [HO]; · iexact HO
      isplitl [HX]; · iexact HX
      iexact HP
  have p3 : iprop(tbPt c tE fE ∗ tbPt c tN fN ∗ tbPt c tO fO ∗ tbPt c tX fX ∗ P) ⊣⊢ iprop(tbPt c tO fO ∗ tbPt c tN fN ∗ tbPt c tE fE ∗ tbPt c tX fX ∗ P) := by
    constructor <;>
    · iintro ⟨HE, HN, HO, HX, HP⟩
      isplitl [HO]; · iexact HO
      isplitl [HN]; · iexact HN
      isplitl [HE]; · iexact HE
      isplitl [HX]; · iexact HX
      iexact HP
  refine p1.1.trans ?_
  refine run_word c tN (Rect.unit (s := S1) ![0] S1.size inb_S1_S1_0) numel1_S1 rfl fN _ _ K ?_
  refine p2.1.trans ?_
  refine run_word c tE (Rect.unit (s := S192) (k0_off1 i) S1.size (k0_off1_inb i)) numel1_S1 rfl fE _ _ K ?_
  refine run_assume c _ h2 _ _ K ?_
  refine run_word c tE (Rect.unit (s := S192) (k0_off2 i) S1.size (k0_off2_inb i)) numel1_S1 rfl fE _ _ K ?_
  refine run_assume c _ h3 _ _ K ?_
  refine p3.1.trans ?_
  refine run_word c tO (Rect.unit (s := S192) (k0_off1 i) S1.size (k0_off1_inb i)) numel1_S1 rfl fO _ _ K ?_
  refine run_assume c _ h1 _ _ K ?_
  exact ((p1.1.trans (p2.1.trans p3.1)) |> fun q => BIBase.Entails.trans ((p3.2.trans p2.2).trans p1.2) h)

/-! ## The weights, the slots and the copies between points -/

section
variable (c : Dev nD)
variable (Rg : Buf (Elt F) ((c : Thread nD τ).loc main_arg5)) (Ru : Buf (Elt F) ((c : Thread nD τ).loc main_arg6)) (Rd : Buf (Elt F) ((c : Thread nD τ).loc main_arg7))
/-- All weights, at slot `k`'s share. -/
def allW (k : ℕ) : sProp 𝕄 :=
  iprop((((c : Thread nD τ).loc main_arg5) ↦{half k} Rg) ∗ (((c : Thread nD τ).loc main_arg6) ↦{half k} Ru) ∗ (((c : Thread nD τ).loc main_arg7) ↦{half k} Rd))
/-- All weights but expert `e`'s, at slot `k`'s share. -/
def restW (k e : ℕ) : sProp 𝕄 :=
  iprop((((c : Thread nD τ).loc main_arg5) ↦[Finset.univ \ (rowW wg e).view.set]{half k} Rg) ∗ (((c : Thread nD τ).loc main_arg6) ↦[Finset.univ \ (rowW wu e).view.set]{half k} Ru)
    ∗ (((c : Thread nD τ).loc main_arg7) ↦[Finset.univ \ (rowV wd e).view.set]{half k} Rd))
theorem allW_split (k e : ℕ) : (allW c Rg Ru Rd k : sProp 𝕄) ⊣⊢ iprop(rows c Rg Ru Rd k e ∗ restW c Rg Ru Rd k e) := by
  unfold allW rows restW
  have a5 : ((((c : Thread nD τ).loc main_arg5) ↦{half k} Rg : sProp 𝕄)) ⊣⊢ iprop(rowWP c wg k e Rg ∗ (((c : Thread nD τ).loc main_arg5) ↦[Finset.univ \ (rowW wg e).view.set]{half k} Rg)) :=
    pointsTo_split_subset (Finset.subset_univ _)
  have a6 : ((((c : Thread nD τ).loc main_arg6) ↦{half k} Ru : sProp 𝕄)) ⊣⊢ iprop(rowWP c wu k e Ru ∗ (((c : Thread nD τ).loc main_arg6) ↦[Finset.univ \ (rowW wu e).view.set]{half k} Ru)) :=
    pointsTo_split_subset (Finset.subset_univ _)
  have a7 : ((((c : Thread nD τ).loc main_arg7) ↦{half k} Rd : sProp 𝕄)) ⊣⊢ iprop(rowVP c wd k e Rd ∗ (((c : Thread nD τ).loc main_arg7) ↦[Finset.univ \ (rowV wd e).view.set]{half k} Rd)) :=
    pointsTo_split_subset (Finset.subset_univ _)
  constructor
  · iintro ⟨H5, H6, H7⟩
    icases a5.1 $$ H5 with ⟨H5, G5⟩
    icases a6.1 $$ H6 with ⟨H6, G6⟩
    icases a7.1 $$ H7 with ⟨H7, G7⟩
    isplitl [H5 H6 H7]
    · isplitl [H5]; · iexact H5
      isplitl [H6]; · iexact H6
      iexact H7
    isplitl [G5]; · iexact G5
    isplitl [G6]; · iexact G6
    iexact G7
  · iintro ⟨⟨H5, H6, H7⟩, ⟨G5, G6, G7⟩⟩
    isplitl [H5 G5]
    · iapply a5.2
      isplitl [H5]; · iexact H5
      iexact G5
    isplitl [H6 G6]
    · iapply a6.2
      isplitl [H6]; · iexact H6
      iexact G6
    iapply a7.2
    isplitl [H7]; · iexact H7
    iexact G7
/-- A slot with no copy in flight. -/
def idle (k : ℕ) : sProp 𝕄 := iprop(cells0 c k ∗ slots c k ∗ allW c Rg Ru Rd k)
/-- A slot with expert `e`'s weights in flight. -/
def flight (k e : ℕ) : sProp 𝕄 := iprop(flying c Rg Ru Rd k e ∗ restW c Rg Ru Rd k e)
theorem slotW_two (M : Memref sig .tc .vmem S2x2048x512 .f32) (k : ℕ) : slotW M (k + 2) = slotW M k := slotW_of M (k := k) (off := ![(k + 2) % 2, 0, 0]) (by rw [Nat.add_mod_right])
theorem slotV_two (M : Memref sig .tc .vmem S2x512x2048 .f32) (k : ℕ) : slotV M (k + 2) = slotV M k := slotV_of M (k := k) (off := ![(k + 2) % 2, 0, 0]) (by rw [Nat.add_mod_right])
theorem semA_two (k : ℕ) (j : Fin 3) : semA (k + 2) j = semA k j := semA_of (off := ![(k + 2) % 2, j.val]) k j (by rw [Nat.add_mod_right])
theorem idle_two (k : ℕ) : (idle c Rg Ru Rd (k + 2) : sProp 𝕄) = idle c Rg Ru Rd k := by
  unfold idle cells0 slots allW cell slotWP slotVP half
  rw [semA_two, semA_two, semA_two, slotW_two, slotW_two, slotV_two, Nat.add_mod_right]
/-- The expert's weights, rounded, in the buffers the products read. -/
def conv (e : ℕ) : sProp 𝕄 :=
  iprop(owns (c : Thread nD τ) gC fullShare (roundW ((rowW wg e).view.read (Elt F) Rg)) ∗ owns (c : Thread nD τ) uC fullShare (roundW ((rowW wu e).view.read (Elt F) Ru))
    ∗ owns (c : Thread nD τ) dC fullShare (roundV ((rowV wd e).view.read (Elt F) Rd)))
def convAny : sProp 𝕄 :=
  iprop((∃ d : Vec F S2048x512 .bf16, owns (c : Thread nD τ) gC fullShare d) ∗ (∃ d : Vec F S2048x512 .bf16, owns (c : Thread nD τ) uC fullShare d) ∗ (∃ d : Vec F S512x2048 .bf16, owns (c : Thread nD τ) dC fullShare d))
/-- Slot `s` free, the other one either free or taking the next expert's weights. -/
def ready (s : ℕ) (x : BitVec 32) : sProp 𝕄 :=
  iprop(idle c Rg Ru Rd s ∗ (if k0_cond3 x = 1#1 then flight c Rg Ru Rd (s + 1) x.toNat else idle c Rg Ru Rd (s + 1)))
end

section
variable (c : Dev nD)
variable (Rg : Buf (Elt F) ((c : Thread nD τ).loc main_arg5)) (Ru : Buf (Elt F) ((c : Thread nD τ).loc main_arg6)) (Rd : Buf (Elt F) ((c : Thread nD τ).loc main_arg7))

theorem conv_any (e : ℕ) : (conv c Rg Ru Rd e : sProp 𝕄) ⊢ convAny c := by
  unfold conv convAny
  iintro ⟨Ha, Hb, Hc⟩
  isplitl [Ha]; · iexists _; iexact Ha
  isplitl [Hb]; · iexists _; iexact Hb
  iexists _; iexact Hc

/-- A word's load, and a check that holds, before a wand. -/
theorem run_word' {s : Shape} (M : Memref sig .tc .smem s .i32) (r : Rect s) (h1 : r.shape.numel = 1) (hp : EltTy.i32.packing = 1) (f : TbBuf (F := F) c M)
    (k : BitVec 32 → Prog (TpuEff nD τ sig (Elt F) Λ₀ .tc) PUnit) (K : PUnit → sProp 𝕄) :
    iprop(tbPt c M f ∗ (tbPt c M f -∗ wp frame (wpE (defs₀ (F := F)) Variants.none c none) Set.univ (k (word c M r h1 f)) K))
      ⊢ wp frame (wpE (defs₀ (F := F)) Variants.none c none) Set.univ (smemLoad M r h1 hp >>= k) K := by
  refine run_word c M r h1 hp f k _ K ?_
  iintro ⟨H, Hk⟩
  iapply Hk
  iexact H

theorem run_start (k e : ℕ) (W : Waits sig Unit) (K : PUnit → sProp 𝕄) :
    iprop(idle c Rg Ru Rd k ∗ owes (c : Thread nD τ) 0 W ∗ (iprop(flight c Rg Ru Rd k e ∗ (∃ W', owes (c : Thread nD τ) 0 W')) -∗ K ⟨⟩))
      ⊢ wp frame (wpE (defs₀ (F := F)) Variants.none c none) Set.univ (copy3 k e) K := by
  unfold idle flight
  iintro ⟨⟨Hc, Hs, Ha⟩, HW, Hk⟩
  icases (allW_split c Rg Ru Rd k e).1 $$ Ha with ⟨Hr, Hx⟩
  iapply (run_copy3 c k e Rg Ru Rd W K)
  isplitl [Hc]; · iexact Hc
  isplitl [Hs]; · iexact Hs
  isplitl [Hr]; · iexact Hr
  isplitl [HW]; · iexact HW
  iintro ⟨Hf, HW⟩
  iapply Hk
  isplitl [Hf Hx]
  · isplitl [Hf]; · iexact Hf
    iexact Hx
  iexact HW

/-- The next expert's copies start, if there is a next one. -/
theorem run_next (s : ℕ) (x : BitVec 32) (W : Waits sig Unit) (K : PUnit → sProp 𝕄) :
    iprop(idle c Rg Ru Rd (s + 1) ∗ owes (c : Thread nD τ) 0 W
        ∗ (iprop((if k0_cond3 x = 1#1 then flight c Rg Ru Rd (s + 1) x.toNat else idle c Rg Ru Rd (s + 1)) ∗ (∃ W', owes (c : Thread nD τ) 0 W')) -∗ K ⟨⟩))
      ⊢ wp frame (wpE (defs₀ (F := F)) Variants.none c none) Set.univ (if k0_cond3 x = 1#1 then copy3 (s + 1) x.toNat else pure ⟨⟩) K := by
  by_cases h : k0_cond3 x = 1#1
  · rw [if_pos h, if_pos h]; exact run_start c Rg Ru Rd (s + 1) x.toNat W K
  · rw [if_neg h, if_neg h]
    iintro ⟨Hi, HW, Hk⟩
    sl_step
    iapply Hk
    isplitl [Hi]; · iexact Hi
    iexists _; iexact HW

set_option maxHeartbeats 1000000 in
/-- An expert's first block: its weights have landed, they are rounded, and the next expert's copies start. -/
theorem run_fresh (i : grid0.Coords) (arg5 : Memref sig .tc .vmem S256x2048 .f32) (harg5 : arg5.IsWhole) (arg9 : Memref sig .tc .vmem S256x2048 .f32) (harg9 : arg9.IsWhole)
    (fE : TbBuf (F := F) c tE) (fO : TbBuf (F := F) c tO) (fX : TbBuf (F := F) c tX) (fN : TbBuf (F := F) c tN)
    (v0 v3 v8 v12 : BitVec 32) (hw3 : k0_chk3 i v0 v3 v8) (hw1 : k0_chk1 i v0 v3 v8 v12)
    (h2 : k0_cond2 i v0 v3 v8 = 1#1) (h3 : v3.toNat < 64) (h12 : v12.toNat < 64) (hx : k0_cond3 (w45 c i fX) = 1#1 → (w45 c i fX).toNat < 64)
    (W : Waits sig Unit) (K : PUnit → sProp 𝕄) :
    iprop(tabs c fE fO fX fN ∗ flight c Rg Ru Rd v12.toNat v3.toNat ∗ idle c Rg Ru Rd (v12.toNat + 1) ∗ convAny c ∗ owes (c : Thread nD τ) 0 W
        ∗ (iprop(tabs c fE fO fX fN ∗ ready c Rg Ru Rd v12.toNat (w45 c i fX) ∗ conv c Rg Ru Rd v3.toNat ∗ (∃ W', owes (c : Thread nD τ) 0 W')) -∗ K ⟨⟩))
      ⊢ wp frame (wpE (defs₀ (F := F)) Variants.none c none) Set.univ (freshP (F := F) i arg5 harg5 arg9 harg9 v0 v3 v8 v12 hw3 hw1) K := by
  rw [freshP_eq i arg5 harg5 arg9 harg9 v0 v3 v8 v12 hw3 hw1 h2 h3 h12, wp_bind]
  unfold flight tabs
  iintro ⟨⟨HE, HO, HX, HN⟩, ⟨Hf, Hr⟩, Hi, Hcv, HW, Hk⟩
  iapply (run_wait3 c v12.toNat v3.toNat Rg Ru Rd W _)
  isplitl [Hf]; · iexact Hf
  isplitl [HW]; · iexact HW
  iintro ⟨Hc, Hl, Hrw, ⟨%W1, HW⟩⟩
  iapply (run_word' c tX (Rect.unit (s := S192) (k0_off18 i) S1.size (k0_off18_inb i)) numel1_S1 rfl fX _ K)
  isplitl [HX]; · iexact HX
  iintro HX
  iapply (run_assume c _ (chk4_of i v0 v3 v8 v12 (w45 c i fX) h12 hx) _ _ K .rfl)
  rw [wp_bind]
  iapply (run_next c Rg Ru Rd v12.toNat (w45 c i fX) W1 _)
  isplitl [Hi]; · iexact Hi
  isplitl [HW]; · iexact HW
  iintro ⟨Hn, ⟨%W2, HW⟩⟩
  rw [wp_bind]
  unfold landedP convAny
  icases Hl with ⟨⟨%fg, Hlg⟩, ⟨%fu, Hlu⟩, ⟨%fd, Hld⟩⟩
  icases Hcv with ⟨Hca, Hcb, Hcc⟩
  iapply (run_convG c v12.toNat fg _ W2 _)
  isplitl [Hlg]; · iexact Hlg
  isplitl [Hca]; · iexact Hca
  isplitl [HW]; · iexact HW
  iintro ⟨Hlg, Hca, ⟨%W3, HW⟩⟩
  iapply (run_convUD c v12.toNat fu _ fd _ W3 _)
  isplitl [Hlu]; · iexact Hlu
  isplitl [Hld]; · iexact Hld
  isplitl [Hcb]; · iexact Hcb
  isplitl [Hcc]; · iexact Hcc
  isplitl [HW]; · iexact HW
  iintro ⟨Hlu, Hld, Hcb, Hcc, HW⟩
  iapply Hk
  isplitl [HE HO HX HN]
  · isplitl [HE]; · iexact HE
    isplitl [HO]; · iexact HO
    isplitl [HX]; · iexact HX
    iexact HN
  isplitl [Hc Hlg Hlu Hld Hrw Hr Hn]
  · unfold ready idle slots
    isplitl [Hc Hlg Hlu Hld Hrw Hr]
    · isplitl [Hc]; · iexact Hc
      isplitl [Hlg Hlu Hld]
      · isplitl [Hlg]; · iexact Hlg
        isplitl [Hlu]; · iexact Hlu
        iexact Hld
      iapply (allW_split c Rg Ru Rd v12.toNat v3.toNat).2
      isplitl [Hrw]; · iexact Hrw
      iexact Hr
    iexact Hn
  isplitl [Hca Hcb Hcc]
  · unfold conv
    isplitl [Hca]; · iexact Hca
    isplitl [Hcb]; · iexact Hcb
    iexact Hcc
  iexact HW
end

end Cert.Kernel4Ideal.Hand

end
-- ==== Proof.ExCase.lean ====
/-  The experts' call: its body at a point, case by case. -/
module

public import proofs.«01_k».proof.Proof.ExStep
public import Idealize.ShloMosaic.Lib.Claim
public import Idealize.ShloMosaic.Lib.VecWindow
public import Idealize.ShloMosaic.Lib.WholeRead
public import Idealize.ShloMosaic.Lib.WordCmp
public import Idealize.ShloMosaic.Lib.Tactic
public import Idealize.ShloMosaic.Lib.Pipeline.Value

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The branches, by the words -/

theorem slt_eq (i : grid0.Coords) (v : BitVec 32) (h : v.toNat ≤ 192) : Scalar.cmpi .slt (BitVec.ofNat 32 (i 0).val) v = BitVec.ofBool (decide ((i 0).val < v.toNat)) := by
  have hi : (i 0).val < 192 := (i 0).isLt
  have e : (BitVec.ofNat 32 (i 0).val).toNat = (i 0).val := WordCmp.toNat_ofNat_of_lt (by omega)
  refine (WordCmp.cmpi_slt_of_lt (by rw [e]; omega) (by omega)).trans ?_
  rw [e]
theorem eq0_eq (i : grid0.Coords) : Scalar.cmpi .eq (BitVec.ofNat 32 (i 0).val) 0#32 = BitVec.ofBool (decide ((i 0).val = 0)) := by
  have hi : (i 0).val < 192 := (i 0).isLt
  have e : (BitVec.ofNat 32 (i 0).val).toNat = (i 0).val := WordCmp.toNat_ofNat_of_lt (by omega)
  refine (WordCmp.cmpi_eq_eq_toNat _ _).trans ?_
  rw [e]; rfl
theorem ne_eq (v w : BitVec 32) : Scalar.cmpi .ne v w = BitVec.ofBool (decide (v ≠ w)) := WordCmp.cmpi_ne_eq _ _
theorem word_and : ∀ a b : Bool, Scalar.cmpi .ne (Scalar.extui (Scalar.andi (BitVec.ofBool a) (BitVec.ofBool b)) : BitVec 32) 0#32 = 1#1 ↔ a = true ∧ b = true := by decide
theorem word_or : ∀ a b d : Bool, Scalar.cmpi .ne (Scalar.extui (Scalar.andi (BitVec.ofBool a) (Scalar.ori (BitVec.ofBool b) (BitVec.ofBool d))) : BitVec 32) 0#32 = 1#1 ↔ a = true ∧ (b = true ∨ d = true) := by decide
theorem word_id : ∀ a : Bool, Scalar.cmpi .ne (Scalar.extui (BitVec.ofBool a) : BitVec 32) 0#32 = 1#1 ↔ a = true := by decide
theorem word_not : ∀ a : Bool, Scalar.cmpi .ne (Scalar.extui (Scalar.xori (BitVec.ofBool a) 1#1) : BitVec 32) 0#32 = 1#1 ↔ ¬a = true := by decide
theorem cond1_iff (i : grid0.Coords) (v0 : BitVec 32) (h : v0.toNat ≤ 192) : k0_cond1 i v0 = 1#1 ↔ (i 0).val < v0.toNat ∧ (i 0).val = 0 := by
  unfold k0_cond1; dsimp only; rw [slt_eq i v0 h, eq0_eq]
  exact (word_and _ _).trans (by simp only [decide_eq_true_eq])
theorem cond2_iff (i : grid0.Coords) (v0 v3 v8 : BitVec 32) (h : v0.toNat ≤ 192) : k0_cond2 i v0 v3 v8 = 1#1 ↔ (i 0).val < v0.toNat ∧ ((i 0).val = 0 ∨ v3 ≠ v8) := by
  unfold k0_cond2; dsimp only; rw [slt_eq i v0 h, eq0_eq, ne_eq v3 v8]
  exact (word_or _ _ _).trans (by simp only [decide_eq_true_eq])
theorem cond4_iff (i : grid0.Coords) (v0 : BitVec 32) (h : v0.toNat ≤ 192) : k0_cond4 i v0 = 1#1 ↔ (i 0).val < v0.toNat := by
  unfold k0_cond4; dsimp only; rw [slt_eq i v0 h]
  exact (word_id _).trans (by simp only [decide_eq_true_eq])
theorem cond5_iff (i : grid0.Coords) (v0 : BitVec 32) (h : v0.toNat ≤ 192) : k0_cond5 i v0 = 1#1 ↔ ¬(i 0).val < v0.toNat := by
  unfold k0_cond5; dsimp only; rw [slt_eq i v0 h]
  exact (word_not _).trans (by simp only [decide_eq_true_eq])
theorem cond3_iff (v : BitVec 32) : k0_cond3 v = 1#1 ↔ v.toNat < 2 ^ 31 := by
  unfold k0_cond3; dsimp only
  rw [show Scalar.cmpi .sge v 0#32 = BitVec.ofBool (decide (v.toNat < 2 ^ 31)) from WordCmp.cmpi_sge_zero v]
  exact (word_id _).trans (by simp only [decide_eq_true_eq])

section
variable (c : Dev nD)
variable (Rg : Buf (Elt F) ((c : Thread nD τ).loc main_arg5)) (Ru : Buf (Elt F) ((c : Thread nD τ).loc main_arg6)) (Rd : Buf (Elt F) ((c : Thread nD τ).loc main_arg7))

/-- A block of rows through the MLP of expert `e`. -/
def outP (x : Vec F S256x2048 .f32) (e : ℕ) : Vec F S256x2048 .f32 :=
  k0_pay3 x (roundW ((rowW wg e).view.read (Elt F) Rg)) (roundW ((rowW wu e).view.read (Elt F) Ru)) (roundV ((rowV wd e).view.read (Elt F) Rd))

/-- The result's block, at a block in use. -/
theorem run_res (i : grid0.Coords) (arg5 : Memref sig .tc .vmem S256x2048 .f32) (harg5 : arg5.IsWhole) (arg9 : Memref sig .tc .vmem S256x2048 .f32) (harg9 : arg9.IsWhole)
    (v0 : BitVec 32) (h0 : v0.toNat ≤ 192) (hu : (i 0).val < v0.toNat) (x : Vec F S256x2048 .f32) (e : ℕ) (W : Waits sig Unit) (K : PUnit → sProp 𝕄) :
    iprop(owns (c : Thread nD τ) arg5 fullShare x ∗ (∃ d, owns (c : Thread nD τ) arg9 fullShare d) ∗ conv c Rg Ru Rd e ∗ owes (c : Thread nD τ) 0 W
        ∗ (iprop(owns (c : Thread nD τ) arg5 fullShare x ∗ owns (c : Thread nD τ) arg9 fullShare (outP c Rg Ru Rd x e) ∗ conv c Rg Ru Rd e ∗ (∃ W', owes (c : Thread nD τ) 0 W')) -∗ K ⟨⟩))
      ⊢ wp frame (wpE (defs₀ (F := F)) Variants.none c none) Set.univ (resP (F := F) i arg5 arg9 v0) K := by
  unfold resP conv outP
  rw [if_pos ((cond4_iff i v0 h0).mpr hu), if_neg (fun h => (cond5_iff i v0 h0).mp h hu), wp_bind]
  iintro ⟨H5, H9, ⟨Hg, Hu, Hd⟩, HW, Hk⟩
  iapply (run_mlp c arg5 harg5 arg9 harg9 x _ _ _ W _)
  isplitl [H5]; · iexact H5
  isplitl [H9]; · iexact H9
  isplitl [Hg]; · iexact Hg
  isplitl [Hu]; · iexact Hu
  isplitl [Hd]; · iexact Hd
  isplitl [HW]; · iexact HW
  iintro ⟨H5, H9, Hg, Hu, Hd, HW⟩
  sl_step
  iapply Hk
  isplitl [H5]; · iexact H5
  isplitl [H9]; · iexact H9
  isplitl [Hg Hu Hd]
  · isplitl [Hg]; · iexact Hg
    isplitl [Hu]; · iexact Hu
    iexact Hd
  iexact HW

theorem startP_skip (i : grid0.Coords) (v0 v3 v8 v12 : BitVec 32) (hw2 : k0_chk2 i v0 v3) (hw1 : k0_chk1 i v0 v3 v8 v12) (h : ¬k0_cond1 i v0 = 1#1) : startP (F := F) i v0 v3 v8 v12 hw2 hw1 = pure ⟨⟩ := by
  unfold startP; rw [dif_neg h]
theorem freshP_skip (i : grid0.Coords) (arg5 : Memref sig .tc .vmem S256x2048 .f32) (harg5 : arg5.IsWhole) (arg9 : Memref sig .tc .vmem S256x2048 .f32) (harg9 : arg9.IsWhole)
    (v0 v3 v8 v12 : BitVec 32) (hw3 : k0_chk3 i v0 v3 v8) (hw1 : k0_chk1 i v0 v3 v8 v12) (h : ¬k0_cond2 i v0 v3 v8 = 1#1) : freshP (F := F) i arg5 harg5 arg9 harg9 v0 v3 v8 v12 hw3 hw1 = pure ⟨⟩ := by
  unfold freshP; rw [dif_neg h]

/-- A block not in use is filled with zeros. -/
theorem run_unused (i : grid0.Coords) (arg5 : Memref sig .tc .vmem S256x2048 .f32) (harg5 : arg5.IsWhole) (arg9 : Memref sig .tc .vmem S256x2048 .f32) (harg9 : arg9.IsWhole)
    (fE : TbBuf (F := F) c tE) (fO : TbBuf (F := F) c tO) (fX : TbBuf (F := F) c tX) (fN : TbBuf (F := F) c tN) (hN : (w0 c fN).toNat ≤ 192) (h3 : (w3 c i fE).toNat < 64) (h12 : (w12 c i fO).toNat < 64) (hu : ¬(i 0).val < (w0 c fN).toNat) (W : Waits sig Unit) (K : PUnit → sProp 𝕄) :
    iprop(tabs c fE fO fX fN ∗ (∃ d, owns (c : Thread nD τ) arg9 fullShare d) ∗ owes (c : Thread nD τ) 0 W
        ∗ (iprop(tabs c fE fO fX fN ∗ owns (c : Thread nD τ) arg9 fullShare (k0_pay4 (F := F)) ∗ (∃ W', owes (c : Thread nD τ) 0 W')) -∗ K ⟨⟩))
      ⊢ wp frame (wpE (defs₀ (F := F)) Variants.none c none) Set.univ (cc0_experts (F := F) i tE (Memref.isWhole_whole _) tO (Memref.isWhole_whole _) tX (Memref.isWhole_whole _) tN (Memref.isWhole_whole _) arg5 harg5 wg (Memref.isWhole_whole _) wu (Memref.isWhole_whole _) wd (Memref.isWhole_whole _) arg9 harg9 gM (Memref.isWhole_whole _) uM (Memref.isWhole_whole _) dM (Memref.isWhole_whole _) gC (Memref.isWhole_whole _) uC (Memref.isWhole_whole _) dC (Memref.isWhole_whole _) cc0_scratch6) K := by
  refine run_head c i arg5 harg5 arg9 harg9 fE fO fX fN (chk2_of i _ _ h3) (chk3_of i _ _ _ h3) (chk1_of i _ _ _ _ h12) _ K ?_
  rw [startP_skip _ _ _ _ _ _ _ (fun h => hu ((cond1_iff i _ hN).mp h).1), freshP_skip _ _ _ _ _ _ _ _ _ _ _ (fun h => hu ((cond2_iff i _ _ _ hN).mp h).1), pure_bind, pure_bind]
  unfold resP
  rw [if_neg (fun h => hu ((cond4_iff i _ hN).mp h)), if_pos ((cond5_iff i _ hN).mpr hu), pure_bind]
  iintro ⟨HT, H9, HW, Hk⟩
  iapply (run_blank c arg9 harg9 W K)
  isplitl [H9]; · iexact H9
  isplitl [HW]; · iexact HW
  iintro ⟨H9, HW⟩
  iapply Hk
  isplitl [HT]; · iexact HT
  isplitl [H9]; · iexact H9
  iexact HW

/-- A later block of the same expert. -/
theorem run_same (i : grid0.Coords) (arg5 : Memref sig .tc .vmem S256x2048 .f32) (harg5 : arg5.IsWhole) (arg9 : Memref sig .tc .vmem S256x2048 .f32) (harg9 : arg9.IsWhole)
    (fE : TbBuf (F := F) c tE) (fO : TbBuf (F := F) c tO) (fX : TbBuf (F := F) c tX) (fN : TbBuf (F := F) c tN) (hN : (w0 c fN).toNat ≤ 192) (h3 : (w3 c i fE).toNat < 64) (h12 : (w12 c i fO).toNat < 64) (hu : (i 0).val < (w0 c fN).toNat) (hp : (i 0).val ≠ 0) (hs : w3 c i fE = w8 c i fE)
    (x : Vec F S256x2048 .f32) (e : ℕ) (W : Waits sig Unit) (K : PUnit → sProp 𝕄) :
    iprop(tabs c fE fO fX fN ∗ owns (c : Thread nD τ) arg5 fullShare x ∗ (∃ d, owns (c : Thread nD τ) arg9 fullShare d) ∗ conv c Rg Ru Rd e ∗ owes (c : Thread nD τ) 0 W
        ∗ (iprop(tabs c fE fO fX fN ∗ owns (c : Thread nD τ) arg5 fullShare x ∗ owns (c : Thread nD τ) arg9 fullShare (outP c Rg Ru Rd x e) ∗ conv c Rg Ru Rd e ∗ (∃ W', owes (c : Thread nD τ) 0 W')) -∗ K ⟨⟩))
      ⊢ wp frame (wpE (defs₀ (F := F)) Variants.none c none) Set.univ (cc0_experts (F := F) i tE (Memref.isWhole_whole _) tO (Memref.isWhole_whole _) tX (Memref.isWhole_whole _) tN (Memref.isWhole_whole _) arg5 harg5 wg (Memref.isWhole_whole _) wu (Memref.isWhole_whole _) wd (Memref.isWhole_whole _) arg9 harg9 gM (Memref.isWhole_whole _) uM (Memref.isWhole_whole _) dM (Memref.isWhole_whole _) gC (Memref.isWhole_whole _) uC (Memref.isWhole_whole _) dC (Memref.isWhole_whole _) cc0_scratch6) K := by
  refine run_head c i arg5 harg5 arg9 harg9 fE fO fX fN (chk2_of i _ _ h3) (chk3_of i _ _ _ h3) (chk1_of i _ _ _ _ h12) _ K ?_
  rw [startP_skip _ _ _ _ _ _ _ (fun h => hp ((cond1_iff i _ hN).mp h).2), freshP_skip _ _ _ _ _ _ _ _ _ _ _ (fun h => ((cond2_iff i _ _ _ hN).mp h).2.elim hp fun g => g hs), pure_bind, pure_bind]
  iintro ⟨HT, H5, H9, Hc, HW, Hk⟩
  iapply (run_res c Rg Ru Rd i arg5 harg5 arg9 harg9 _ hN hu x e W K)
  isplitl [H5]; · iexact H5
  isplitl [H9]; · iexact H9
  isplitl [Hc]; · iexact Hc
  isplitl [HW]; · iexact HW
  iintro ⟨H5, H9, Hc, HW⟩
  iapply Hk
  isplitl [HT]; · iexact HT
  isplitl [H5]; · iexact H5
  isplitl [H9]; · iexact H9
  isplitl [Hc]; · iexact Hc
  iexact HW

/-- An expert's first block: its copies are in flight. -/
theorem run_moved (i : grid0.Coords) (arg5 : Memref sig .tc .vmem S256x2048 .f32) (harg5 : arg5.IsWhole) (arg9 : Memref sig .tc .vmem S256x2048 .f32) (harg9 : arg9.IsWhole)
    (fE : TbBuf (F := F) c tE) (fO : TbBuf (F := F) c tO) (fX : TbBuf (F := F) c tX) (fN : TbBuf (F := F) c tN) (hN : (w0 c fN).toNat ≤ 192) (h3 : (w3 c i fE).toNat < 64) (h12 : (w12 c i fO).toNat < 64) (hx : k0_cond3 (w45 c i fX) = 1#1 → (w45 c i fX).toNat < 64) (hu : (i 0).val < (w0 c fN).toNat) (hp : (i 0).val ≠ 0) (hs : w3 c i fE ≠ w8 c i fE)
    (x : Vec F S256x2048 .f32) (W : Waits sig Unit) (K : PUnit → sProp 𝕄) :
    iprop(tabs c fE fO fX fN ∗ owns (c : Thread nD τ) arg5 fullShare x ∗ (∃ d, owns (c : Thread nD τ) arg9 fullShare d)
        ∗ flight c Rg Ru Rd (w12 c i fO).toNat (w3 c i fE).toNat ∗ idle c Rg Ru Rd ((w12 c i fO).toNat + 1) ∗ convAny c ∗ owes (c : Thread nD τ) 0 W
        ∗ (iprop(tabs c fE fO fX fN ∗ owns (c : Thread nD τ) arg5 fullShare x ∗ owns (c : Thread nD τ) arg9 fullShare (outP c Rg Ru Rd x (w3 c i fE).toNat)
            ∗ ready c Rg Ru Rd (w12 c i fO).toNat (w45 c i fX) ∗ conv c Rg Ru Rd (w3 c i fE).toNat ∗ (∃ W', owes (c : Thread nD τ) 0 W')) -∗ K ⟨⟩))
      ⊢ wp frame (wpE (defs₀ (F := F)) Variants.none c none) Set.univ (cc0_experts (F := F) i tE (Memref.isWhole_whole _) tO (Memref.isWhole_whole _) tX (Memref.isWhole_whole _) tN (Memref.isWhole_whole _) arg5 harg5 wg (Memref.isWhole_whole _) wu (Memref.isWhole_whole _) wd (Memref.isWhole_whole _) arg9 harg9 gM (Memref.isWhole_whole _) uM (Memref.isWhole_whole _) dM (Memref.isWhole_whole _) gC (Memref.isWhole_whole _) uC (Memref.isWhole_whole _) dC (Memref.isWhole_whole _) cc0_scratch6) K := by
  refine run_head c i arg5 harg5 arg9 harg9 fE fO fX fN (chk2_of i _ _ h3) (chk3_of i _ _ _ h3) (chk1_of i _ _ _ _ h12) _ K ?_
  rw [startP_skip _ _ _ _ _ _ _ (fun h => hp ((cond1_iff i _ hN).mp h).2), pure_bind, wp_bind]
  iintro ⟨HT, H5, H9, Hf, Hi, Hc, HW, Hk⟩
  iapply (run_fresh c Rg Ru Rd i arg5 harg5 arg9 harg9 fE fO fX fN _ _ _ _ _ _ ((cond2_iff i _ _ _ hN).mpr ⟨hu, Or.inr hs⟩) h3 h12 hx W _)
  isplitl [HT]; · iexact HT
  isplitl [Hf]; · iexact Hf
  isplitl [Hi]; · iexact Hi
  isplitl [Hc]; · iexact Hc
  isplitl [HW]; · iexact HW
  iintro ⟨HT, Hr, Hc, ⟨%W1, HW⟩⟩
  iapply (run_res c Rg Ru Rd i arg5 harg5 arg9 harg9 _ hN hu x (w3 c i fE).toNat W1 K)
  isplitl [H5]; · iexact H5
  isplitl [H9]; · iexact H9
  isplitl [Hc]; · iexact Hc
  isplitl [HW]; · iexact HW
  iintro ⟨H5, H9, Hc, HW⟩
  iapply Hk
  isplitl [HT]; · iexact HT
  isplitl [H5]; · iexact H5
  isplitl [H9]; · iexact H9
  isplitl [Hr]; · iexact Hr
  isplitl [Hc]; · iexact Hc
  iexact HW

/-- The very first block: it starts its own copies. -/
theorem run_first (i : grid0.Coords) (arg5 : Memref sig .tc .vmem S256x2048 .f32) (harg5 : arg5.IsWhole) (arg9 : Memref sig .tc .vmem S256x2048 .f32) (harg9 : arg9.IsWhole)
    (fE : TbBuf (F := F) c tE) (fO : TbBuf (F := F) c tO) (fX : TbBuf (F := F) c tX) (fN : TbBuf (F := F) c tN) (hN : (w0 c fN).toNat ≤ 192) (h3 : (w3 c i fE).toNat < 64) (h12 : (w12 c i fO).toNat < 64) (hx : k0_cond3 (w45 c i fX) = 1#1 → (w45 c i fX).toNat < 64) (hu : (i 0).val < (w0 c fN).toNat) (hp : (i 0).val = 0)
    (x : Vec F S256x2048 .f32) (W : Waits sig Unit) (K : PUnit → sProp 𝕄) :
    iprop(tabs c fE fO fX fN ∗ owns (c : Thread nD τ) arg5 fullShare x ∗ (∃ d, owns (c : Thread nD τ) arg9 fullShare d)
        ∗ idle c Rg Ru Rd (w12 c i fO).toNat ∗ idle c Rg Ru Rd ((w12 c i fO).toNat + 1) ∗ convAny c ∗ owes (c : Thread nD τ) 0 W
        ∗ (iprop(tabs c fE fO fX fN ∗ owns (c : Thread nD τ) arg5 fullShare x ∗ owns (c : Thread nD τ) arg9 fullShare (outP c Rg Ru Rd x (w3 c i fE).toNat)
            ∗ ready c Rg Ru Rd (w12 c i fO).toNat (w45 c i fX) ∗ conv c Rg Ru Rd (w3 c i fE).toNat ∗ (∃ W', owes (c : Thread nD τ) 0 W')) -∗ K ⟨⟩))
      ⊢ wp frame (wpE (defs₀ (F := F)) Variants.none c none) Set.univ (cc0_experts (F := F) i tE (Memref.isWhole_whole _) tO (Memref.isWhole_whole _) tX (Memref.isWhole_whole _) tN (Memref.isWhole_whole _) arg5 harg5 wg (Memref.isWhole_whole _) wu (Memref.isWhole_whole _) wd (Memref.isWhole_whole _) arg9 harg9 gM (Memref.isWhole_whole _) uM (Memref.isWhole_whole _) dM (Memref.isWhole_whole _) gC (Memref.isWhole_whole _) uC (Memref.isWhole_whole _) dC (Memref.isWhole_whole _) cc0_scratch6) K := by
  refine run_head c i arg5 harg5 arg9 harg9 fE fO fX fN (chk2_of i _ _ h3) (chk3_of i _ _ _ h3) (chk1_of i _ _ _ _ h12) _ K ?_
  rw [startP_eq i _ _ _ _ _ _ ((cond1_iff i _ hN).mpr ⟨hu, hp⟩) h3 h12, wp_bind]
  iintro ⟨HT, H5, H9, Hj, Hi, Hc, HW, Hk⟩
  iapply (run_start c Rg Ru Rd (w12 c i fO).toNat (w3 c i fE).toNat W _)
  isplitl [Hj]; · iexact Hj
  isplitl [HW]; · iexact HW
  iintro ⟨Hf, ⟨%W0, HW⟩⟩
  rw [wp_bind]
  iapply (run_fresh c Rg Ru Rd i arg5 harg5 arg9 harg9 fE fO fX fN _ _ _ _ _ _ ((cond2_iff i _ _ _ hN).mpr ⟨hu, Or.inl hp⟩) h3 h12 hx W0 _)
  isplitl [HT]; · iexact HT
  isplitl [Hf]; · iexact Hf
  isplitl [Hi]; · iexact Hi
  isplitl [Hc]; · iexact Hc
  isplitl [HW]; · iexact HW
  iintro ⟨HT, Hr, Hc, ⟨%W1, HW⟩⟩
  iapply (run_res c Rg Ru Rd i arg5 harg5 arg9 harg9 _ hN hu x (w3 c i fE).toNat W1 K)
  isplitl [H5]; · iexact H5
  isplitl [H9]; · iexact H9
  isplitl [Hc]; · iexact Hc
  isplitl [HW]; · iexact HW
  iintro ⟨H5, H9, Hc, HW⟩
  iapply Hk
  isplitl [HT]; · iexact HT
  isplitl [H5]; · iexact H5
  isplitl [H9]; · iexact H9
  isplitl [Hr]; · iexact Hr
  isplitl [Hc]; · iexact Hc
  iexact HW
end

end Cert.Kernel4Ideal.Hand

end
-- ==== Proof.ExTables.lean ====
/-  The experts' call: what the tables hold. -/
module

public import proofs.«01_k».proof.Proof.ExCase
public import proofs.«01_k».proof.Pre_tables_ok
public import Idealize.ShloMosaic.Lib.StableHlo.Predicate
public import Idealize.ShloMosaic.Lib.Claim
public import Idealize.ShloMosaic.Lib.VecWindow
public import Idealize.ShloMosaic.Lib.WholeRead
public import Idealize.ShloMosaic.Lib.WordCmp
public import Idealize.ShloMosaic.Lib.Tactic
public import Idealize.ShloMosaic.Lib.Pipeline.Value

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the precondition says of the tables -/

/-- Table entry `n`, as an index; and the one entry of the count. -/
def at192 (n : ℕ) : S192.Idx := fun a => ⟨n % 192, by obtain rfl : a = 0 := Subsingleton.elim _ _; exact Nat.mod_lt _ (by decide)⟩
def at1 : S1.Idx := fun a => ⟨0, by obtain rfl : a = 0 := Subsingleton.elim _ _; decide⟩

/-- The tables a routing makes: experts `E`, ordinals `O`, next experts `X`, and `u` blocks in use. -/
structure Good (E O X : ℕ → BitVec 32) (u : ℕ) : Prop where
  pos : 1 ≤ u
  le : u ≤ 192
  ex : ∀ n, n < 192 → (E n).toNat < 64
  ord : ∀ n, n < 192 → (O n).toNat < 64
  last : ¬(X (u - 1)).toNat < 2 ^ 31
  step : ∀ n, n + 1 < u → (E n = E (n + 1) ∧ O n = O (n + 1) ∧ X n = X (n + 1)) ∨ (E n ≠ E (n + 1) ∧ X n = E (n + 1) ∧ (O (n + 1)).toNat = (O n).toNat + 1)

theorem Good.next {E O X : ℕ → BitVec 32} {u : ℕ} (g : Good E O X u) : ∀ d n, n + d + 1 = u → (X n).toNat < 2 ^ 31 → (X n).toNat < 64
  | 0, n, h, hx => absurd (by rw [show u - 1 = n by omega]; exact hx) g.last
  | d + 1, n, h, hx => by
    rcases g.step n (by omega) with ⟨-, -, e⟩ | ⟨-, e, -⟩
    · rw [e] at hx ⊢; exact Good.next g d (n + 1) (by omega) hx
    · rw [e]; exact g.ex _ (by have := g.le; omega)

/-- One entry of the precondition, as a function of the words it reads. -/
def okWord (i u e f o p a b : BitVec 32) : Prop :=
  (1 ≤ u.toInt ∧ u.toInt ≤ 192) ∧ ((0 ≤ e.toInt ∧ e.toInt < 64) ∧ 0 ≤ f.toInt ∧ f.toInt < 64) ∧ ((0 ≤ o.toInt ∧ o.toInt < 64) ∧ 0 ≤ p.toInt ∧ p.toInt < 64)
    ∧ ((i + 1#32 ≠ u ∨ a.toInt < 0) ∧ (u ≠ 192#32 ∨ i ≠ 190#32 ∨ b.toInt < 0))
    ∧ (u.toInt ≤ (i + 1#32).toInt ∨ (e = f ∧ o = p ∧ a = b) ∨ (e ≠ f ∧ a = f ∧ p = o + 1#32))

theorem and_iff (x y : BitVec 1) : IntOp.andi x y = 1#1 ↔ x = 1#1 ∧ y = 1#1 := by revert x y; decide
theorem or_iff (x y : BitVec 1) : IntOp.ori x y = 1#1 ↔ x = 1#1 ∨ y = 1#1 := by revert x y; decide
theorem slt_iff (x y : BitVec 32) : IntOp.cmpi .slt x y = 1#1 ↔ x.toInt < y.toInt := by rw [WordCmp.cmpi_slt_eq, WordCmp.ofBool_decide_eq_one_iff]
theorem sge_iff (x y : BitVec 32) : IntOp.cmpi .sge x y = 1#1 ↔ y.toInt ≤ x.toInt := by rw [WordCmp.cmpi_sge_eq, WordCmp.ofBool_decide_eq_one_iff]
theorem sle_iff (x y : BitVec 32) : IntOp.cmpi .sle x y = 1#1 ↔ x.toInt ≤ y.toInt := by rw [WordCmp.cmpi_sle_eq, WordCmp.ofBool_decide_eq_one_iff]
theorem eq_iff (x y : BitVec 32) : IntOp.cmpi .eq x y = 1#1 ↔ x = y := by rw [WordCmp.cmpi_eq_eq, WordCmp.ofBool_decide_eq_one_iff]
theorem ne_iff (x y : BitVec 32) : IntOp.cmpi .ne x y = 1#1 ↔ x ≠ y := by rw [WordCmp.cmpi_ne_eq, WordCmp.ofBool_decide_eq_one_iff]

section
variable [hp : Cert.Pre_tables_ok.Facts]
open Cert.Pre_tables_ok (S191 S_)
def at191 (n : ℕ) (h : n < 191) : S191.Idx := fun a => ⟨n, by obtain rfl : a = 0 := Subsingleton.elim _ _; exact h⟩

theorem okWord_of (a0 a1 a2 : IVec S192 32) (a3 : IVec S1 32) (a4 : FVec F S49152x2048 .f32) (a5 a6 : FVec F S64x2048x512 .f32) (a7 : FVec F S64x512x2048 .f32)
    (h : Cert.Pre_tables_ok.fn (F := F) a0 a1 a2 a3 a4 a5 a6 a7 = fun _ => 1#1) (n : ℕ) (hn : n < 191) :
    okWord (BitVec.ofNat 32 n) (a3 at1) (a0 (at192 n)) (a0 (at192 (n + 1))) (a1 (at192 n)) (a1 (at192 (n + 1))) (a2 (at192 n)) (a2 (at192 (n + 1))) := by
  have e := congrFun h (at191 n hn)
  have s0 : ∀ (x : IVec S192 32), extractStridedSlice S191 ![0] x Cert.Pre_tables_ok.Facts.slices_S192_S191_0 (at191 n hn) = x (at192 n) := fun x => by
    unfold extractStridedSlice
    refine congrArg x (funext fun a => Fin.ext ?_)
    obtain rfl : a = 0 := Subsingleton.elim _ _
    show 0 + n = n % 192
    omega
  have s1 : ∀ (x : IVec S192 32), extractStridedSlice S191 ![1] x Cert.Pre_tables_ok.Facts.slices_S192_S191_1 (at191 n hn) = x (at192 (n + 1)) := fun x => by
    unfold extractStridedSlice
    refine congrArg x (funext fun a => Fin.ext ?_)
    obtain rfl : a = 0 := Subsingleton.elim _ _
    show 1 + n = (n + 1) % 192
    omega
  have s3 : ∀ j, shapeCast S_ a3 Cert.Pre_tables_ok.Facts.shapeCasts_S1_S_ j = a3 at1 := fun j => by
    unfold shapeCast
    refine congrArg a3 (funext fun a => Fin.ext ?_)
    obtain rfl : a = 0 := Subsingleton.elim _ _
    exact Nat.lt_one_iff.mp (Fin.isLt _)
  have s4 : iotaInDim S191 32 0 (at191 n hn) = BitVec.ofNat 32 n := rfl
  simp only [Cert.Pre_tables_ok.fn, Cert.Pre_tables_ok.fn_part1, Cert.Pre_tables_ok.fn_part2, Cert.Pre_tables_ok.fn_part3, Idealize.ShloMosaic.andi, Idealize.ShloMosaic.ori,
    Idealize.ShloMosaic.cmpi, Idealize.ShloMosaic.addi, broadcastInDim, constantI, and_iff, or_iff, slt_iff, sge_iff, sle_iff, eq_iff, ne_iff, s0, s1, s3, s4] at e
  unfold okWord
  have l1 : (1#32).toInt = 1 := rfl
  have l192 : (192#32).toInt = 192 := rfl
  have l0 : (0#32).toInt = 0 := rfl
  have l64 : (64#32).toInt = 64 := rfl
  rw [l1, l192, l0, l64] at e
  unfold IntOp.addi at e
  obtain ⟨⟨⟨⟨⟨u1, u2⟩, ⟨⟨e1, e2⟩, f1⟩, f2⟩, ⟨⟨o1, o2⟩, p1⟩, p2⟩, x1, x2⟩, y⟩ := e
  refine ⟨⟨u1, u2⟩, ⟨⟨e1, e2⟩, f1, f2⟩, ⟨⟨o1, o2⟩, p1, p2⟩, ⟨x1, ?_⟩, ?_⟩
  · rcases x2 with (x | x) | x
    · exact Or.inl x
    · exact Or.inr (Or.inl x)
    · exact Or.inr (Or.inr x)
  · rcases y with (x | ⟨⟨x, y⟩, z⟩) | ⟨⟨x, y⟩, z⟩
    · exact Or.inl x
    · exact Or.inr (Or.inl ⟨x, y, z⟩)
    · exact Or.inr (Or.inr ⟨x, y, z⟩)
end

theorem small {x : BitVec 32} (h : 0 ≤ x.toInt) (k : ℕ) (hk : x.toInt < k) : x.toNat < k := by
  rw [BitVec.toInt_eq_toNat_cond] at h hk
  split at h <;> omega
theorem neg_big {x : BitVec 32} (h : x.toInt < 0) : ¬x.toNat < 2 ^ 31 := by
  rw [BitVec.toInt_eq_toNat_cond] at h
  split at h <;> omega

/-- So the tables are what a routing makes. -/
theorem good_of (E O X : ℕ → BitVec 32) (u : BitVec 32) (h : ∀ n, n < 191 → okWord (BitVec.ofNat 32 n) u (E n) (E (n + 1)) (O n) (O (n + 1)) (X n) (X (n + 1))) : Good E O X u.toNat := by
  obtain ⟨⟨hu1, hu2⟩, -⟩ := h 0 (by decide)
  have hle : u.toNat < 193 := small (by omega) 193 (by omega)
  have ui : u.toInt = u.toNat := WordCmp.toInt_eq_toNat_of_lt_half (by omega)
  have hi : ∀ n, n < 191 → (BitVec.ofNat 32 n + 1#32).toNat = n + 1 := fun n hn => by
    rw [BitVec.toNat_add, WordCmp.toNat_ofNat_of_lt (by omega)]; show (n + 1) % 2 ^ 32 = n + 1; omega
  refine ⟨by omega, by omega, fun n hn => ?_, fun n hn => ?_, ?_, fun n hn => ?_⟩
  · by_cases c : n < 191
    · obtain ⟨-, ⟨⟨a, b⟩, -⟩, -⟩ := h n c; exact small a 64 b
    · obtain ⟨-, ⟨-, a, b⟩, -⟩ := h 190 (by decide); rw [show n = 190 + 1 by omega]; exact small a 64 b
  · by_cases c : n < 191
    · obtain ⟨-, -, ⟨⟨a, b⟩, -⟩, -⟩ := h n c; exact small a 64 b
    · obtain ⟨-, -, ⟨-, a, b⟩, -⟩ := h 190 (by decide); rw [show n = 190 + 1 by omega]; exact small a 64 b
  · by_cases c : u.toNat = 192
    · obtain ⟨-, -, -, ⟨-, l⟩, -⟩ := h 190 (by decide)
      rw [c]
      rcases l with l | l | l
      · exact absurd (BitVec.eq_of_toNat_eq (by rw [c]; rfl)) l
      · exact absurd rfl l
      · exact neg_big l
    · obtain ⟨-, -, -, ⟨l, -⟩, -⟩ := h (u.toNat - 1) (by omega)
      rcases l with l | l
      · exact absurd (BitVec.eq_of_toNat_eq (by rw [hi _ (by omega)]; omega)) l
      · exact neg_big l
  · obtain ⟨-, -, ⟨⟨o1, o2⟩, -⟩, -, s⟩ := h n (by omega)
    rcases s with s | s | ⟨s1, s2, s3⟩
    · have := hi n (by omega)
      rw [WordCmp.toInt_eq_toNat_of_lt_half (x := BitVec.ofNat 32 n + 1#32) (by omega)] at s
      omega
    · exact Or.inl s
    · refine Or.inr ⟨s1, s2, ?_⟩
      have := small o1 64 o2
      rw [s3, BitVec.toNat_add]; show ((O n).toNat + 1) % 2 ^ 32 = _; omega

/-! ## The words of a point, read off the tables -/

theorem w0_eq (c : Dev nD) (f : TbBuf (F := F) c tN) : w0 c f = f at1 := by
  unfold w0 word
  refine congrArg f (funext fun (a : Fin 1) => Fin.ext ?_)
  obtain rfl : a = 0 := Subsingleton.elim _ _
  exact Nat.lt_one_iff.mp (Fin.isLt _)
theorem off1_at (i : grid0.Coords) : k0_off1 i 0 = (i 0).val := by
  have hi : (i 0).val < 192 := (i 0).isLt
  exact WordCmp.toNat_ofNat_of_lt (w := 32) (by omega)
theorem off18_at (i : grid0.Coords) : k0_off18 i 0 = (i 0).val := by
  have hi : (i 0).val < 192 := (i 0).isLt
  exact WordCmp.toNat_ofNat_of_lt (w := 32) (by omega)
theorem off2_at (i : grid0.Coords) (h : (i 0).val ≠ 0) : k0_off2 i 0 = (i 0).val - 1 := by
  have hi : (i 0).val < 192 := (i 0).isLt
  have : ∀ n : Fin 192, n.val ≠ 0 → (Scalar.maxsi (Scalar.subi (BitVec.ofNat 32 n.val) 1#32) 0#32).toNat = n.val - 1 := by decide +kernel
  exact this ⟨(i 0).val, hi⟩ h
theorem w3_eq (c : Dev nD) (i : grid0.Coords) (f : TbBuf (F := F) c tE) : w3 c i f = f (at192 (i 0).val) := by
  have hi : (i 0).val < 192 := (i 0).isLt
  unfold w3 word
  refine congrArg f (funext fun (a : Fin 1) => Fin.ext ?_)
  obtain rfl : a = 0 := Subsingleton.elim _ _
  show k0_off1 i 0 + 1 * 0 = (i 0).val % 192
  rw [off1_at]; omega
theorem w8_eq (c : Dev nD) (i : grid0.Coords) (h : (i 0).val ≠ 0) (f : TbBuf (F := F) c tE) : w8 c i f = f (at192 ((i 0).val - 1)) := by
  have hi : (i 0).val < 192 := (i 0).isLt
  unfold w8 word
  refine congrArg f (funext fun (a : Fin 1) => Fin.ext ?_)
  obtain rfl : a = 0 := Subsingleton.elim _ _
  show k0_off2 i 0 + 1 * 0 = ((i 0).val - 1) % 192
  rw [off2_at i h]; omega
theorem w12_eq (c : Dev nD) (i : grid0.Coords) (f : TbBuf (F := F) c tO) : w12 c i f = f (at192 (i 0).val) := by
  have hi : (i 0).val < 192 := (i 0).isLt
  unfold w12 word
  refine congrArg f (funext fun (a : Fin 1) => Fin.ext ?_)
  obtain rfl : a = 0 := Subsingleton.elim _ _
  show k0_off1 i 0 + 1 * 0 = (i 0).val % 192
  rw [off1_at]; omega
theorem w45_eq (c : Dev nD) (i : grid0.Coords) (f : TbBuf (F := F) c tX) : w45 c i f = f (at192 (i 0).val) := by
  have hi : (i 0).val < 192 := (i 0).isLt
  unfold w45 word
  refine congrArg f (funext fun (a : Fin 1) => Fin.ext ?_)
  obtain rfl : a = 0 := Subsingleton.elim _ _
  show k0_off18 i 0 + 1 * 0 = (i 0).val % 192
  rw [off18_at]; omega

/-- The staged rows' block index, at the count `v`. -/
theorem rows_block (v : BitVec 32) (h1 : 1 ≤ v.toNat) (h2 : v.toNat ≤ 192) (n : ℕ) (hn : n < 192) : (Scalar.minsi (BitVec.ofNat 32 n) (Scalar.subi v 1#32)).toNat = min n (v.toNat - 1) := by
  have : ∀ (a b : Fin 193), b.val < 192 → 1 ≤ a.val → (Scalar.minsi (BitVec.ofNat 32 b.val) (Scalar.subi (BitVec.ofNat 32 a.val) 1#32)).toNat = min b.val (a.val - 1) := by decide +kernel
  have e := this ⟨v.toNat, by omega⟩ ⟨n, by omega⟩ hn h1
  rw [show BitVec.ofNat 32 (⟨v.toNat, by omega⟩ : Fin 193).val = v from BitVec.eq_of_toNat_eq (WordCmp.toNat_ofNat_of_lt (by show v.toNat < 2 ^ 32; omega))] at e
  exact e

end Cert.Kernel4Ideal.Hand

end
-- ==== Proof.ExSlots.lean ====
/-  The experts' call: the copies' state between points, and the body from one to the next. -/
module

public import proofs.«01_k».proof.Proof.ExTables
public import Idealize.ShloMosaic.Lib.Claim
public import Idealize.ShloMosaic.Lib.VecWindow
public import Idealize.ShloMosaic.Lib.WholeRead
public import Idealize.ShloMosaic.Lib.WordCmp
public import Idealize.ShloMosaic.Lib.Tactic
public import Idealize.ShloMosaic.Lib.Pipeline.Value

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The two slots of each buffer -/

section
variable (c : Dev nD)

theorem gSlot_set (k : ℕ) : (slotW gM k).view.set = (Rect.unit (s := S2x2048x512) ![k % 2, 0, 0] S1x2048x512.size (slotW_inb k)).set := by
  unfold slotW
  exact (View.set_reshape _ _).trans (View.set_slice_whole _ _)
theorem gSlot_rects : (Finset.univ : Finset S2x2048x512.Idx) \ (Rect.unit (s := S2x2048x512) ![0 % 2, 0, 0] S1x2048x512.size (slotW_inb 0)).set = (Rect.unit (s := S2x2048x512) ![1 % 2, 0, 0] S1x2048x512.size (slotW_inb 1)).set := by
  ext i
  rw [Finset.mem_sdiff, Rect.mem_set_unit, Rect.mem_set_unit]
  have b0 : (i (0 : Fin 3)).val < 2 := (i (0 : Fin 3)).isLt
  have b1 : (i (1 : Fin 3)).val < 2048 := (i (1 : Fin 3)).isLt
  have b2 : (i (2 : Fin 3)).val < 512 := (i (2 : Fin 3)).isLt
  constructor
  · rintro ⟨-, h⟩ a
    have hz : ¬(i (0 : Fin 3)).val = 0 := fun e => h fun a => by
      fin_cases a
      · exact ⟨Nat.zero_le _, by show (i (0 : Fin 3)).val < 0 + 1; omega⟩
      · exact ⟨Nat.zero_le _, by show (i (1 : Fin 3)).val < 0 + 2048; omega⟩
      · exact ⟨Nat.zero_le _, by show (i (2 : Fin 3)).val < 0 + 512; omega⟩
    fin_cases a
    · exact ⟨by show 1 ≤ (i (0 : Fin 3)).val; omega, by show (i (0 : Fin 3)).val < 1 + 1; omega⟩
    · exact ⟨Nat.zero_le _, by show (i (1 : Fin 3)).val < 0 + 2048; omega⟩
    · exact ⟨Nat.zero_le _, by show (i (2 : Fin 3)).val < 0 + 512; omega⟩
  · intro h
    refine ⟨Finset.mem_univ _, fun g => ?_⟩
    have h0 : 1 ≤ (i (0 : Fin 3)).val := (h (0 : Fin 3)).1
    have g0 : (i (0 : Fin 3)).val < 0 + 1 := (g (0 : Fin 3)).2
    omega
theorem gSlot_sdiff : (Finset.univ : Finset S2x2048x512.Idx) \ ((slotW gM 0).view.set : Finset S2x2048x512.Idx) = ((slotW gM 1).view.set : Finset S2x2048x512.Idx) :=
  (congrArg (fun s : Finset S2x2048x512.Idx => Finset.univ \ s) (gSlot_set 0)).trans (gSlot_rects.trans (gSlot_set 1).symm)
theorem gSlot_split : (iprop(∃ f : Buf (Elt F) ((c : Thread nD τ).loc cc0_scratch0), ((c : Thread nD τ).loc cc0_scratch0) ↦{fullShare} f) : sProp 𝕄) ⊣⊢ iprop((∃ f, slotWP (F := F) c gM 0 f) ∗ (∃ f, slotWP (F := F) c gM 1 f)) := by
  constructor
  · have h : ∀ f : Buf (Elt F) ((c : Thread nD τ).loc cc0_scratch0), ((((c : Thread nD τ).loc cc0_scratch0) ↦{fullShare} f : sProp 𝕄)) ⊢ iprop(slotWP (F := F) c gM 0 f ∗ slotWP (F := F) c gM 1 f) := fun f => by
      refine (pointsTo_split_subset (I := ((slotW gM 0).view.set : Finset S2x2048x512.Idx)) (Finset.subset_univ _)).1.trans ?_
      exact BI.Laws.sep_mono .rfl (Entails.of_eq (congrArg (fun s : Finset S2x2048x512.Idx => (((c : Thread nD τ).loc cc0_scratch0) ↦[s]{fullShare} f : sProp 𝕄)) gSlot_sdiff))
    iintro ⟨%f, H⟩
    icases (h f) $$ H with ⟨H0, H1⟩
    isplitl [H0]; · iexists f; iexact H0
    iexists f; iexact H1
  · have h : ∀ f g : Buf (Elt F) ((c : Thread nD τ).loc cc0_scratch0), (iprop(slotWP (F := F) c gM 0 f ∗ slotWP (F := F) c gM 1 g) : sProp 𝕄) ⊢ (((c : Thread nD τ).loc cc0_scratch0) ↦{fullShare} ((slotW gM 0).view.set.piecewise f g) : sProp 𝕄) := fun f g => by
      refine BIBase.Entails.trans (BI.Laws.sep_mono .rfl (Entails.of_eq (congrArg (fun s : Finset S2x2048x512.Idx => (((c : Thread nD τ).loc cc0_scratch0) ↦[s]{fullShare} g : sProp 𝕄)) gSlot_sdiff.symm))) ?_
      exact pointsTo_join_subset (Finset.subset_univ _)
    iintro ⟨⟨%f, H0⟩, ⟨%g, H1⟩⟩
    iexists _
    iapply (h f g)
    isplitl [H0]; · iexact H0
    iexact H1

theorem uSlot_set (k : ℕ) : (slotW uM k).view.set = (Rect.unit (s := S2x2048x512) ![k % 2, 0, 0] S1x2048x512.size (slotW_inb k)).set := by
  unfold slotW
  exact (View.set_reshape _ _).trans (View.set_slice_whole _ _)
theorem uSlot_rects : (Finset.univ : Finset S2x2048x512.Idx) \ (Rect.unit (s := S2x2048x512) ![0 % 2, 0, 0] S1x2048x512.size (slotW_inb 0)).set = (Rect.unit (s := S2x2048x512) ![1 % 2, 0, 0] S1x2048x512.size (slotW_inb 1)).set := by
  ext i
  rw [Finset.mem_sdiff, Rect.mem_set_unit, Rect.mem_set_unit]
  have b0 : (i (0 : Fin 3)).val < 2 := (i (0 : Fin 3)).isLt
  have b1 : (i (1 : Fin 3)).val < 2048 := (i (1 : Fin 3)).isLt
  have b2 : (i (2 : Fin 3)).val < 512 := (i (2 : Fin 3)).isLt
  constructor
  · rintro ⟨-, h⟩ a
    have hz : ¬(i (0 : Fin 3)).val = 0 := fun e => h fun a => by
      fin_cases a
      · exact ⟨Nat.zero_le _, by show (i (0 : Fin 3)).val < 0 + 1; omega⟩
      · exact ⟨Nat.zero_le _, by show (i (1 : Fin 3)).val < 0 + 2048; omega⟩
      · exact ⟨Nat.zero_le _, by show (i (2 : Fin 3)).val < 0 + 512; omega⟩
    fin_cases a
    · exact ⟨by show 1 ≤ (i (0 : Fin 3)).val; omega, by show (i (0 : Fin 3)).val < 1 + 1; omega⟩
    · exact ⟨Nat.zero_le _, by show (i (1 : Fin 3)).val < 0 + 2048; omega⟩
    · exact ⟨Nat.zero_le _, by show (i (2 : Fin 3)).val < 0 + 512; omega⟩
  · intro h
    refine ⟨Finset.mem_univ _, fun g => ?_⟩
    have h0 : 1 ≤ (i (0 : Fin 3)).val := (h (0 : Fin 3)).1
    have g0 : (i (0 : Fin 3)).val < 0 + 1 := (g (0 : Fin 3)).2
    omega
theorem uSlot_sdiff : (Finset.univ : Finset S2x2048x512.Idx) \ ((slotW uM 0).view.set : Finset S2x2048x512.Idx) = ((slotW uM 1).view.set : Finset S2x2048x512.Idx) :=
  (congrArg (fun s : Finset S2x2048x512.Idx => Finset.univ \ s) (uSlot_set 0)).trans (uSlot_rects.trans (uSlot_set 1).symm)
theorem uSlot_split : (iprop(∃ f : Buf (Elt F) ((c : Thread nD τ).loc cc0_scratch1), ((c : Thread nD τ).loc cc0_scratch1) ↦{fullShare} f) : sProp 𝕄) ⊣⊢ iprop((∃ f, slotWP (F := F) c uM 0 f) ∗ (∃ f, slotWP (F := F) c uM 1 f)) := by
  constructor
  · have h : ∀ f : Buf (Elt F) ((c : Thread nD τ).loc cc0_scratch1), ((((c : Thread nD τ).loc cc0_scratch1) ↦{fullShare} f : sProp 𝕄)) ⊢ iprop(slotWP (F := F) c uM 0 f ∗ slotWP (F := F) c uM 1 f) := fun f => by
      refine (pointsTo_split_subset (I := ((slotW uM 0).view.set : Finset S2x2048x512.Idx)) (Finset.subset_univ _)).1.trans ?_
      exact BI.Laws.sep_mono .rfl (Entails.of_eq (congrArg (fun s : Finset S2x2048x512.Idx => (((c : Thread nD τ).loc cc0_scratch1) ↦[s]{fullShare} f : sProp 𝕄)) uSlot_sdiff))
    iintro ⟨%f, H⟩
    icases (h f) $$ H with ⟨H0, H1⟩
    isplitl [H0]; · iexists f; iexact H0
    iexists f; iexact H1
  · have h : ∀ f g : Buf (Elt F) ((c : Thread nD τ).loc cc0_scratch1), (iprop(slotWP (F := F) c uM 0 f ∗ slotWP (F := F) c uM 1 g) : sProp 𝕄) ⊢ (((c : Thread nD τ).loc cc0_scratch1) ↦{fullShare} ((slotW uM 0).view.set.piecewise f g) : sProp 𝕄) := fun f g => by
      refine BIBase.Entails.trans (BI.Laws.sep_mono .rfl (Entails.of_eq (congrArg (fun s : Finset S2x2048x512.Idx => (((c : Thread nD τ).loc cc0_scratch1) ↦[s]{fullShare} g : sProp 𝕄)) uSlot_sdiff.symm))) ?_
      exact pointsTo_join_subset (Finset.subset_univ _)
    iintro ⟨⟨%f, H0⟩, ⟨%g, H1⟩⟩
    iexists _
    iapply (h f g)
    isplitl [H0]; · iexact H0
    iexact H1

theorem dSlot_set (k : ℕ) : (slotV dM k).view.set = (Rect.unit (s := S2x512x2048) ![k % 2, 0, 0] S1x512x2048.size (slotV_inb k)).set := by
  unfold slotV
  exact (View.set_reshape _ _).trans (View.set_slice_whole _ _)
theorem dSlot_rects : (Finset.univ : Finset S2x512x2048.Idx) \ (Rect.unit (s := S2x512x2048) ![0 % 2, 0, 0] S1x512x2048.size (slotV_inb 0)).set = (Rect.unit (s := S2x512x2048) ![1 % 2, 0, 0] S1x512x2048.size (slotV_inb 1)).set := by
  ext i
  rw [Finset.mem_sdiff, Rect.mem_set_unit, Rect.mem_set_unit]
  have b0 : (i (0 : Fin 3)).val < 2 := (i (0 : Fin 3)).isLt
  have b1 : (i (1 : Fin 3)).val < 512 := (i (1 : Fin 3)).isLt
  have b2 : (i (2 : Fin 3)).val < 2048 := (i (2 : Fin 3)).isLt
  constructor
  · rintro ⟨-, h⟩ a
    have hz : ¬(i (0 : Fin 3)).val = 0 := fun e => h fun a => by
      fin_cases a
      · exact ⟨Nat.zero_le _, by show (i (0 : Fin 3)).val < 0 + 1; omega⟩
      · exact ⟨Nat.zero_le _, by show (i (1 : Fin 3)).val < 0 + 512; omega⟩
      · exact ⟨Nat.zero_le _, by show (i (2 : Fin 3)).val < 0 + 2048; omega⟩
    fin_cases a
    · exact ⟨by show 1 ≤ (i (0 : Fin 3)).val; omega, by show (i (0 : Fin 3)).val < 1 + 1; omega⟩
    · exact ⟨Nat.zero_le _, by show (i (1 : Fin 3)).val < 0 + 512; omega⟩
    · exact ⟨Nat.zero_le _, by show (i (2 : Fin 3)).val < 0 + 2048; omega⟩
  · intro h
    refine ⟨Finset.mem_univ _, fun g => ?_⟩
    have h0 : 1 ≤ (i (0 : Fin 3)).val := (h (0 : Fin 3)).1
    have g0 : (i (0 : Fin 3)).val < 0 + 1 := (g (0 : Fin 3)).2
    omega
theorem dSlot_sdiff : (Finset.univ : Finset S2x512x2048.Idx) \ ((slotV dM 0).view.set : Finset S2x512x2048.Idx) = ((slotV dM 1).view.set : Finset S2x512x2048.Idx) :=
  (congrArg (fun s : Finset S2x512x2048.Idx => Finset.univ \ s) (dSlot_set 0)).trans (dSlot_rects.trans (dSlot_set 1).symm)
theorem dSlot_split : (iprop(∃ f : Buf (Elt F) ((c : Thread nD τ).loc cc0_scratch2), ((c : Thread nD τ).loc cc0_scratch2) ↦{fullShare} f) : sProp 𝕄) ⊣⊢ iprop((∃ f, slotVP (F := F) c dM 0 f) ∗ (∃ f, slotVP (F := F) c dM 1 f)) := by
  constructor
  · have h : ∀ f : Buf (Elt F) ((c : Thread nD τ).loc cc0_scratch2), ((((c : Thread nD τ).loc cc0_scratch2) ↦{fullShare} f : sProp 𝕄)) ⊢ iprop(slotVP (F := F) c dM 0 f ∗ slotVP (F := F) c dM 1 f) := fun f => by
      refine (pointsTo_split_subset (I := ((slotV dM 0).view.set : Finset S2x512x2048.Idx)) (Finset.subset_univ _)).1.trans ?_
      exact BI.Laws.sep_mono .rfl (Entails.of_eq (congrArg (fun s : Finset S2x512x2048.Idx => (((c : Thread nD τ).loc cc0_scratch2) ↦[s]{fullShare} f : sProp 𝕄)) dSlot_sdiff))
    iintro ⟨%f, H⟩
    icases (h f) $$ H with ⟨H0, H1⟩
    isplitl [H0]; · iexists f; iexact H0
    iexists f; iexact H1
  · have h : ∀ f g : Buf (Elt F) ((c : Thread nD τ).loc cc0_scratch2), (iprop(slotVP (F := F) c dM 0 f ∗ slotVP (F := F) c dM 1 g) : sProp 𝕄) ⊢ (((c : Thread nD τ).loc cc0_scratch2) ↦{fullShare} ((slotV dM 0).view.set.piecewise f g) : sProp 𝕄) := fun f g => by
      refine BIBase.Entails.trans (BI.Laws.sep_mono .rfl (Entails.of_eq (congrArg (fun s : Finset S2x512x2048.Idx => (((c : Thread nD τ).loc cc0_scratch2) ↦[s]{fullShare} g : sProp 𝕄)) dSlot_sdiff.symm))) ?_
      exact pointsTo_join_subset (Finset.subset_univ _)
    iintro ⟨⟨%f, H0⟩, ⟨%g, H1⟩⟩
    iexists _
    iapply (h f g)
    isplitl [H0]; · iexact H0
    iexact H1
end

/-! ## The state between points -/

section
variable (c : Dev nD)
variable (Rg : Buf (Elt F) ((c : Thread nD τ).loc main_arg5)) (Ru : Buf (Elt F) ((c : Thread nD τ).loc main_arg6)) (Rd : Buf (Elt F) ((c : Thread nD τ).loc main_arg7))
variable (fE : TbBuf (F := F) c tE) (fO : TbBuf (F := F) c tO) (fX : TbBuf (F := F) c tX) (fN : TbBuf (F := F) c tN)

/-- The copies before point `k`: none started, or the last used block's expert in place and the next one's on its way. -/
def state (k : ℕ) : sProp 𝕄 :=
  if k = 0 then iprop(idle c Rg Ru Rd 0 ∗ idle c Rg Ru Rd 1 ∗ convAny c)
  else iprop(ready c Rg Ru Rd (fO (at192 (min k (fN at1).toNat - 1))).toNat (fX (at192 (min k (fN at1).toNat - 1))) ∗ conv c Rg Ru Rd (fE (at192 (min k (fN at1).toNat - 1))).toNat)

/-- What the result's block `n` ends with, its rows' block being `x`. -/
def res (x : Vec F S256x2048 .f32) (n : ℕ) : Vec F S256x2048 .f32 :=
  if n < (fN at1).toNat then outP c Rg Ru Rd x (fE (at192 n)).toNat else k0_pay4 (F := F)

theorem idles : ∀ s, (iprop(idle c Rg Ru Rd 0 ∗ idle c Rg Ru Rd 1) : sProp 𝕄) ⊣⊢ iprop(idle c Rg Ru Rd s ∗ idle c Rg Ru Rd (s + 1))
  | 0 => ⟨.rfl, .rfl⟩
  | s + 1 => by
    have h := idles s
    rw [show s + 1 + 1 = s + 2 from rfl, idle_two]
    constructor
    · iintro H
      icases h.1 $$ H with ⟨Ha, Hb⟩
      isplitl [Hb]; · iexact Hb
      iexact Ha
    · iintro ⟨Hb, Ha⟩
      iapply h.2
      isplitl [Ha]; · iexact Ha
      iexact Hb

variable (g : Good (fun n => fE (at192 n)) (fun n => fO (at192 n)) (fun n => fX (at192 n)) (fN at1).toNat)

include g in
/-- The body at any point. -/
theorem run_point (i : grid0.Coords) (arg5 : Memref sig .tc .vmem S256x2048 .f32) (harg5 : arg5.IsWhole) (arg9 : Memref sig .tc .vmem S256x2048 .f32) (harg9 : arg9.IsWhole)
    (x : Vec F S256x2048 .f32) (W : Waits sig Unit) (K : PUnit → sProp 𝕄) :
    iprop(tabs c fE fO fX fN ∗ owns (c : Thread nD τ) arg5 fullShare x ∗ (∃ d, owns (c : Thread nD τ) arg9 fullShare d) ∗ state c Rg Ru Rd fE fO fX fN (i 0).val ∗ owes (c : Thread nD τ) 0 W
        ∗ (iprop(tabs c fE fO fX fN ∗ owns (c : Thread nD τ) arg5 fullShare x ∗ owns (c : Thread nD τ) arg9 fullShare (res c Rg Ru Rd fE fN x (i 0).val)
            ∗ state c Rg Ru Rd fE fO fX fN ((i 0).val + 1) ∗ (∃ W', owes (c : Thread nD τ) 0 W')) -∗ K ⟨⟩))
      ⊢ wp frame (wpE (defs₀ (F := F)) Variants.none c none) Set.univ (cc0_experts (F := F) i tE (Memref.isWhole_whole _) tO (Memref.isWhole_whole _) tX (Memref.isWhole_whole _) tN (Memref.isWhole_whole _) arg5 harg5 wg (Memref.isWhole_whole _) wu (Memref.isWhole_whole _) wd (Memref.isWhole_whole _) arg9 harg9 gM (Memref.isWhole_whole _) uM (Memref.isWhole_whole _) dM (Memref.isWhole_whole _) gC (Memref.isWhole_whole _) uC (Memref.isWhole_whole _) dC (Memref.isWhole_whole _) cc0_scratch6) K := by
  have hi : (i 0).val < 192 := (i 0).isLt
  have e0 := w0_eq c fN
  have e3 := w3_eq c i fE
  have e12 := w12_eq c i fO
  have e45 := w45_eq c i fX
  have hN : (w0 c fN).toNat ≤ 192 := by rw [e0]; exact g.le
  have h3 : (w3 c i fE).toNat < 64 := by rw [e3]; exact g.ex _ hi
  have h12 : (w12 c i fO).toNat < 64 := by rw [e12]; exact g.ord _ hi
  by_cases hu : (i 0).val < (fN at1).toNat
  · have hu' : (i 0).val < (w0 c fN).toNat := by rw [e0]; exact hu
    have hx : k0_cond3 (w45 c i fX) = 1#1 → (w45 c i fX).toNat < 64 := fun h => by
      rw [e45] at h ⊢
      exact Good.next g ((fN at1).toNat - 1 - (i 0).val) (i 0).val (by omega) ((cond3_iff _).mp h)
    have er : res c Rg Ru Rd fE fN x (i 0).val = outP c Rg Ru Rd x (w3 c i fE).toNat := by unfold res; rw [if_pos hu, e3]
    have en : state c Rg Ru Rd fE fO fX fN ((i 0).val + 1) = iprop(ready c Rg Ru Rd (w12 c i fO).toNat (w45 c i fX) ∗ conv c Rg Ru Rd (w3 c i fE).toNat) := by
      unfold state
      rw [if_neg (Nat.succ_ne_zero _), show min ((i 0).val + 1) (fN at1).toNat - 1 = (i 0).val by omega, e3, e12, e45]
    by_cases hz : (i 0).val = 0
    · rw [er, en]
      unfold state
      rw [if_pos hz]
      iintro ⟨HT, H5, H9, ⟨Ha, Hb, Hc⟩, HW, Hk⟩
      icases (idles c Rg Ru Rd (w12 c i fO).toNat).1 $$ [Ha Hb] with ⟨Ha, Hb⟩
      · isplitl [Ha]; · iexact Ha
        iexact Hb
      iapply (run_first c Rg Ru Rd i arg5 harg5 arg9 harg9 fE fO fX fN hN h3 h12 hx hu' hz x W K)
      isplitl [HT]; · iexact HT
      isplitl [H5]; · iexact H5
      isplitl [H9]; · iexact H9
      isplitl [Ha]; · iexact Ha
      isplitl [Hb]; · iexact Hb
      isplitl [Hc]; · iexact Hc
      isplitl [HW]; · iexact HW
      iintro ⟨HT, H5, H9, Hr, Hc, HW⟩
      iapply Hk
      isplitl [HT]; · iexact HT
      isplitl [H5]; · iexact H5
      isplitl [H9]; · iexact H9
      isplitl [Hr Hc]
      · isplitl [Hr]; · iexact Hr
        iexact Hc
      iexact HW
    · have e8 := w8_eq c i hz fE
      have hst := g.step ((i 0).val - 1) (by omega)
      rw [show (i 0).val - 1 + 1 = (i 0).val by omega] at hst
      have ep : state c Rg Ru Rd fE fO fX fN (i 0).val = iprop(ready c Rg Ru Rd (fO (at192 ((i 0).val - 1))).toNat (fX (at192 ((i 0).val - 1))) ∗ conv c Rg Ru Rd (fE (at192 ((i 0).val - 1))).toNat) := by
        unfold state
        rw [if_neg hz, show min (i 0).val (fN at1).toNat - 1 = (i 0).val - 1 by omega]
      rcases hst with ⟨s1, s2, s3⟩ | ⟨s1, s2, s3⟩
      · dsimp only at s1 s2 s3
        rw [er, en, ep, s1, s2, s3, ← e3, ← e12, ← e45]
        iintro ⟨HT, H5, H9, ⟨Hr, Hc⟩, HW, Hk⟩
        iapply (run_same c Rg Ru Rd i arg5 harg5 arg9 harg9 fE fO fX fN hN h3 h12 hu' hz (by rw [e3, e8, s1]) x (w3 c i fE).toNat W K)
        isplitl [HT]; · iexact HT
        isplitl [H5]; · iexact H5
        isplitl [H9]; · iexact H9
        isplitl [Hc]; · iexact Hc
        isplitl [HW]; · iexact HW
        iintro ⟨HT, H5, H9, Hc, HW⟩
        iapply Hk
        isplitl [HT]; · iexact HT
        isplitl [H5]; · iexact H5
        isplitl [H9]; · iexact H9
        isplitl [Hr Hc]
        · isplitl [Hr]; · iexact Hr
          iexact Hc
        iexact HW
      · dsimp only at s1 s2 s3
        have er2 : (ready c Rg Ru Rd (fO (at192 ((i 0).val - 1))).toNat (fX (at192 ((i 0).val - 1))) : sProp 𝕄) = iprop(idle c Rg Ru Rd ((w12 c i fO).toNat + 1) ∗ flight c Rg Ru Rd (w12 c i fO).toNat (w3 c i fE).toNat) := by
          unfold ready
          rw [s2, e12, s3, if_pos ((cond3_iff _).mpr (lt_trans (g.ex _ hi) (by decide))), show (fO (at192 ((i 0).val - 1))).toNat + 1 + 1 = (fO (at192 ((i 0).val - 1))).toNat + 2 from rfl, idle_two, e3]
        rw [er, en, ep, er2]
        iintro ⟨HT, H5, H9, ⟨⟨Hi, Hf⟩, Hc⟩, HW, Hk⟩
        iapply (run_moved c Rg Ru Rd i arg5 harg5 arg9 harg9 fE fO fX fN hN h3 h12 hx hu' hz (by rw [e3, e8]; exact fun h => s1 h.symm) x W K)
        isplitl [HT]; · iexact HT
        isplitl [H5]; · iexact H5
        isplitl [H9]; · iexact H9
        isplitl [Hf]; · iexact Hf
        isplitl [Hi]; · iexact Hi
        isplitl [Hc]
        · iapply (conv_any c Rg Ru Rd _)
          iexact Hc
        isplitl [HW]; · iexact HW
        iintro ⟨HT, H5, H9, Hr, Hc, HW⟩
        iapply Hk
        isplitl [HT]; · iexact HT
        isplitl [H5]; · iexact H5
        isplitl [H9]; · iexact H9
        isplitl [Hr Hc]
        · isplitl [Hr]; · iexact Hr
          iexact Hc
        iexact HW
  · have hu' : ¬(i 0).val < (w0 c fN).toNat := by rw [e0]; exact hu
    have er : res c Rg Ru Rd fE fN x (i 0).val = k0_pay4 (F := F) := by unfold res; rw [if_neg hu]
    have hp := g.pos
    have es : state c Rg Ru Rd fE fO fX fN ((i 0).val + 1) = state c Rg Ru Rd fE fO fX fN (i 0).val := by
      unfold state
      rw [if_neg (Nat.succ_ne_zero _), if_neg (show ¬(i 0).val = 0 by omega), show min ((i 0).val + 1) (fN at1).toNat = (fN at1).toNat by omega, show min (i 0).val (fN at1).toNat = (fN at1).toNat by omega]
    rw [er, es]
    iintro ⟨HT, H5, H9, Hs, HW, Hk⟩
    iapply (run_unused c i arg5 harg5 arg9 harg9 fE fO fX fN hN h3 h12 hu' W K)
    isplitl [HT]; · iexact HT
    isplitl [H9]; · iexact H9
    isplitl [HW]; · iexact HW
    iintro ⟨HT, H9, HW⟩
    iapply Hk
    isplitl [HT]; · iexact HT
    isplitl [H5]; · iexact H5
    isplitl [H9]; · iexact H9
    isplitl [Hs]; · iexact Hs
    iexact HW

include g in
/-- After the last point nothing is in flight. -/
theorem state_last : (state c Rg Ru Rd fE fO fX fN 192 : sProp 𝕄) ⊢ iprop(idle c Rg Ru Rd 0 ∗ idle c Rg Ru Rd 1 ∗ convAny c) := by
  have hp := g.pos
  have hl := g.le
  unfold state
  rw [if_neg (by decide), show min 192 (fN at1).toNat = (fN at1).toNat by omega]
  unfold ready
  rw [if_neg (fun h => g.last ((cond3_iff _).mp h))]
  iintro ⟨⟨Ha, Hb⟩, Hc⟩
  icases (idles c Rg Ru Rd _).2 $$ [Ha Hb] with ⟨Ha, Hb⟩
  · isplitl [Ha]; · iexact Ha
    iexact Hb
  isplitl [Ha]; · iexact Ha
  isplitl [Hb]; · iexact Hb
  iapply (conv_any c Rg Ru Rd _)
  iexact Hc
end

end Cert.Kernel4Ideal.Hand

end
-- ==== Proof.ExFrame.lean ====
/-  The experts' call: the launch, and the arrays' contents at its end. -/
module

public import proofs.«01_k».proof.Proof.ExSlots
public import Idealize.ShloMosaic.Lib.Pipeline.FrameBody
public import Idealize.ShloMosaic.Lib.Claim
public import Idealize.ShloMosaic.Lib.VecWindow
public import Idealize.ShloMosaic.Lib.WholeRead
public import Idealize.ShloMosaic.Lib.WordCmp
public import Idealize.ShloMosaic.Lib.Tactic
public import Idealize.ShloMosaic.Lib.Pipeline.Value

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, and the tables -/

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables are what a routing makes. -/
def Routed : Prop := ∀ c : Dev nD, Good (fun n => V m c main_arg0 (at192 n)) (fun n => V m c main_arg1 (at192 n)) (fun n => V m c main_arg2 (at192 n)) (V m c main_arg3 at1 : BitVec 32).toNat

theorem cnt_eq : (tbl m).at 3 (Rect.unit (s := S1) ![0] S1.size inb_S1_S1_0) numel1_S1 = (V m (0 : Dev nD) main_arg3 at1 : BitVec 32) := w0_eq (0 : Dev nD) (V m (0 : Dev nD) main_arg3)
/-- The block of rows staged at point `i`. -/
theorem rows_at (g : Routed m) (i : grid0.Coords) : cc0_transform_0 (F := F) inb_S1_S1_0 numel1_S1 (tbl m) i = ![min (i 0).val ((V m (0 : Dev nD) main_arg3 at1 : BitVec 32).toNat - 1), 0] := by
  have hi : (i 0).val < 192 := (i 0).isLt
  unfold cc0_transform_0
  dsimp only
  rw [cnt_eq, rows_block _ (g 0).pos (g 0).le _ hi]
  rfl
theorem ok_of (g : Routed m) : Ok m := fun i => by
  have hi : (i 0).val < 192 := (i 0).isLt
  refine ⟨fun a => ?_, Or.inl rfl⟩
  rw [rows_at m g]
  fin_cases a
  · show (min (i 0).val ((V m (0 : Dev nD) main_arg3 at1 : BitVec 32).toNat - 1) + 1) * 256 ≤ 49152
    omega
  · show (0 + 1) * 2048 ≤ 2048
    omega

theorem PhiT0_eq (c : Dev nD) : (Pipeline.ΦT pre0 (tbl m) c : sProp 𝕄) = iprop(tabs c (V m c main_arg0) (V m c main_arg1) (V m c main_arg2) (V m c main_arg3)) := by
  obtain rfl : c = 0 := Subsingleton.elim _ _
  unfold Pipeline.ΦT Pipeline.prefHeld
  rw [BI.bigSep_univ_eq_bigSepL [(0 : Fin 4), (1 : Fin 4), (2 : Fin 4), (3 : Fin 4)] (by decide) (by decide)]
  rfl

/-! ## The proof data -/

section
variable (hO : Ok m)
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The region's invariant before point `k`. -/
def PhiR (c : Dev nD) (k : ℕ) : sProp 𝕄 :=
  iprop((∃ r, prngReg c r) ∗ tabs c (V m c main_arg0) (V m c main_arg1) (V m c main_arg2) (V m c main_arg3)
    ∗ state c (V m c main_arg5) (V m c main_arg6) (V m c main_arg7) (V m c main_arg0) (V m c main_arg1) (V m c main_arg2) (V m c main_arg3) k)

/-- What the body leaves of the result's block at point `t`. -/
def resAt (c : Dev nD) (t : Fin (cfgM m hO).N) : Vec F S256x2048 .f32 :=
  res c (V m c main_arg5) (V m c main_arg6) (V m c main_arg7) (V m c main_arg0) (V m c main_arg3) (iblk m hO c 0 t) t.val

def dats (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => resAt m hO c t
  Φ t := PhiR m c t.val
  q _ := fullShare
  owed _ := 0

theorem A_eq (c : Dev nD) (w : Fin (cfgM m hO).W) : (dats m hO 0 c).A w = V m c (Pipeline.arrRef spec0 w) := by dsimp only [dats]
theorem PhiR_castSucc (c : Dev nD) (t : Fin (cfgM m hO).N) : (dats m hO 0 c).Φ t.castSucc = PhiR m c t.val := by
  dsimp only [dats]; simp only [Fin.coe_castSucc]
theorem PhiR_succ (c : Dev nD) (t : Fin (cfgM m hO).N) : (dats m hO 0 c).Φ t.succ = PhiR m c (t.val + 1) := by
  dsimp only [dats]; simp only [Fin.val_succ]
theorem after0_0 (c : Dev nD) (t : Fin (cfgM m hO).N) : (dats m hO 0 c).after 0 t = iblk m hO c 0 t := by dsimp only [dats]; try rfl
theorem after0_1 (c : Dev nD) (t : Fin (cfgM m hO).N) : (dats m hO 0 c).after 1 t = resAt m hO c t := by dsimp only [dats]; try rfl
theorem before0_0 (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- The result's window is never idle: a point is in use or not. -/
theorem busy : ∀ b : BitVec 1, (!(Scalar.cmpi .ne (Scalar.extui b : BitVec 32) 0#32 == 1#1) && !(Scalar.cmpi .ne (Scalar.extui (Scalar.xori b 1#1) : BitVec 32) 0#32 == 1#1)) = false := by decide
theorem idle1 (t : Fin (cfgM m hO).N) : (cfgM m hO).idle 1 ((cfgM m hO).grid.coords t) = false := busy _

/-! ## The body obligation -/

abbrev ms0_0 (t : Fin (cfgM m hO).N) : Memref sig .tc .vmem S256x2048 .f32 := spec0_0.stage ((cfgM m hO).slots t 0)
abbrev ms0_1 (t : Fin (cfgM m hO).N) : Memref sig .tc .vmem S256x2048 .f32 := spec0_1.stage ((cfgM m hO).slots t 1)

abbrev bodyAt0 (a : (pcfg0 (F := F)).Adm) (t : Fin (cfg0 a).N) : Prog (TpuEff nD τ sig (Elt F) Λ₀ .tc) PUnit :=
  cc0_experts (grid0.coords t) (Memref.whole main_arg0) (Memref.isWhole_whole _) (Memref.whole main_arg1) (Memref.isWhole_whole _) (Memref.whole main_arg2) (Memref.isWhole_whole _) (Memref.whole main_arg3) (Memref.isWhole_whole _)
    (spec0_0.stage ((cfg0 a).slots t 0)) (hstage0_0 (((cfg0 a).slots t 0).cast nbuf0_0)) (Memref.whole main_arg5) (Memref.isWhole_whole _) (Memref.whole main_arg6) (Memref.isWhole_whole _) (Memref.whole main_arg7) (Memref.isWhole_whole _)
    (spec0_1.stage ((cfg0 a).slots t 1)) (hstage0_1 (((cfg0 a).slots t 1).cast nbuf0_1)) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) cc0_scratch6

def bodyPre (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d)))
def bodyPost (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t)

theorem leaves0 (c : Dev nD) (t : Fin (cfgM m hO).N) : (dats m hO 0 c).leavesExact 0 t = owns (c : Thread nD τ) (ms0_0 m hO t) fullShare (iblk m hO c 0 t) := by
  unfold Dat.leavesExact; rw [show (cfgM m hO).idle 0 ((cfgM m hO).grid.coords t) = false from rfl, after0_0]; rfl
theorem leaves1 (c : Dev nD) (t : Fin (cfgM m hO).N) : (dats m hO 0 c).leavesExact 1 t = owns (c : Thread nD τ) (ms0_1 m hO t) fullShare (resAt m hO c t) := by
  unfold Dat.leavesExact; rw [idle1, after0_1]; rfl

theorem point_val : ∀ t : Fin grid0.N, (grid0.coords t 0).val = t.val := by decide +kernel

set_option maxHeartbeats 800000 in
theorem sound_body (g : Routed m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost
  simp only [before0_0]
  rw [PhiR_castSucc m hO c t, PhiR_succ m hO c t, leaves0, leaves1]
  unfold Dat.owesAt Pipeline.owesWithin
  rw [show (dats m hO 0 c).owed t.castSucc = 0 from rfl, show (dats m hO 0 c).owed t.succ = 0 from rfl]
  unfold PhiR resAt
  have hv : (grid0.coords t 0).val = t.val := point_val t
  rw [← hv]
  iintro ⟨⟨Hg, HT, Hs⟩, ⟨%W, -, HW⟩, ⟨%d0, H0⟩, ⟨%d1, H1⟩⟩
  iapply (run_point c (V m c main_arg5) (V m c main_arg6) (V m c main_arg7) (V m c main_arg0) (V m c main_arg1) (V m c main_arg2) (V m c main_arg3) (g c) (grid0.coords t) _ _ _ _ (iblk m hO c 0 t) W _)
  isplitl [HT]; · iexact HT
  isplitl [H0]; · iexact H0
  isplitl [H1]; · iexists _; iexact H1
  isplitl [Hs]; · iexact Hs
  isplitl [HW]; · iexact HW
  iintro ⟨HT, H0, H1, Hs, ⟨%W', HW'⟩⟩
  isplitl [Hg HT Hs]
  · isplitl [Hg]; · iexact Hg
    isplitl [HT]; · iexact HT
    iexact Hs
  isplitl [HW']
  · iexists W'; isplitr; · ipureintro; exact fun _ _ => Or.inl trivial
    iexact HW'
  isplitl [H0]; · iexact H0
  iexact H1

theorem defs₀_row (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (g : Routed m) (c : Dev nD) : BodyObligation (dats (F := F) m hO 0 c) (defs₀ (F := F)) Variants.none () Set.univ := fun t => by
  rw [bigSep_W0, bigSep_W0, defs₀_row m hO]
  exact triple_restated (sound_body m hO g c t) rfl .rfl fun _ => .rfl

/-! ## The launch -/

abbrev osem0 : Fin 6 → SemLoc sig := fun j => (![SemLoc.dma 4, SemLoc.dma 5, SemLoc.dma 6, SemLoc.dma 7, SemLoc.dma 8, SemLoc.dma 9] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0
        ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3, 4, 5] (by decide) (by decide)]; rfl
theorem cells_eq : cell 0 0 = SemLoc.dma 4 ∧ cell 0 1 = SemLoc.dma 5 ∧ cell 0 2 = SemLoc.dma 6 ∧ cell 1 0 = SemLoc.dma 7 ∧ cell 1 1 = SemLoc.dma 8 ∧ cell 1 2 = SemLoc.dma 9 := by
  unfold cell semA; decide
def H0 : Finset (Ref sig .tc) := {main_arg5, main_arg6, main_arg7}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((((c : Thread nD τ).loc main_arg5) ↦{fullShare} V m c main_arg5) ∗ (((c : Thread nD τ).loc main_arg6) ↦{fullShare} V m c main_arg6) ∗ (((c : Thread nD τ).loc main_arg7) ↦{fullShare} V m c main_arg7)) := by
  rw [BI.bigSep_eq_bigSepL_of_eq [main_arg5, main_arg6, main_arg7] (by decide) (by decide)]; rfl

theorem allW_halves (c : Dev nD) (Rg : Buf (Elt F) ((c : Thread nD τ).loc main_arg5)) (Ru : Buf (Elt F) ((c : Thread nD τ).loc main_arg6)) (Rd : Buf (Elt F) ((c : Thread nD τ).loc main_arg7)) :
    (iprop((((c : Thread nD τ).loc main_arg5) ↦{fullShare} Rg) ∗ (((c : Thread nD τ).loc main_arg6) ↦{fullShare} Ru) ∗ (((c : Thread nD τ).loc main_arg7) ↦{fullShare} Rd)) : sProp 𝕄)
      ⊣⊢ iprop(allW c Rg Ru Rd 0 ∗ allW c Rg Ru Rd 1) := by
  unfold allW
  have a5 : ((((c : Thread nD τ).loc main_arg5) ↦{fullShare} Rg : sProp 𝕄)) ⊣⊢ iprop((((c : Thread nD τ).loc main_arg5) ↦{half 0} Rg) ∗ (((c : Thread nD τ).loc main_arg5) ↦{half 1} Rg)) := pointsTo_share (PosShare.mem_left_op_right fullShare)
  have a6 : ((((c : Thread nD τ).loc main_arg6) ↦{fullShare} Ru : sProp 𝕄)) ⊣⊢ iprop((((c : Thread nD τ).loc main_arg6) ↦{half 0} Ru) ∗ (((c : Thread nD τ).loc main_arg6) ↦{half 1} Ru)) := pointsTo_share (PosShare.mem_left_op_right fullShare)
  have a7 : ((((c : Thread nD τ).loc main_arg7) ↦{fullShare} Rd : sProp 𝕄)) ⊣⊢ iprop((((c : Thread nD τ).loc main_arg7) ↦{half 0} Rd) ∗ (((c : Thread nD τ).loc main_arg7) ↦{half 1} Rd)) := pointsTo_share (PosShare.mem_left_op_right fullShare)
  constructor
  · iintro ⟨H5, H6, H7⟩
    icases a5.1 $$ H5 with ⟨H5, G5⟩
    icases a6.1 $$ H6 with ⟨H6, G6⟩
    icases a7.1 $$ H7 with ⟨H7, G7⟩
    isplitl [H5 H6 H7]
    · isplitl [H5]; · iexact H5
      isplitl [H6]; · iexact H6
      iexact H7
    isplitl [G5]; · iexact G5
    isplitl [G6]; · iexact G6
    iexact G7
  · iintro ⟨⟨H5, H6, H7⟩, ⟨G5, G6, G7⟩⟩
    isplitl [H5 G5]
    · iapply a5.2
      isplitl [H5]; · iexact H5
      iexact G5
    isplitl [H6 G6]
    · iapply a6.2
      isplitl [H6]; · iexact H6
      iexact G6
    iapply a7.2
    isplitl [H7]; · iexact H7
    iexact G7

/-- What the launch hands the region, part by part. -/
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f) ∗ (∃ d : Vec F S2048x512 .bf16, owns (c : Thread nD τ) gC fullShare d)
          ∗ (∃ d : Vec F S2048x512 .bf16, owns (c : Thread nD τ) uC fullShare d) ∗ (∃ d : Vec F S512x2048 .bf16, owns (c : Thread nD τ) dC fullShare d))
        ∗ (∃ r, prngReg c r)
        ∗ iprop(semVal ((c : Thread nD τ), cell 0 0) 0 ∗ semVal ((c : Thread nD τ), cell 0 1) 0 ∗ semVal ((c : Thread nD τ), cell 0 2) 0
          ∗ semVal ((c : Thread nD τ), cell 1 0) 0 ∗ semVal ((c : Thread nD τ), cell 1 1) 0 ∗ semVal ((c : Thread nD τ), cell 1 2) 0)
        ∗ iprop((((c : Thread nD τ).loc main_arg5) ↦{fullShare} V m c main_arg5) ∗ (((c : Thread nD τ).loc main_arg6) ↦{fullShare} V m c main_arg6) ∗ (((c : Thread nD τ).loc main_arg7) ↦{fullShare} V m c main_arg7))) := by
  rw [Pipeline.ΦD_eq, scopedRest0_eq, ownSems00_eq, hbmPts0_eq, cells_eq.1, cells_eq.2.1, cells_eq.2.2.1, cells_eq.2.2.2.1, cells_eq.2.2.2.2.1, cells_eq.2.2.2.2.2]
  simp only [gC, uC, dC, owns_whole]; try rfl

theorem hin (c : Dev nD) : iprop(Pipeline.ΦD osem0 spec0 H0 (V m) c ∗ Pipeline.ΦT pre0 (tbl m) c) ⊢ (dats m hO 0 c).Φ 0 := by
  rw [PhiD0_eq, PhiT0_eq, show (dats m hO 0 c).Φ 0 = PhiR m c 0 from rfl]
  unfold PhiR state
  rw [if_pos rfl]
  unfold idle cells0 slots convAny
  iintro ⟨⟨⟨S0, S1, S2, S3, S4, S5⟩, Hg, ⟨C0, C1, C2, C3, C4, C5⟩, Hw⟩, HT⟩
  icases (gSlot_split c).1 $$ S0 with ⟨A0, B0⟩
  icases (uSlot_split c).1 $$ S1 with ⟨A1, B1⟩
  icases (dSlot_split c).1 $$ S2 with ⟨A2, B2⟩
  icases (allW_halves c _ _ _).1 $$ Hw with ⟨Wa, Wb⟩
  isplitl [Hg]; · iexact Hg
  isplitl [HT]; · iexact HT
  isplitl [C0 C1 C2 A0 A1 A2 Wa]
  · isplitl [C0 C1 C2]
    · isplitl [C0]; · iexact C0
      isplitl [C1]; · iexact C1
      iexact C2
    isplitl [A0 A1 A2]
    · isplitl [A0]; · iexact A0
      isplitl [A1]; · iexact A1
      iexact A2
    iexact Wa
  isplitl [C3 C4 C5 B0 B1 B2 Wb]
  · isplitl [C3 C4 C5]
    · isplitl [C3]; · iexact C3
      isplitl [C4]; · iexact C4
      iexact C5
    isplitl [B0 B1 B2]
    · isplitl [B0]; · iexact B0
      isplitl [B1]; · iexact B1
      iexact B2
    iexact Wb
  isplitl [S3]; · iexact S3
  isplitl [S4]; · iexact S4
  iexact S5

theorem hout (g : Routed m) (c : Dev nD) : (dats m hO 0 c).Φ (Fin.last (cfgM m hO).N) ⊢ Pipeline.ΦD osem0 spec0 H0 (V m) c := by
  rw [PhiD0_eq, show (dats m hO 0 c).Φ (Fin.last (cfgM m hO).N) = PhiR m c grid0.N from rfl, N_0]
  unfold PhiR
  have hl := state_last c (V m c main_arg5) (V m c main_arg6) (V m c main_arg7) (V m c main_arg0) (V m c main_arg1) (V m c main_arg2) (V m c main_arg3) (g c)
  unfold idle cells0 slots convAny at hl
  iintro ⟨Hg, HT, Hs⟩
  icases hl $$ Hs with ⟨⟨⟨C0, C1, C2⟩, ⟨A0, A1, A2⟩, Wa⟩, ⟨⟨C3, C4, C5⟩, ⟨B0, B1, B2⟩, Wb⟩, ⟨S3, S4, S5⟩⟩
  isplitl [A0 A1 A2 B0 B1 B2 S3 S4 S5]
  · isplitl [A0 B0]
    · iapply (gSlot_split c).2
      isplitl [A0]; · iexact A0
      iexact B0
    isplitl [A1 B1]
    · iapply (uSlot_split c).2
      isplitl [A1]; · iexact A1
      iexact B1
    isplitl [A2 B2]
    · iapply (dSlot_split c).2
      isplitl [A2]; · iexact A2
      iexact B2
    isplitl [S3]; · iexact S3
    isplitl [S4]; · iexact S4
    iexact S5
  isplitl [Hg]; · iexact Hg
  isplitl [C0 C1 C2 C3 C4 C5]
  · isplitl [C0]; · iexact C0
    isplitl [C1]; · iexact C1
    isplitl [C2]; · iexact C2
    isplitl [C3]; · iexact C3
    isplitl [C4]; · iexact C4
    iexact C5
  iapply (allW_halves c _ _ _).2
  isplitl [Wa]; · iexact Wa
  iexact Wb

-- the launch theorem's implicit arguments are found by unifying its conclusion with this one
set_option backward.isDefEq.respectTransparency.types false in
/-- Every execution ends with the pipeline's arrays at what the proof data says, every other array as launched, and
    every semaphore at zero. -/
theorem run_main (g : Routed m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO g c).loose) (hshare := fun c => (dats m hO 0 c).share_full fun _ => rfl)
    (howed := fun _ _ => rfl) (V := V m) (hmain := hmain m Variants.none) (hA := A_eq m hO) (hpf := V_pre m) (hin := hin m hO) (hout := hout m hO g)
end

/-- The arguments end unchanged and every semaphore at zero. -/
theorem frame_run (g : Routed m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      ((h.1 c).1 0).trans (((dats m (ok_of m g) 0 c).arrAt_in 0 rfl _).trans (A_eq m (ok_of m g) c 0)),
      (h.1 c).2 main_arg5 (by decide : main_arg5 ∈ Pipeline.restRefs sig spec0),
      (h.1 c).2 main_arg6 (by decide : main_arg6 ∈ Pipeline.restRefs sig spec0),
      (h.1 c).2 main_arg7 (by decide : main_arg7 ∈ Pipeline.restRefs sig spec0)⟩, h.2⟩) (run_main m ρ (ok_of m g) g)

end Cert.Kernel4Ideal.Hand

end
-- ==== Proof.ExRef.lean ====
/-  The experts' reference, read at an index. -/
module

public import proofs.«01_k».proof.Proof.Norm
public import proofs.«01_k».proof.Proof.Gen.Reference4Ideal
public import Idealize.ShloMosaic.Lib.Pipeline.Value
public import Idealize.ShloMosaic.Lib.Pipeline.ValueKit
public import Idealize.ShloMosaic.Lib.StableHlo.Predicate
public import Idealize.ShloMosaic.Lib.Claim

@[expose] public section

set_option maxRecDepth 16384

noncomputable section

open Idealize.ShloMosaic Idealize.ShloMosaic.TcCoe Idealize.ShloMosaic.Tactic Idealize.SL.Sem Idealize.ShloMosaic.StableHlo

namespace Cert.Reference4Ideal.Value

open Cert.Reference4Ideal Cert.Reference4Ideal.Gen Cert.Layer

/-! ## The numbers -/

/-- One number of an expert's hidden row. -/
def hiddenOf (x : Fin 2048 → EReal) (wg wu : Fin 2048 → Fin 512 → EReal) (j : Fin 512) : EReal :=
  (∑ l, x l * wg l j) * Ideal.logistic (∑ l, x l * wg l j) * ∑ l, x l * wu l j
/-- One number of an expert's result. -/
def expertOf (x : Fin 2048 → EReal) (wg wu : Fin 2048 → Fin 512 → EReal) (wd : Fin 512 → Fin 2048 → EReal) (k : Fin 2048) : EReal :=
  ∑ j, hiddenOf x wg wu j * wd j k

/-! ## The rows of the table of experts -/

theorem only_zero : ∀ k : Fin 3, k ∉ ([1, 2] : List (Fin 3)) → k = 0 := by decide
theorem not_mem_zero {l : List (Fin 3)} (h : l = [0]) (a : Fin 3) (ha : a ≠ 0) : a ∉ l := by
  rw [h]; exact fun h' => ha (List.mem_singleton.1 h')

/-- `w[idx]` over the matrices of a table: where `idx` holds a number `b` of the table, the result's matrix is the table's. -/
theorem pick_at {A B : Nat} {α : Type} (d : GatherDims ⟨3, ![64, A, B]⟩ ⟨2, ![192, 1]⟩ ⟨3, ![192, A, B]⟩) (hoff : d.offsetDims = [1, 2])
    (hcoll : d.collapsedSliceDims = [0]) (hob : d.operandBatchingDims = []) (hsim : d.startIndexMap = [0]) (hivd : d.indexVectorDim = 1)
    (x : (⟨3, ![64, A, B]⟩ : Shape).Idx → α) (idx : IVec ⟨2, ![192, 1]⟩ 32) (c : Fin 192) (y : Fin A) (z : Fin B) (b : Fin 64)
    (hb : idx (ix2 c (0 : Fin 1)) = BitVec.ofNat 32 b.val) :
    Host.gather d x idx (ix3 c y z) = x (ix3 b y z) := by
  obtain ⟨o, cs, ob, sb, sm, iv, ss, wf⟩ := d
  dsimp only at hoff hcoll hob hsim hivd
  subst hoff hcoll hob hsim hivd
  unfold Host.gather
  refine congrArg x (funext fun a => Fin.ext ?_)
  set d : GatherDims ⟨3, ![64, A, B]⟩ ⟨2, ![192, 1]⟩ ⟨3, ![192, A, B]⟩ := ⟨[1, 2], [0], [], sb, [0], 1, ss, wf⟩ with hd
  have hbN : ∀ a', a' ∉ d.operandBatchingDims := fun a' => List.not_mem_nil
  have hk0 : ∀ k ∈ d.batchDims, k = (0 : Fin 3) := fun k hk =>
    only_zero k (of_decide_eq_true (List.mem_filter.1 hk).2)
  have e0 : ∀ X : Fin 3, X = 0 → (ix3 c y z X).val = c.val := fun X h => by subst h; rfl
  match a with
  | ⟨0, _⟩ =>
    have hk : (0 : Fin 3) ∉ d.sKept := fun h => ((d.mem_sKept 0).1 h).1 (List.mem_singleton.2 rfl)
    have hm : (0 : Fin 3) ∈ d.startIndexMap := List.mem_singleton.2 rfl
    have hsl : d.sliceSizes 0 = 1 := d.slice_collapsed 0 (List.mem_singleton.2 rfl)
    show d.start (ix3 c y z) idx 0 + d.batchCoord (ix3 c y z) 0 + d.offCoord (ix3 c y z) 0 = b.val
    rw [d.batchCoord_eq_zero _ _ (hbN 0), d.offCoord_eq_zero _ _ hk]
    simp only [Nat.add_zero]
    unfold GatherDims.start
    rw [dif_pos hm]
    have hsi : d.siIdx (ix3 c y z) ⟨d.startIndexMap.idxOf 0, List.idxOf_lt_length_iff.2 hm⟩ = ix2 c (0 : Fin 1) := by
      funext b'
      apply Fin.ext
      match b' with
      | ⟨0, _⟩ =>
        unfold GatherDims.siIdx
        rw [dif_neg Nat.zero_ne_one]
        unfold GatherDims.siCoord
        simp only [Fin.val_cast]
        exact e0 _ (hk0 _ (List.getElem_mem _))
      | ⟨1, _⟩ =>
        unfold GatherDims.siIdx
        rw [dif_pos rfl]
        show List.idxOf (0 : Fin 3) [0] = 0
        simp
    have hbl := b.isLt
    rw [hsi, hb, hsl, StableHlo.Predicate.toInt_ofNat_small _ (by omega)]
    show min ((b.val : Int)).toNat (64 - 1) = b.val
    omega
  | ⟨1, _⟩ =>
    have hk : (1 : Fin 3) ∈ d.sKept := (d.mem_sKept 1).2 ⟨not_mem_zero rfl 1 (by decide), hbN 1⟩
    have hm : (1 : Fin 3) ∉ d.startIndexMap := not_mem_zero rfl 1 (by decide)
    show d.start (ix3 c y z) idx 1 + d.batchCoord (ix3 c y z) 1 + d.offCoord (ix3 c y z) 1 = y.val
    rw [d.batchCoord_eq_zero _ _ (hbN 1), Nat.add_zero]
    unfold GatherDims.start GatherDims.offCoord
    rw [dif_neg hm, dif_pos hk, Nat.zero_add]
    rfl
  | ⟨2, _⟩ =>
    have hk : (2 : Fin 3) ∈ d.sKept := (d.mem_sKept 2).2 ⟨not_mem_zero rfl 2 (by decide), hbN 2⟩
    have hm : (2 : Fin 3) ∉ d.startIndexMap := not_mem_zero rfl 2 (by decide)
    show d.start (ix3 c y z) idx 2 + d.batchCoord (ix3 c y z) 2 + d.offCoord (ix3 c y z) 2 = z.val
    rw [d.batchCoord_eq_zero _ _ (hbN 2), Nat.add_zero]
    unfold GatherDims.start GatherDims.offCoord
    rw [dif_neg hm, dif_pos hk, Nat.zero_add]
    rfl

/-! ## The reference, part by part -/

/-- The experts of the blocks, a negative one counted from the end. -/
def picksR (e : IVec S192 32) : IVec S192x1 32 :=
  broadcastInDim S192x1 ![0] bcast_S192_S192x1_0
    (select (cmpi .slt e (broadcastInDim S192 ![] bcast_S_S192 (constantI S_ 32 0#32)))
      (addi e (broadcastInDim S192 ![] bcast_S_S192 (constantI S_ 32 64#32))) e)
/-- The rows by block. -/
def blocksR (x : FVec Ideal S49152x2048 .f32) : FVec Ideal S192x256x2048 .f32 :=
  shapeCast S192x256x2048 x shapeCasts_S49152x2048_S192x256x2048
/-- Each block through its expert's first matrices. -/
def firstR (x : FVec Ideal S192x256x2048 .f32) (e : IVec S192 32) (w : FVec Ideal S64x2048x512 .f32) : FVec Ideal S192x256x512 .f32 :=
  Host.dotGeneral dot_S192x256x2048_S192x2048x512_S192x256x512_2_1_1_2_0_0 none x
    (Host.gather gather_S64x2048x512_S192x1_S192x2048x512_12_0_n_n_0_1_12048512 w (picksR e))
/-- The gate's activation. -/
def siluR (y : FVec Ideal S192x256x512 .f32) : FVec Ideal S192x256x512 .f32 :=
  mulf y (Host.divf (broadcastInDim S192x256x512 ![] bcast_S_S192x256x512 (constant S_ .f32 0x3F800000#32))
    (addf (broadcastInDim S192x256x512 ![] bcast_S_S192x256x512 (constant S_ .f32 0x3F800000#32)) (Host.exp (Host.negf y))))
/-- Each block through its expert's last matrix. -/
def lastR (h : FVec Ideal S192x256x512 .f32) (e : IVec S192 32) (w : FVec Ideal S64x512x2048 .f32) : FVec Ideal S192x256x2048 .f32 :=
  Host.dotGeneral dot_S192x256x512_S192x512x2048_S192x256x2048_2_1_1_2_0_0 none h
    (Host.gather gather_S64x512x2048_S192x1_S192x512x2048_12_0_n_n_0_1_15122048 w (picksR e))
/-- The blocks in use. -/
def usedR (u : IVec S1 32) : IVec S192 1 :=
  cmpi .slt (iotaInDim S192 32 0) (broadcastInDim S192 ![] bcast_S_S192 (shapeCast S_ u shapeCasts_S1_S_))
/-- Zero on the blocks not in use. -/
def maskR (u : IVec S1 32) (y : FVec Ideal S192x256x2048 .f32) : FVec Ideal S192x256x2048 .f32 :=
  select (broadcastInDim S192x256x2048 ![0, 1, 2] bcast_S192x1x1_S192x256x2048_0_1_2 (broadcastInDim S192x1x1 ![0] bcast_S192_S192x1x1_0 (usedR u))) y
    (broadcastInDim S192x256x2048 ![] bcast_S_S192x256x2048 (constant S_ .f32 0x00000000#32))
/-- The reference's result. -/
def resR (e : IVec S192 32) (u : IVec S1 32) (x : FVec Ideal S49152x2048 .f32) (wg wu : FVec Ideal S64x2048x512 .f32) (wd : FVec Ideal S64x512x2048 .f32) :
    FVec Ideal S49152x2048 .f32 :=
  shapeCast S49152x2048 (maskR u (lastR (mulf (siluR (firstR (blocksR x) e wg)) (firstR (blocksR x) e wu)) e wd)) shapeCasts_S192x256x2048_S49152x2048

section
variable (e : IVec S192 32) (u : IVec S1 32) (x : FVec Ideal S49152x2048 .f32) (wg wu : FVec Ideal S64x2048x512 .f32) (wd : FVec Ideal S64x512x2048 .f32)

/-- The block of a row, and the row's place in it. -/
abbrev blockOf (r : Fin 49152) : Fin 192 := ⟨r.val / 256, by omega⟩
abbrev placeOf (r : Fin 49152) : Fin 256 := ⟨r.val % 256, by omega⟩

theorem blocksR_at (r : Fin 49152) (k : Fin 2048) : blocksR x (ix3 (blockOf r) (placeOf r) k) = x (ix2 r k) := by
  pointwise [blocksR]
  blk_ext []
theorem flat_at (y : FVec Ideal S192x256x2048 .f32) (r : Fin 49152) (k : Fin 2048) :
    (shapeCast S49152x2048 y shapeCasts_S192x256x2048_S49152x2048 : FVec Ideal S49152x2048 .f32) (ix2 r k) = y (ix3 (blockOf r) (placeOf r) k) := by
  pointwise
  blk_ext []
theorem siluR_at (y : FVec Ideal S192x256x512 .f32) (n : Fin 192) (p : Fin 256) (j : Fin 512) :
    siluR y (ix3 n p j) = y (ix3 n p j) * Ideal.logistic (y (ix3 n p j)) := by
  pointwise [siluR, Ideal.logistic]
theorem picksR_at (n : Fin 192) (b : Fin 64) (hb : e (ix1 n) = BitVec.ofNat 32 b.val) : picksR e (ix2 n (0 : Fin 1)) = BitVec.ofNat 32 b.val := by
  pointwise [picksR]
  rw [hb]
  have h : ∀ b : Fin 64, IntOp.cmpi .slt (BitVec.ofNat 32 b.val) 0#32 = 0#1 := by decide
  rw [h]
  rfl
theorem maskR_at (y : FVec Ideal S192x256x2048 .f32) (n : Fin 192) (p : Fin 256) (k : Fin 2048) :
    maskR u y (ix3 n p k) = if IntOp.cmpi .slt (BitVec.ofNat 32 n.val) (u (ix1 0)) = 1#1 then y (ix3 n p k) else 0 := by
  pointwise [maskR, usedR]
  rfl
theorem firstR_at (y : FVec Ideal S192x256x2048 .f32) (n : Fin 192) (p : Fin 256) (j : Fin 512) (b : Fin 64) (hb : e (ix1 n) = BitVec.ofNat 32 b.val) :
    firstR y e wg (ix3 n p j) = ∑ l, y (ix3 n p l) * wg (ix3 b l j) := by
  refine Eq.trans (b := ∑ l, y (ix3 n p l) * Host.gather gather_S64x2048x512_S192x1_S192x2048x512_12_0_n_n_0_1_12048512 wg (picksR e) (ix3 n l j)) ?_ ?_
  · unfold firstR
    generalize Host.gather gather_S64x2048x512_S192x1_S192x2048x512_12_0_n_n_0_1_12048512 wg (picksR e) = G
    pointwise
  · exact Finset.sum_congr rfl fun l _ => congrArg _ (pick_at _ rfl rfl rfl rfl rfl wg (picksR e) n l j b (picksR_at e n b hb))
theorem lastR_at (h : FVec Ideal S192x256x512 .f32) (n : Fin 192) (p : Fin 256) (k : Fin 2048) (b : Fin 64) (hb : e (ix1 n) = BitVec.ofNat 32 b.val) :
    lastR h e wd (ix3 n p k) = ∑ j, h (ix3 n p j) * wd (ix3 b j k) := by
  refine Eq.trans (b := ∑ j, h (ix3 n p j) * Host.gather gather_S64x512x2048_S192x1_S192x512x2048_12_0_n_n_0_1_15122048 wd (picksR e) (ix3 n j k)) ?_ ?_
  · unfold lastR
    generalize Host.gather gather_S64x512x2048_S192x1_S192x512x2048_12_0_n_n_0_1_15122048 wd (picksR e) = G
    pointwise
  · exact Finset.sum_congr rfl fun l _ => congrArg _ (pick_at _ rfl rfl rfl rfl rfl wd (picksR e) n l k b (picksR_at e n b hb))

/-- The result's number at row `r` and column `k`: the row through the expert of its block, or zero. -/
theorem resR_at (r : Fin 49152) (k : Fin 2048) (b : Fin 64) (hb : e (ix1 (blockOf r)) = BitVec.ofNat 32 b.val) :
    resR e u x wg wu wd (ix2 r k) = if IntOp.cmpi .slt (BitVec.ofNat 32 (r.val / 256)) (u (ix1 0)) = 1#1 then
      expertOf (fun l => x (ix2 r l)) (fun l j => wg (ix3 b l j)) (fun l j => wu (ix3 b l j)) (fun j k => wd (ix3 b j k)) k else 0 := by
  refine (flat_at _ r k).trans ((maskR_at u _ _ _ k).trans ?_)
  refine congrArg (fun v : EReal => if IntOp.cmpi .slt (BitVec.ofNat 32 (r.val / 256)) (u (ix1 0)) = 1#1 then v else 0) ?_
  rw [lastR_at e wd _ _ _ k b hb]
  refine Finset.sum_congr rfl fun j _ => congrArg (· * wd (ix3 b j k)) ?_
  show siluR (firstR (blocksR x) e wg) (ix3 (blockOf r) (placeOf r) j) * firstR (blocksR x) e wu (ix3 (blockOf r) (placeOf r) j) = _
  rw [siluR_at, firstR_at e wg _ _ _ j b hb, firstR_at e wu _ _ _ j b hb]
  simp only [blocksR_at]
  rfl
end

end Cert.Reference4Ideal.Value

end
-- ==== Proof.ExKernel.lean ====
/-  The experts: what the kernel writes to its result. -/
module

public import proofs.«01_k».proof.Proof.ExFrame
public import proofs.«01_k».proof.Proof.ExRef
public import Idealize.ShloMosaic.Lib.Pipeline.Value
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Kernel4Ideal.Hand
open Cert.Reference4Ideal.Value (hiddenOf expertOf)

/-! ## One block of rows -/

section
variable (x : Vec Ideal S256x2048 .f32) (wg wu : Vec Ideal S2048x512 .bf16) (wd : Vec Ideal S512x2048 .bf16)

theorem expert_at (p : Fin 256) (k : Fin 2048) : k0_pay3 (F := Ideal) x wg wu wd (ix2 p k)
    = expertOf (fun l => x (ix2 p l)) (fun l j => wg (ix2 l j)) (fun l j => wu (ix2 l j)) (fun j k => wd (ix2 j k)) k := by
  pointwise [k0_pay3, expertOf, hiddenOf]
theorem zero_at (y : S256x2048.Idx) : k0_pay4 (F := Ideal) y = 0 := by
  pointwise [k0_pay4]
end

/-! ## The expert's matrices -/

theorem cast_w (v : Vec Ideal S1x2048x512 .f32) (l : Fin 2048) (j : Fin 512) :
    (shapeCast S2048x512 v shapeCasts_S1x2048x512_S2048x512 : Vec Ideal S2048x512 .f32) (ix2 l j) = v (ix3 0 l j) := by
  pointwise
theorem cast_v (v : Vec Ideal S1x512x2048 .f32) (j : Fin 512) (k : Fin 2048) :
    (shapeCast S512x2048 v shapeCasts_S1x512x2048_S512x2048 : Vec Ideal S512x2048 .f32) (ix2 j k) = v (ix3 0 j k) := by
  pointwise
theorem row_g (R : Vec Ideal S64x2048x512 .f32) (e : ℕ) (l : Fin 2048) (j : Fin 512) :
    roundW (F := Ideal) ((rowW wg e).view.read (Elt Ideal) R) (ix2 l j) = R (ix3 ⟨e % 64, Nat.mod_lt _ (by decide)⟩ l j) := by
  show (shapeCast S2048x512 (wg.view.readAt (Elt Ideal) (Rect.unit (s := S64x2048x512) ![e % 64, 0, 0] S1x2048x512.size (rowW_inb e)).toLoadRect R : Vec Ideal S1x2048x512 .f32) shapeCasts_S1x2048x512_S2048x512 : Vec Ideal S2048x512 .f32) (ix2 l j) = _
  refine (cast_w _ l j).trans ?_
  exact View.ld_unit_apply_of R _ _ _ _ _ fun a => by fin_cases a <;> simp
theorem row_u (R : Vec Ideal S64x2048x512 .f32) (e : ℕ) (l : Fin 2048) (j : Fin 512) :
    roundW (F := Ideal) ((rowW wu e).view.read (Elt Ideal) R) (ix2 l j) = R (ix3 ⟨e % 64, Nat.mod_lt _ (by decide)⟩ l j) := by
  show (shapeCast S2048x512 (wu.view.readAt (Elt Ideal) (Rect.unit (s := S64x2048x512) ![e % 64, 0, 0] S1x2048x512.size (rowW_inb e)).toLoadRect R : Vec Ideal S1x2048x512 .f32) shapeCasts_S1x2048x512_S2048x512 : Vec Ideal S2048x512 .f32) (ix2 l j) = _
  refine (cast_w _ l j).trans ?_
  exact View.ld_unit_apply_of R _ _ _ _ _ fun a => by fin_cases a <;> simp
theorem row_d (R : Vec Ideal S64x512x2048 .f32) (e : ℕ) (j : Fin 512) (k : Fin 2048) :
    roundV (F := Ideal) ((rowV wd e).view.read (Elt Ideal) R) (ix2 j k) = R (ix3 ⟨e % 64, Nat.mod_lt _ (by decide)⟩ j k) := by
  show (shapeCast S512x2048 (wd.view.readAt (Elt Ideal) (Rect.unit (s := S64x512x2048) ![e % 64, 0, 0] S1x512x2048.size (rowV_inb e)).toLoadRect R : Vec Ideal S1x512x2048 .f32) shapeCasts_S1x512x2048_S512x2048 : Vec Ideal S512x2048 .f32) (ix2 j k) = _
  refine (cast_v _ j k).trans ?_
  exact View.ld_unit_apply_of R _ _ _ _ _ fun a => by fin_cases a <;> simp

variable (m : (ℓ : Loc nD τ sig) → Buf (Elt Ideal) ℓ)

theorem covers1 (hO : Ok m) : ((cfgM m hO).win 1).Covers :=
  ((cfgM m hO).win 1).covers_of_indexMap_surj rfl (show ∀ a : Fin 2, 0 < S256x2048.size a by decide) fun β => by
    have h0 : (β (0 : Fin 2)).val < 192 := lt_of_lt_of_eq (β (0 : Fin 2)).isLt (by show (49152 + 256 - 1) / 256 = 192; rfl)
    have h1 : (β (1 : Fin 2)).val < 1 := lt_of_lt_of_eq (β (1 : Fin 2)).isLt (by show (2048 + 2048 - 1) / 2048 = 1; rfl)
    refine ⟨fun (b : Fin 1) => match b with | 0 => ⟨(β (0 : Fin 2)).val, h0⟩, fun (a : Fin 2) => ?_⟩
    match a with
    | ⟨0, _⟩ =>
      show (BitVec.ofNat 32 (β (0 : Fin 2)).val).toNat = (β (0 : Fin 2)).val
      exact WordCmp.toNat_ofNat_of_lt (by omega)
    | ⟨1, _⟩ =>
      show 0 = (β (1 : Fin 2)).val
      omega

theorem idx0 (g : Routed m) (t : Fin (cfgM m (ok_of m g)).N) (h : t.val < (V m (0 : Dev nD) main_arg3 at1 : BitVec 32).toNat) :
    ((cfgM m (ok_of m g)).win 0).index t = ![t.val, 0] := by
  refine (rows_at m g _).trans ?_
  have hv : (grid0.coords t 0).val = t.val := point_val t
  exact congrArg (fun q => ![q, 0]) (by rw [show ((cfgM m (ok_of m g)).grid.coords t 0).val = t.val from hv]; omega)
theorem idx1 (hO : Ok m) (t : Fin (cfgM m hO).N) : ((cfgM m hO).win 1).index t = ![t.val, 0] := by
  have hv : (grid0.coords t 0).val = t.val := point_val t
  have ht : t.val < 192 := lt_of_lt_of_eq t.isLt N_0
  refine congrArg (fun q => ![q, 0]) ?_
  show (BitVec.ofNat 32 (grid0.coords t 0).val).toNat = t.val
  rw [hv]
  exact WordCmp.toNat_ofNat_of_lt (by omega)

/-! ## The result -/

/-- The blocks in use, the expert of block `n`, and the arguments, as numbers. -/
def cnt (c : Dev nD) : ℕ := (V m c main_arg3 at1 : BitVec 32).toNat
def exOf (c : Dev nD) (n : ℕ) : Fin 64 := ⟨(V m c main_arg0 (at192 n) : BitVec 32).toNat % 64, Nat.mod_lt _ (by decide)⟩
def argX (c : Dev nD) (r : Fin 49152) (k : Fin 2048) : EReal := (V m c main_arg4 : Vec Ideal S49152x2048 .f32) (ix2 r k)
def argG (c : Dev nD) (e : Fin 64) (l : Fin 2048) (j : Fin 512) : EReal := (V m c main_arg5 : Vec Ideal S64x2048x512 .f32) (ix3 e l j)
def argU (c : Dev nD) (e : Fin 64) (l : Fin 2048) (j : Fin 512) : EReal := (V m c main_arg6 : Vec Ideal S64x2048x512 .f32) (ix3 e l j)
def argD (c : Dev nD) (e : Fin 64) (j : Fin 512) (k : Fin 2048) : EReal := (V m c main_arg7 : Vec Ideal S64x512x2048 .f32) (ix3 e j k)

/-- The result's number at row `r` and column `k`. -/
def outAt (c : Dev nD) (r : Fin 49152) (k : Fin 2048) : EReal :=
  if r.val / 256 < cnt m c then
    expertOf (argX m c r) (argG m c (exOf m c (r.val / 256))) (argU m c (exOf m c (r.val / 256))) (argD m c (exOf m c (r.val / 256))) k
  else 0

section
variable (g : Routed m) (c : Dev nD) (t : Fin (cfgM m (ok_of m g)).N)

theorem pt_lt : t.val < 192 := lt_of_lt_of_eq t.isLt N_0
abbrev rowG (p : Fin 256) : Fin 49152 := ⟨256 * t.val + p.val, by have := pt_lt m g t; omega⟩
theorem rowG_block (p : Fin 256) : (rowG m g t p).val / 256 = t.val := by
  show (256 * t.val + p.val) / 256 = t.val
  omega

theorem blk_X (h : t.val < cnt m c) (p : Fin 256) (l : Fin 2048) : iblk m (ok_of m g) c 0 t (ix2 p l) = argX m c (rowG m g t p) l := by
  obtain rfl : c = 0 := Subsingleton.elim _ _
  have e := idx0 m g t h
  unfold argX iblk
  blk_ext [e]

theorem res_pt (p : Fin 256) (k : Fin 2048) : resAt m (ok_of m g) c t (ix2 p k) = outAt m c (rowG m g t p) k := by
  unfold resAt res outAt
  rw [rowG_block]
  by_cases h : t.val < cnt m c
  · rw [if_pos h, if_pos (show t.val < (V m c main_arg3 at1 : BitVec 32).toNat from h)]
    unfold outP
    refine (expert_at _ _ _ _ p k).trans ?_
    exact congrFun (congr (congr (congr (congrArg expertOf (funext fun l => blk_X m g c t h p l))
      (funext fun l => funext fun j => row_g _ _ l j)) (funext fun l => funext fun j => row_u _ _ l j)) (funext fun j => funext fun k => row_d _ _ j k)) k
  · rw [if_neg h, if_neg (show ¬t.val < (V m c main_arg3 at1 : BitVec 32).toNat from h)]
    exact zero_at _
end

theorem final1 (g : Routed m) (c : Dev nD) : (dats m (ok_of m g) 0 c).arrAt 1 (cfgM m (ok_of m g)).N = fun (y : S49152x2048.Idx) => outAt m c (y 0) (y 1) := by
  refine (dats m (ok_of m g) 0 c).arrAt_eq_of_covers 1 _ (covers1 m (ok_of m g)) fun t hf (y : S256x2048.Idx) => ?_
  blk_simp
  rw [after0_1]
  have hy : y = ix2 (y 0) (y 1) := by funext a; fin_cases a <;> rfl
  refine (congrArg _ hy).trans ((res_pt m g c t (y 0) (y 1)).trans ?_)
  have e := idx1 m (ok_of m g) t
  congr 1
  · refine Fin.ext ?_
    blk_simp [e]
    exact congrArg (· + (y 0).val) (Nat.mul_comm 256 t.val)
  · refine Fin.ext ?_
    blk_simp [e]

end Cert.Kernel4Ideal.Value

end
-- ==== Proof.Experts.lean ====
/-  The experts: kernel and reference end with the same result. -/
module

public import proofs.«01_k».proof.Defs
public import proofs.«01_k».proof.Proof.ExKernel
public import proofs.«01_k».proof.Proof.ExRef
public import proofs.«01_k».proof.Proof.Gen.Kernel4
public import proofs.«01_k».proof.Proof.Gen.Pre_tables_ok
public import Idealize.ShloMosaic.Adequacy
public import Idealize.ShloMosaic.Lib.Claim

@[expose] public section

set_option maxRecDepth 16384

noncomputable section

namespace Cert.Experts

open Idealize.ShloMosaic Idealize.ShloMosaic.TcCoe Idealize.ShloMosaic.Tactic Idealize.SL.Sem Idealize.ShloMosaic.StableHlo

/-- A routing's tables, on words. -/
theorem routed_bits (m : (ℓ : Loc Cert.Kernel4Ideal.nD Cert.Kernel4Ideal.τ Cert.Kernel4Ideal.sig) → Buf (Elt Bits) ℓ)
    (h : ∀ c : Dev Cert.Kernel4Ideal.nD, Cert.Pre_tables_ok.fn (F := Bits) (m (c.tc.loc Cert.Kernel4Ideal.main_arg0)) (m (c.tc.loc Cert.Kernel4Ideal.main_arg1))
      (m (c.tc.loc Cert.Kernel4Ideal.main_arg2)) (m (c.tc.loc Cert.Kernel4Ideal.main_arg3)) (m (c.tc.loc Cert.Kernel4Ideal.main_arg4)) (m (c.tc.loc Cert.Kernel4Ideal.main_arg5))
      (m (c.tc.loc Cert.Kernel4Ideal.main_arg6)) (m (c.tc.loc Cert.Kernel4Ideal.main_arg7)) = fun _ => 1#1) : Cert.Kernel4Ideal.Hand.Routed m := fun c =>
  Cert.Kernel4Ideal.Hand.good_of _ _ _ _ fun n hn => Cert.Kernel4Ideal.Hand.okWord_of _ _ _ _ _ _ _ _ (h c) n hn
/-- A routing's tables, idealized. -/
theorem routed_ideal (m : (ℓ : Loc Cert.Kernel4Ideal.nD Cert.Kernel4Ideal.τ Cert.Kernel4Ideal.sig) → Buf (Elt Ideal) ℓ) (h : Cert.Pre_Kernel4Ideal m) :
    Cert.Kernel4Ideal.Hand.Routed m := fun c =>
  Cert.Kernel4Ideal.Hand.good_of _ _ _ _ fun n hn => Cert.Kernel4Ideal.Hand.okWord_of _ _ _ _ _ _ _ _ (h c) n hn

section
open Cert.Kernel4Ideal Cert.Kernel4Ideal.Gen Cert.Kernel4Ideal.Hand Cert.Kernel4Ideal.Value Cert.Reference4Ideal.Value
variable (m : (ℓ : Loc nD τ sig) → Buf (Elt Ideal) ℓ) (c : Dev nD)

/-- The reference's test of a block is the kernel's. -/
theorem used_iff (g : Routed m) (n : ℕ) (hn : n < 192) : IntOp.cmpi .slt (BitVec.ofNat 32 n) (m (c.tc.loc main_arg3) (ix1 0) : BitVec 32) = 1#1 ↔ n < cnt m c := by
  have e : (m (c.tc.loc main_arg3) (ix1 0) : BitVec 32) = V m c main_arg3 at1 := congrArg (m (c.tc.loc main_arg3)) (funext fun (a : Fin 1) => by
    fin_cases a; rfl)
  rw [e]
  have hu : (V m c main_arg3 at1 : BitVec 32).toNat ≤ 192 := (g c).le
  have h := slt_eq (fun (a : Fin 1) => match a with | 0 => ⟨n, hn⟩) (V m c main_arg3 at1 : BitVec 32) hu
  have h' : IntOp.cmpi .slt (BitVec.ofNat 32 n) (V m c main_arg3 at1 : BitVec 32) = BitVec.ofBool (decide (n < cnt m c)) := h
  rw [h']
  by_cases q : n < cnt m c <;> simp [q]

/-- The reference's result, of the kernel's arguments, is what the kernel's window ends with. -/
theorem meet (g : Routed m) : (resR (m (c.tc.loc main_arg0)) (m (c.tc.loc main_arg3)) (m (c.tc.loc main_arg4)) (m (c.tc.loc main_arg5)) (m (c.tc.loc main_arg6)) (m (c.tc.loc main_arg7))
    : FVec Ideal S49152x2048 .f32) = (dats m (ok_of m g) 0 c).arrAt 1 (cfgM m (ok_of m g)).N := by
  refine Eq.trans ?_ (final1 m g c).symm
  funext (y : S49152x2048.Idx)
  have hy : y = ix2 (y 0) (y 1) := by funext a; fin_cases a <;> rfl
  have hn : (y 0).val / 256 < 192 := by have := (show (y 0).val < 49152 from (y 0).isLt); omega
  have ha : (ix1 (blockOf (y 0)) : S192.Idx) = at192 ((y 0).val / 256) := funext fun (a : Fin 1) => by
    fin_cases a
    exact Fin.ext (Nat.mod_eq_of_lt hn).symm
  have hb : (m (c.tc.loc main_arg0) (ix1 (blockOf (y 0))) : BitVec 32) = BitVec.ofNat 32 (exOf m c ((y 0).val / 256)).val := by
    rw [ha]
    have hx := (g c).ex ((y 0).val / 256) hn
    show (V m c main_arg0 (at192 ((y 0).val / 256)) : BitVec 32) = BitVec.ofNat 32 ((V m c main_arg0 (at192 ((y 0).val / 256)) : BitVec 32).toNat % 64)
    rw [Nat.mod_eq_of_lt hx]
    simp
  refine (congrArg _ hy).trans ((resR_at _ _ _ _ _ _ (y 0) (y 1) _ hb).trans ?_)
  unfold outAt
  by_cases q : (y 0).val / 256 < cnt m c
  · rw [if_pos q, if_pos ((used_iff m c g _ hn).2 q)]
    rfl
  · rw [if_neg q, if_neg fun h => q ((used_iff m c g _ hn).1 h)]

/-- The kernel ends with its result at those numbers and its arguments unchanged. -/
theorem run_value (ρ : Dev nD → PrngReg) (g : Routed m) : θ_run defs (onTc (τ := τ) (main (F := Ideal))) ⟨m, fun _ => 0, ρ⟩ (fun r => ∀ c : Dev nD,
      r.2.mem ((c.tc : Thread nD τ).loc main_v0) = (dats m (ok_of m g) 0 c).arrAt 1 (cfgM m (ok_of m g)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1.1 c).1 1, h.2.1 c⟩) (θ_run_and (run_main m ρ (ok_of m g) g) (frame_run m ρ g))
end

set_option maxHeartbeats 1600000 in
/-- The two programs, idealized, compute the same array from the same arguments. -/
theorem algebraic : Cert.algebraic_Kernel4Ideal_Reference4Ideal := by
  pair_intro
  · exact run_value m g (routed_ideal m hpre)
  · hlo_run
    exact meet m c (routed_ideal m hpre)

/-- The kernel ends with its arguments unchanged and every counter at zero, idealized -/
theorem frame_ideal : Cert.quiescent_Kernel4Ideal := fun m g hp => Cert.Kernel4Ideal.Hand.frame_run m g (routed_ideal m hp)

/-- The kernel's body table, on words, is the idealized program's: the two programs are one text. -/
theorem bodies_same : Cert.Kernel4.defs₀ (F := Bits) = Cert.Kernel4Ideal.defs₀ (F := Bits) := by
  unfold Cert.Kernel4.defs₀ Cert.Kernel4Ideal.defs₀
  refine congrArg (Defs.onTc (τ := Cert.Kernel4Ideal.τ)) (funext fun ℓ => funext fun a => ?_)
  match ℓ, a with
  | 0, (t, s) => rfl
theorem table_same : Cert.Kernel4.defs (F := Bits) = Cert.Kernel4Ideal.defs (F := Bits) :=
  congrArg (Pipeline.defs Cert.Kernel4Ideal.pcfgs) bodies_same

set_option maxHeartbeats 1600000 in
/-- and as it runs on words. -/
theorem frame_kernel : Cert.quiescent_Kernel4 := fun m g hp => by
  have h := Cert.Kernel4Ideal.Hand.frame_run (F := Bits) m g (routed_bits m hp)
  rw [← table_same] at h
  exact h

set_option maxHeartbeats 1600000 in
/-- The reference ends with its arguments unchanged and every counter at zero. -/
theorem frame_reference : Cert.quiescent_Reference4Ideal := by
  intro m g _
  hlo_run
  · exact fun _ => ⟨trivial, trivial, trivial, trivial, trivial, trivial, trivial, trivial⟩
  · clear hc
    exact sem_eq_zero_of_no_sems rfl _
/-- The same where the tables are a routing's. -/
theorem frame_reference_routed : Cert.quiescent_Reference4Ideal_pre_tables_ok := fun m g _ => frame_reference m g trivial

end Cert.Experts

end
-- ==== Proof.Chunk.lean ====
/-  One chunk of the retention recurrence, as formulas over the extended reals: the rotary embedding of a row, the
    masked and decayed scores, the output of a chunk from its rows and the state before it, and the state after it.
    Both programs are read down to these formulas. -/
module

public import Idealize.ShloMosaic.Lib.Pointwise

@[expose] public section

set_option maxRecDepth 16384

noncomputable section

open Idealize.ShloMosaic

namespace Cert.Retention

/-- The rotary embedding of a row of 256 entries: entry `d` is paired with the entry 128 places on. -/
def rot (x : Fin 256 → EReal) (cs sn : Fin 128 → EReal) (d : Fin 256) : EReal :=
  if h : d.val < 128 then x d * cs ⟨d.val, h⟩ - x ⟨128 + d.val, by omega⟩ * sn ⟨d.val, h⟩
  else x ⟨d.val - 128, by omega⟩ * sn ⟨d.val - 128, by omega⟩ + x d * cs ⟨d.val - 128, by omega⟩

/-- The factor the rotated keys are scaled by: one sixteenth, the inverse square root of the key width. -/
def scale : EReal := Ideal.ofBits .f32 0x3D800000#32

/-- Output entry `(i, e)` of a chunk before the normalisation: the decayed scores against the chunk's own keys times the
    values, plus the queries against the state before the chunk, decayed by the place in the chunk. -/
def mix (q k v : Fin 128 → Fin 256 → EReal) (cs sn : Fin 128 → Fin 128 → EReal) (din : Fin 128 → Fin 128 → EReal)
    (qdec : Fin 128 → EReal) (S : Fin 256 → Fin 256 → EReal) (i : Fin 128) (e : Fin 256) : EReal :=
  (∑ j, (∑ d, rot (q i) (cs i) (sn i) d * (rot (k j) (cs j) (sn j) d * scale)) * din i j * v j e)
    + (∑ d, rot (q i) (cs i) (sn i) d * S d e) * qdec i

/-- A row with its mean taken off. -/
def centred (o : Fin 256 → EReal) (e : Fin 256) : EReal :=
  o e - Ideal.div (∑ l, o l) (Ideal.ofBits .f32 0x43800000#32)

/-- A row normalised over the head's 256 channels, times the channel gains, times the swish of the gate. -/
def gated (o gn g : Fin 256 → EReal) (e : Fin 256) : EReal :=
  centred o e * Ideal.rsqrt (Ideal.div (∑ l, centred o l * centred o l) (Ideal.ofBits .f32 0x43800000#32)
    + Ideal.ofBits .f32 0x358637BD#32) * gn e * (g e * Ideal.logistic (g e))

/-- What a chunk adds to the state: the decayed keys against the values. -/
def kv (k v : Fin 128 → Fin 256 → EReal) (cs sn : Fin 128 → Fin 128 → EReal) (zeta : Fin 128 → EReal)
    (d e : Fin 256) : EReal :=
  ∑ j, rot (k j) (cs j) (sn j) d * scale * zeta j * v j e

/-- The state after a chunk: the state before it decayed by the chunk's length, plus what the chunk adds. -/
def next (cd : EReal) (S K : Fin 256 → Fin 256 → EReal) (d e : Fin 256) : EReal := cd * S d e + K d e

/-! ## The tables -/

/-- A small natural number as the float the programs make of the integer word. -/
def num (n : ℕ) : EReal := FloatOps.sitofp (F := Ideal) .f32 (BitVec.ofNat 32 n)

/-- The rotary angle of place `p`, pair `j`. -/
def theta (p : Fin 2048) (j : Fin 128) : EReal :=
  num p.val * Ideal.pow (Ideal.ofBits .f32 0x461C4000#32) (Ideal.div (-num j.val) (Ideal.ofBits .f32 0x43000000#32))

/-- The logarithm of the decay of head `h`: of one minus two to the minus five minus `h`. -/
def logGamma (h : Fin 4) : EReal :=
  Ideal.log1p (-Ideal.exp (Ideal.ofBits .f32 0x3F317218#32 * (Ideal.ofBits .f32 0xC0A00000#32 - num h.val)))

/-- The decay between two places of one chunk, zero where the key is later than the query. -/
def decayIn (h : Fin 4) (i j : Fin 128) : EReal :=
  if j.val ≤ i.val then Ideal.exp (logGamma h * max (num i.val - num j.val) 0) else 0
/-- The decay of a key to the end of its chunk. -/
def zeta (h : Fin 4) (i : Fin 128) : EReal :=
  Ideal.exp (logGamma h * (Ideal.ofBits .f32 0x42FE0000#32 - num i.val))
/-- The decay of the state before a chunk to a place in it. -/
def queryDecay (h : Fin 4) (i : Fin 128) : EReal := Ideal.exp (logGamma h * (num i.val + 1))
/-- The decay of the state over a chunk. -/
def chunkDecay (h : Fin 4) : EReal := Ideal.exp (logGamma h * Ideal.ofBits .f32 0x43000000#32)

theorem num_eq (n : ℕ) (h : n < 1024) : num n = ((n : ℝ) : EReal) := by
  have h1 : (BitVec.ofNat 32 n).toInt = (n : ℤ) := by
    rw [BitVec.toInt_eq_toNat_cond, BitVec.toNat_ofNat, Nat.mod_eq_of_lt (by omega), if_pos (by omega)]
  show (((BitVec.ofNat 32 n).toInt : ℝ) : EReal) = _
  rw [h1, Int.cast_natCast]

theorem num_sub_nonneg (i j : ℕ) (hi : i < 1024) (hj : j < 1024) : (0 ≤ num i - num j) ↔ j ≤ i := by
  rw [num_eq i hi, num_eq j hj, ← EReal.coe_sub, EReal.coe_nonneg, sub_nonneg, Nat.cast_le]

/-! ## The whole computation -/

/-- Block `o` of the projected columns (0 the queries, 1 the keys, 2 the values, 3 the gates) of head `h`, at place `i`
    of chunk `n` of sequence `b`. -/
def col (X : Fin 16384 → Fin 6656 → EReal) (b : Fin 8) (n : Fin 16) (o h : Fin 4) (i : Fin 128) (d : Fin 256) : EReal :=
  X ⟨2048 * b.val + 128 * n.val + i.val, by omega⟩ ⟨1024 * o.val + 256 * h.val + d.val, by omega⟩

/-- The rotary tables of chunk `n`. -/
def cosAt (n : Fin 16) (i j : Fin 128) : EReal := Ideal.cos (theta ⟨128 * n.val + i.val, by omega⟩ j)
def sinAt (n : Fin 16) (i j : Fin 128) : EReal := Ideal.sin (theta ⟨128 * n.val + i.val, by omega⟩ j)

/-- What chunk `n` adds to the state of head `h`. -/
def kvAt (X : Fin 16384 → Fin 6656 → EReal) (b : Fin 8) (n : Fin 16) (h : Fin 4) : Fin 256 → Fin 256 → EReal :=
  kv (col X b n 1 h) (col X b n 2 h) (cosAt n) (sinAt n) (zeta h)

/-- The state of head `h` of sequence `b` before chunk `n`. -/
def state (X : Fin 16384 → Fin 6656 → EReal) (b : Fin 8) (h : Fin 4) : ℕ → Fin 256 → Fin 256 → EReal
  | 0 => fun _ _ => 0
  | n + 1 => next (chunkDecay h) (state X b h n) (if hn : n < 16 then kvAt X b ⟨n, hn⟩ h else fun _ _ => 0)

/-- The result at place `i` of chunk `n` of sequence `b`, channel `e` of head `h`. -/
def result (X : Fin 16384 → Fin 6656 → EReal) (gn : Fin 1024 → EReal) (b : Fin 8) (n : Fin 16) (h : Fin 4)
    (i : Fin 128) (e : Fin 256) : EReal :=
  gated (mix (col X b n 0 h) (col X b n 1 h) (col X b n 2 h) (cosAt n) (sinAt n) (decayIn h) (queryDecay h)
    (state X b h n.val) i) (fun e => gn ⟨256 * h.val + e.val, by omega⟩) (col X b n 3 h i) e

/-- The result at row `r` and column `c`: chunk, head and places read off the two numbers. -/
def resultAt (X : Fin 16384 → Fin 6656 → EReal) (gn : Fin 1024 → EReal) (r : Fin 16384) (c : Fin 1024) : EReal :=
  result X gn ⟨r.val / 2048, by omega⟩ ⟨r.val % 2048 / 128, by omega⟩ ⟨c.val / 256, by omega⟩ ⟨r.val % 128, by omega⟩
    ⟨c.val % 256, by omega⟩

end Cert.Retention

end
-- ==== Proof.Pay.lean ====
/-  The kernel's arithmetic for one head of one chunk: every head of both chunks of a grid point computes the same two
    tensors, here `outV` (what is written) and `stateV` (the state carried on), and these read at an index are the
    formulas of `Cert.Retention`. -/
module

public import proofs.«01_k».proof.Proof.Chunk
public import proofs.«01_k».proof.Proof.Gen.KernelIdeal.Skeleton

@[expose] public section

set_option maxRecDepth 16384

noncomputable section

open Idealize.ShloMosaic Idealize.ShloMosaic.TcCoe Idealize.SL.Sem

namespace Cert.KernelIdeal.Value

open Cert.KernelIdeal Cert.KernelIdeal.Gen Cert.Retention

/-- The rotary embedding of the rows of a block, as a tensor. -/
def rotV (c s : Vec Ideal S128x128 .f32) (q : Vec Ideal S128x256 .bf16) : FVec Ideal S128x256 .f32 :=
  let a := extractStridedSlice S128x128 ![0, 0] (extf .f32 q bitsLt_bf16_f32) slices_S128x256_o0_0_S128x128
  let b := extractStridedSlice S128x128 ![0, 128] (extf .f32 q bitsLt_bf16_f32) slices_S128x256_o0_128_S128x128
  concatenate S128x256 1 [⟨S128x128, subf (mulf a c) (mulf b s)⟩, ⟨S128x128, addf (mulf a s) (mulf b c)⟩]
    concatenates_S128x128_S128x128_S128x256_d1

/-- The rotated keys, scaled. -/
def keyV (c s : Vec Ideal S128x128 .f32) (k : Vec Ideal S128x256 .bf16) : FVec Ideal S128x256 .f32 :=
  mulf (rotV c s k) (broadcast S128x256 (Scalar.ofBits .f32 0x3D800000#32))

/-- The chunk's output before the normalisation. -/
def mixV (c s : Vec Ideal S128x128 .f32) (q k v : Vec Ideal S128x256 .bf16) (din : Vec Ideal S1x128x128 .f32)
    (S : Vec Ideal S1x256x256 .f32) (qd : Vec Ideal S1x128x1 .f32) : FVec Ideal S128x256 .f32 :=
  let sc := mulf (matmul (φ₁ := .bf16) (φ₂ := .bf16) dot_S128x256_S128x256_S128x128_1_1_0_0_n_n none (truncf .bf16 (rotV c s q) bitsLt_bf16_f32)
    (truncf .bf16 (keyV c s k) bitsLt_bf16_f32) (constant S128x128 .f32 0x00000000#32))
    (shapeCast S128x128 din shapeCasts_S1x128x128_S128x128)
  addf (matmul (φ₁ := .bf16) (φ₂ := .bf16) dot_S128x128_S128x256_S128x256_1_0_0_1_n_n none (truncf .bf16 sc bitsLt_bf16_f32) v
      (constant S128x256 .f32 0x00000000#32))
    (mulf (matmul (φ₁ := .bf16) (φ₂ := .bf16) dot_S128x256_S256x256_S128x256_1_0_0_1_n_n none (truncf .bf16 (rotV c s q) bitsLt_bf16_f32)
        (truncf .bf16 (shapeCast S256x256 S shapeCasts_S1x256x256_S256x256) bitsLt_bf16_f32)
        (constant S128x256 .f32 0x00000000#32))
      (broadcastTo S128x256 (shapeCast S128x1 qd shapeCasts_S1x128x1_S128x1) broadcasts_S128x1_S128x256))

/-- The mean over the channels of each row. -/
def meanV (o : FVec Ideal S128x256 .f32) : FVec Ideal S128x1 .f32 :=
  divf (shapeCast S128x1 (multiReduction .add [1] S128 o 0x00000000#32 reduces_S128x256_S128 (.inl rfl) rfl)
    shapeCasts_S128_S128x1) (broadcast S128x1 (Scalar.ofBits .f32 0x43800000#32))

/-- The rows with their means taken off. -/
def centredV (o : FVec Ideal S128x256 .f32) : FVec Ideal S128x256 .f32 :=
  subf o (broadcastTo S128x256 (meanV o) broadcasts_S128x1_S128x256)

/-- The rows normalised, gained and gated. -/
def gatedV (o : FVec Ideal S128x256 .f32) (gn : Vec Ideal S1x256 .f32) (g : Vec Ideal S128x256 .bf16) :
    FVec Ideal S128x256 .bf16 :=
  let o' := mulf (centredV o) (broadcastTo S128x256 (rsqrt (addf (meanV (mulf (centredV o) (centredV o)))
    (broadcast S128x1 (Scalar.ofBits .f32 0x358637BD#32)))) broadcasts_S128x1_S128x256)
  truncf .bf16 (mulf (mulf o' (broadcastTo S128x256 gn broadcasts_S1x256_S128x256))
    (mulf (extf .f32 g bitsLt_bf16_f32) (logistic (extf .f32 g bitsLt_bf16_f32)))) bitsLt_bf16_f32

/-- What is written for one head of one chunk. -/
def outV (c s : Vec Ideal S128x128 .f32) (q k v g : Vec Ideal S128x256 .bf16) (din : Vec Ideal S1x128x128 .f32)
    (S : Vec Ideal S1x256x256 .f32) (qd : Vec Ideal S1x128x1 .f32) (gn : Vec Ideal S1x256 .f32) :
    FVec Ideal S128x256 .bf16 :=
  gatedV (mixV c s q k v din S qd) gn g

/-- The state carried on by one head. -/
def stateV (c s : Vec Ideal S128x128 .f32) (k v : Vec Ideal S128x256 .bf16) (S : Vec Ideal S1x256x256 .f32)
    (z : Vec Ideal S1x128x1 .f32) (cd : Vec Ideal S1x1x1 .f32) : FVec Ideal S1x256x256 .f32 :=
  shapeCast S1x256x256
    (addf (mulf (broadcastTo S256x256 (shapeCast S1x1 cd shapeCasts_S1x1x1_S1x1) broadcasts_S1x1_S256x256)
        (shapeCast S256x256 S shapeCasts_S1x256x256_S256x256))
      (matmul (φ₁ := .bf16) (φ₂ := .bf16) dot_S128x256_S128x256_S256x256_0_0_1_1_n_n none
        (truncf .bf16 (mulf (keyV c s k) (broadcastTo S128x256 (shapeCast S128x1 z shapeCasts_S1x128x1_S128x1)
          broadcasts_S128x1_S128x256)) bitsLt_bf16_f32) v (constant S256x256 .f32 0x00000000#32)))
    shapeCasts_S256x256_S1x256x256

variable (c s : Vec Ideal S128x128 .f32) (q k v g : Vec Ideal S128x256 .bf16) (din : Vec Ideal S1x128x128 .f32)
  (S : Vec Ideal S1x256x256 .f32) (z qd : Vec Ideal S1x128x1 .f32) (cd : Vec Ideal S1x1x1 .f32)
  (gn : Vec Ideal S1x256 .f32)

theorem rotV_at (i : Fin 128) (d : Fin 256) :
    rotV c s q (ix2 i d) = rot (fun d => q (ix2 i d)) (fun d => c (ix2 i d)) (fun d => s (ix2 i d)) d := by
  pointwise [rotV, rot]
  by_cases h : (d : ℕ) < 128
  · simp only [dif_pos h]
  · simp only [dif_neg h]
    rw [show (⟨128 + (d.val - 128), by omega⟩ : Fin 256) = d from Fin.ext (by show 128 + (d.val - 128) = d.val; omega)]

theorem keyV_at (i : Fin 128) (d : Fin 256) :
    keyV c s k (ix2 i d)
      = rot (fun d => k (ix2 i d)) (fun d => c (ix2 i d)) (fun d => s (ix2 i d)) d * scale := by
  pointwise [keyV, scale]
  rw [rotV_at]

theorem mixV_at (i : Fin 128) (e : Fin 256) :
    mixV c s q k v din S qd (ix2 i e)
      = mix (fun i d => q (ix2 i d)) (fun i d => k (ix2 i d)) (fun i d => v (ix2 i d)) (fun i d => c (ix2 i d))
          (fun i d => s (ix2 i d)) (fun i j => din (ix3 0 i j)) (fun i => qd (ix3 0 i 0))
          (fun d e => S (ix3 0 d e)) i e := by
  pointwise [mixV, mix]
  simp only [rotV_at, keyV_at]

theorem centredV_at (o : FVec Ideal S128x256 .f32) (i : Fin 128) (e : Fin 256) :
    centredV o (ix2 i e) = centred (fun e => o (ix2 i e)) e := by
  pointwise [centredV, meanV, centred]

theorem gatedV_at (o : FVec Ideal S128x256 .f32) (i : Fin 128) (e : Fin 256) :
    gatedV o gn g (ix2 i e)
      = gated (fun e => o (ix2 i e)) (fun e => gn (ix2 0 e)) (fun e => g (ix2 i e)) e := by
  pointwise [gatedV, meanV, gated]
  simp only [centredV_at]

/-- What is written, at an index. -/
theorem outV_at (i : Fin 128) (e : Fin 256) :
    outV c s q k v g din S qd gn (ix2 i e)
      = gated (mix (fun i d => q (ix2 i d)) (fun i d => k (ix2 i d)) (fun i d => v (ix2 i d)) (fun i d => c (ix2 i d))
          (fun i d => s (ix2 i d)) (fun i j => din (ix3 0 i j)) (fun i => qd (ix3 0 i 0))
          (fun d e => S (ix3 0 d e)) i) (fun e => gn (ix2 0 e)) (fun e => g (ix2 i e)) e := by
  rw [outV, gatedV_at]
  simp only [mixV_at]

/-- The state carried on, at an index. -/
theorem stateV_at (d e : Fin 256) :
    stateV c s k v S z cd (ix3 0 d e)
      = cd (ix3 0 0 0) * S (ix3 0 d e)
        + kv (fun i d => k (ix2 i d)) (fun i d => v (ix2 i d)) (fun i d => c (ix2 i d)) (fun i d => s (ix2 i d))
            (fun i => z (ix3 0 i 0)) d e := by
  pointwise [stateV, kv]
  simp only [keyV_at]

/-! The eight states and the eight outputs a grid point stores are `stateV` and `outV` (the first four lines of each
    are the first chunk's heads, the other four the second chunk's). -/

theorem pay2_eq : k0_pay2 (F := Ideal) c = c := by simp only [k0_pay2, shapeCast_self]
theorem pay3_eq : k0_pay3 (F := Ideal) s = s := by simp only [k0_pay3, shapeCast_self]
theorem pay34_eq : k0_pay34 (F := Ideal) c = c := by simp only [k0_pay34, shapeCast_self]
theorem pay35_eq : k0_pay35 (F := Ideal) s = s := by simp only [k0_pay35, shapeCast_self]

theorem pay4_eq : k0_pay4 (F := Ideal) c s k = keyV c s k := by
  unfold k0_pay4; rw [pay2_eq, pay3_eq]; rfl
theorem pay5_eq : k0_pay5 (F := Ideal) c s q = truncf .bf16 (rotV c s q) bitsLt_bf16_f32 := by
  unfold k0_pay5; rw [pay2_eq, pay3_eq]; rfl
theorem pay36_eq : k0_pay36 (F := Ideal) c s q = rotV c s q := by
  unfold k0_pay36; rw [pay34_eq, pay35_eq]; rfl

theorem state00 : k0_pay8 (F := Ideal) (k0_pay4 c s k) v S z cd = stateV c s k v S z cd := by
  simp only [k0_pay8, k0_pay7, pay4_eq, stateV, keyV, rotV, shapeCast_self]
theorem state01 : k0_pay16 (F := Ideal) (k0_pay12 (k0_pay2 c) (k0_pay3 s) k) v S z cd = stateV c s k v S z cd := by
  simp only [pay2_eq, pay3_eq]
  simp only [k0_pay16, k0_pay15, k0_pay12, pay2_eq, pay3_eq, stateV, keyV, rotV, shapeCast_self]
theorem state02 : k0_pay24 (F := Ideal) (k0_pay20 (k0_pay2 c) (k0_pay3 s) k) v S z cd = stateV c s k v S z cd := by
  simp only [pay2_eq, pay3_eq]
  simp only [k0_pay24, k0_pay23, k0_pay20, pay2_eq, pay3_eq, stateV, keyV, rotV, shapeCast_self]
theorem state03 : k0_pay30 (F := Ideal) (k0_pay28 (k0_pay2 c) (k0_pay3 s) k) v S z cd = stateV c s k v S z cd := by
  simp only [pay2_eq, pay3_eq]
  simp only [k0_pay30, k0_pay29, k0_pay28, pay2_eq, pay3_eq, stateV, keyV, rotV, shapeCast_self]
theorem state10 : k0_pay44 (F := Ideal) (k0_pay40 S) (k0_pay42 (k0_pay34 c) (k0_pay35 s) k v z) (k0_pay43 cd)
    = stateV c s k v S z cd := by
  simp only [pay34_eq, pay35_eq]
  simp only [k0_pay44, k0_pay40, k0_pay42, k0_pay43, pay34_eq, pay35_eq, k0_pay37, stateV, keyV, rotV, shapeCast_self]

theorem state11 : k0_pay58 (F := Ideal) (k0_pay55 S) (k0_pay57 (k0_pay34 c) (k0_pay35 s) k v z) cd = stateV c s
    k v S z cd := by
  simp only [pay34_eq, pay35_eq]
  simp only [pay34_eq, pay35_eq, k0_pay52, k0_pay55, k0_pay57, k0_pay58, stateV, keyV, rotV, shapeCast_self]

theorem state12 : k0_pay69 (F := Ideal) (k0_pay63 (k0_pay34 c) (k0_pay35 s) k) v (k0_pay66 S) (k0_pay68 z) cd =
    stateV c s k v S z cd := by
  simp only [pay34_eq, pay35_eq]
  simp only [pay34_eq, pay35_eq, k0_pay63, k0_pay66, k0_pay68, k0_pay69, stateV, keyV, rotV, shapeCast_self]

theorem state13 : k0_pay76 (F := Ideal) (k0_pay71 (k0_pay34 c) (k0_pay35 s) k) v (k0_pay74 S) z cd = stateV c s
    k v S z cd := by
  simp only [pay34_eq, pay35_eq]
  simp only [pay34_eq, pay35_eq, k0_pay71, k0_pay74, k0_pay76, stateV, keyV, rotV, shapeCast_self]

theorem out00 : k0_pay11 (F := Ideal) (k0_pay9 v (k0_pay5 c s q) (k0_pay6 c s q k din) (constant S128x256 .f32
    0x00000000#32) S qd) (k0_pay10 v (k0_pay5 c s q) (k0_pay6 c s q k din) (constant S128x256 .f32
    0x00000000#32) S qd) gn g = outV c s q k v g din S qd gn := by
  simp only [pay4_eq, pay5_eq, k0_pay6, k0_pay7, k0_pay9, k0_pay10, k0_pay11, outV, gatedV,
    meanV, centredV, mixV, keyV, rotV, shapeCast_self]

theorem out01 : k0_pay19 (F := Ideal) (k0_pay17 v (k0_pay13 (k0_pay2 c) (k0_pay3 s) q) (k0_pay14 (k0_pay2 c)
    (k0_pay3 s) q k) din S qd) (k0_pay18 v (k0_pay13 (k0_pay2 c) (k0_pay3 s) q) (k0_pay14 (k0_pay2 c) (k0_pay3
    s) q k) din S qd) (FloatOps.ofBits .f32 0x43800000#32) gn g = outV c s q k v g din S qd gn := by
  simp only [pay2_eq, pay3_eq]
  simp only [pay2_eq, pay3_eq, k0_pay12, k0_pay13, k0_pay14, k0_pay15, k0_pay17, k0_pay18, k0_pay19, outV,
    gatedV, meanV, centredV, mixV, keyV, rotV, shapeCast_self]

theorem out02 : k0_pay26 (F := Ideal) (k0_pay25 v (k0_pay21 (k0_pay2 c) (k0_pay3 s) q) (k0_pay22 (k0_pay2 c)
    (k0_pay3 s) k) din S qd) gn g = outV c s q k v g din S qd gn := by
  simp only [pay2_eq, pay3_eq]
  simp only [pay2_eq, pay3_eq, k0_pay20, k0_pay21, k0_pay22, k0_pay23, k0_pay25, k0_pay26, outV, gatedV, meanV,
    centredV, mixV, keyV, rotV, shapeCast_self]

theorem out03 : k0_pay33 (F := Ideal) (k0_pay31 (k0_pay27 (k0_pay2 c) (k0_pay3 s) q) (k0_pay28 (k0_pay2 c)
    (k0_pay3 s) k) v din S qd) (k0_pay32 (k0_pay27 (k0_pay2 c) (k0_pay3 s) q) (k0_pay28 (k0_pay2 c) (k0_pay3 s)
    k) v din S qd) gn g = outV c s q k v g din S qd gn := by
  simp only [pay2_eq, pay3_eq]
  simp only [pay2_eq, pay3_eq, k0_pay27, k0_pay28, k0_pay29, k0_pay31, k0_pay32, k0_pay33, outV, gatedV, meanV,
    centredV, mixV, keyV, rotV, shapeCast_self]

theorem out10 : k0_pay45 (F := Ideal) (k0_pay39 (k0_pay34 c) (k0_pay35 s) (k0_pay36 c s q) k v din) (k0_pay41
    (k0_pay36 c s q) S qd) gn g = outV c s q k v g din S qd gn := by
  simp only [pay34_eq, pay35_eq]
  simp only [pay34_eq, pay35_eq, pay36_eq, k0_pay37, k0_pay38, k0_pay39, k0_pay40, k0_pay41, k0_pay45, outV,
    gatedV, meanV, centredV, mixV, keyV, rotV, shapeCast_self]

theorem out11 : k0_pay59 (F := Ideal) (k0_pay54 (k0_pay34 c) (k0_pay35 s) (k0_pay49 (k0_pay34 c) (k0_pay35 s)
    q) (k0_pay50 (k0_pay35 s) q) (k0_pay51 (k0_pay34 c) q) k v din) (k0_pay56 (k0_pay49 (k0_pay34 c) (k0_pay35
    s) q) (k0_pay50 (k0_pay35 s) q) (k0_pay51 (k0_pay34 c) q) S qd) gn g = outV c s q k v g din S qd gn := by
  simp only [pay34_eq, pay35_eq]
  simp only [pay34_eq, pay35_eq, k0_pay46, k0_pay47, k0_pay48, k0_pay49, k0_pay50, k0_pay51, k0_pay52, k0_pay53,
    k0_pay54, k0_pay55, k0_pay56, k0_pay59, outV, gatedV, meanV, centredV, mixV, keyV, rotV, shapeCast_self]

theorem out12 : k0_pay70 (F := Ideal) (k0_pay65 (k0_pay34 c) (k0_pay35 s) (k0_pay61 q) (k0_pay62 q) k v din)
    (k0_pay67 (k0_pay34 c) (k0_pay35 s) (k0_pay61 q) (k0_pay62 q) S qd) gn g = outV c s q k v g din S qd gn := by
  simp only [pay34_eq, pay35_eq]
  simp only [pay34_eq, pay35_eq, k0_pay60, k0_pay61, k0_pay62, k0_pay63, k0_pay64, k0_pay65, k0_pay66, k0_pay67,
    k0_pay70, outV, gatedV, meanV, centredV, mixV, keyV, rotV, shapeCast_self]

theorem out13 : k0_pay77 (F := Ideal) (k0_pay73 (k0_pay34 c) (k0_pay35 s) q k v din) (k0_pay75 (k0_pay34 c)
    (k0_pay35 s) q S qd) gn g = outV c s q k v g din S qd gn := by
  simp only [pay34_eq, pay35_eq]
  simp only [pay34_eq, pay35_eq, k0_pay71, k0_pay72, k0_pay73, k0_pay74, k0_pay75, k0_pay77, outV, gatedV, meanV,
    centredV, mixV, keyV, rotV, shapeCast_self]

end Cert.KernelIdeal.Value

end
-- ==== Proof.Step.lean ====
/-  One grid point of the kernel: what it writes to its block of the result and the states it leaves, from the blocks it
    reads and the states left by the point before it. -/
module

public import proofs.«01_k».proof.Proof.Pay
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Retention

variable (m : (ℓ : Loc nD τ sig) → Buf (Elt Ideal) ℓ)

/-- The place `128 s + i` of row `i` of chunk `s` in a block of 256 rows. -/
abbrev row2 (s : Fin 2) (i : Fin 128) : Fin 256 := ⟨128 * s.val + i.val, by omega⟩
/-- The column of channel `e` of head `h`. -/
abbrev col4 (h : Fin 4) (e : Fin 256) : Fin 1024 := ⟨256 * h.val + e.val, by omega⟩

/-- The queries of head `h` in chunk `s` of a block; the same for the keys, the values and the gates. -/
def head (x : Vec Ideal S256x1024 .bf16) (s : Fin 2) (h : Fin 4) (i : Fin 128) (d : Fin 256) : EReal :=
  x (ix2 (row2 s i) (col4 h d))
/-- The angle tables of chunk `s`. -/
def angle (x : Vec Ideal S256x128 .f32) (s : Fin 2) (i d : Fin 128) : EReal := x (ix2 (row2 s i) d)

/-- What point `t` adds to the state of head `h` in its chunk `s`. -/
def kvPt (c : Dev nD) (t : Fin cfg0.N) (s : Fin 2) (h : Fin 4) : Fin 256 → Fin 256 → EReal :=
  kv (head (X0_1 m c t) s h) (head (X0_2 m c t) s h) (angle (iblk m c 4 t) s) (angle (iblk m c 5 t) s)
    (fun i => iblk m c 7 t (ix3 h i 0))

/-- The state of head `h` after chunk `s` of point `t`, from the state `S` before it. -/
def nextPt (c : Dev nD) (t : Fin cfg0.N) (s : Fin 2) (h : Fin 4) (S : Fin 256 → Fin 256 → EReal) :
    Fin 256 → Fin 256 → EReal :=
  next (iblk m c 9 t (ix3 h 0 0)) S (kvPt m c t s h)

/-- What chunk `s` of point `t` writes for head `h`, from the state `S` before the chunk. -/
def outPt (c : Dev nD) (t : Fin cfg0.N) (s : Fin 2) (h : Fin 4) (S : Fin 256 → Fin 256 → EReal) (i : Fin 128)
    (e : Fin 256) : EReal :=
  gated (mix (head (X0_0 m c t) s h) (head (X0_1 m c t) s h) (head (X0_2 m c t) s h) (angle (iblk m c 4 t) s)
      (angle (iblk m c 5 t) s) (fun i j => iblk m c 6 t (ix3 h i j)) (fun i => iblk m c 8 t (ix3 h i 0)) S i)
    (fun e => iblk m c 10 t (ix2 0 (col4 h e))) (head (X0_3 m c t) s h i) e

/-- Where the first stores hold an index, the earlier ones do not matter there. -/
theorem canon_prefix {S : Shape} {e : EltTy} : ∀ (L L' : List (View.Piece (Elt Ideal) S e)) (y : S.Idx),
    (∃ p ∈ L, y ∈ p.1.set) → View.canon (L ++ L') y = View.canon L y
  | [], _, _, ⟨_, hp, _⟩ => absurd hp List.not_mem_nil
  | p :: L, L', y, hy => by
    by_cases hm : y ∈ p.1.set
    · obtain ⟨x, rfl⟩ := p.1.exists_idx_of_mem hm
      exact (View.canon_cons_emb p.1 p.2 _ x).trans (View.canon_cons_emb p.1 p.2 _ x).symm
    · rw [List.cons_append, View.canon_cons_of_not_mem _ _ hm, View.canon_cons_of_not_mem _ _ hm]
      refine canon_prefix L L' y ?_
      obtain ⟨q, hq, hyq⟩ := hy
      rcases List.mem_cons.mp hq with rfl | hq
      · exact absurd hyq hm
      · exact ⟨q, hq, hyq⟩

/-- The same for four stores. -/
theorem canon_four {S : Shape} {e : EltTy} (p₁ p₂ p₃ p₄ : View.Piece (Elt Ideal) S e)
    (L : List (View.Piece (Elt Ideal) S e)) (y : S.Idx)
    (h : y ∈ p₁.1.set ∨ y ∈ p₂.1.set ∨ y ∈ p₃.1.set ∨ y ∈ p₄.1.set) :
    View.canon (p₁ :: p₂ :: p₃ :: p₄ :: L) y = View.canon [p₁, p₂, p₃, p₄] y :=
  canon_prefix [p₁, p₂, p₃, p₄] L y (by
    rcases h with h | h | h | h
    · exact ⟨p₁, by simp, h⟩
    · exact ⟨p₂, by simp, h⟩
    · exact ⟨p₃, by simp, h⟩
    · exact ⟨p₄, by simp, h⟩)

theorem ld_head (x : Vec Ideal S256x1024 .bf16) (o p : ℕ) (inb) (i : Fin 128) (d : Fin 256) :
    x ((Rect.unit (s := S256x1024) ![o, p] ![128, 256] inb).idx (ix2 i d))
      = x (ix2 ⟨o + i.val, by have := inb 0; simp at this; omega⟩ ⟨p + d.val, by have := inb 1; simp at this; omega⟩) := by
  exact View.ld_unit_apply_of x _ _ _ _ _ fun a => by fin_cases a <;> simp
theorem ld_angle (x : Vec Ideal S256x128 .f32) (o : ℕ) (inb) (i d : Fin 128) :
    x ((Rect.unit (s := S256x128) ![o, 0] ![128, 128] inb).idx (ix2 i d))
      = x (ix2 ⟨o + i.val, by have := inb 0; simp at this; omega⟩ d) := by
  exact View.ld_unit_apply_of x _ _ _ _ _ fun a => by fin_cases a <;> simp
theorem ld_state (x : Vec Ideal S4x256x256 .f32) (o : ℕ) (inb) (d e : Fin 256) :
    x ((Rect.unit (s := S4x256x256) ![o, 0, 0] ![1, 256, 256] inb).idx (ix3 0 d e))
      = x (ix3 ⟨o, by have := inb 0; simp at this; omega⟩ d e) := by
  exact View.ld_unit_apply_of x _ _ _ _ _ fun a => by fin_cases a <;> simp
theorem ld_din (x : Vec Ideal S4x128x128 .f32) (o : ℕ) (inb) (i j : Fin 128) :
    x ((Rect.unit (s := S4x128x128) ![o, 0, 0] ![1, 128, 128] inb).idx (ix3 0 i j))
      = x (ix3 ⟨o, by have := inb 0; simp at this; omega⟩ i j) := by
  exact View.ld_unit_apply_of x _ _ _ _ _ fun a => by fin_cases a <;> simp
theorem ld_dec (x : Vec Ideal S4x128x1 .f32) (o : ℕ) (inb) (i : Fin 128) :
    x ((Rect.unit (s := S4x128x1) ![o, 0, 0] ![1, 128, 1] inb).idx (ix3 0 i 0))
      = x (ix3 ⟨o, by have := inb 0; simp at this; omega⟩ i 0) := by
  exact View.ld_unit_apply_of x _ _ _ _ _ fun a => by fin_cases a <;> simp
theorem ld_cd (x : Vec Ideal S4x1x1 .f32) (o : ℕ) (inb) :
    x ((Rect.unit (s := S4x1x1) ![o, 0, 0] ![1, 1, 1] inb).idx (ix3 0 0 0))
      = x (ix3 ⟨o, by have := inb 0; simp at this; omega⟩ 0 0) := by
  exact View.ld_unit_apply_of x _ _ _ _ _ fun a => by fin_cases a <;> simp
theorem ld_gn (x : Vec Ideal S1x1024 .f32) (p : ℕ) (inb) (e : Fin 256) :
    x ((Rect.unit (s := S1x1024) ![0, p] ![1, 256] inb).idx (ix2 0 e))
      = x (ix2 0 ⟨p + e.val, by have := inb 1; simp at this; omega⟩) := by
  exact View.ld_unit_apply_of x _ _ _ _ _ fun a => by fin_cases a <;> simp

theorem mem_state (o : ℕ) (inb) (k : Fin 4) (d e : Fin 256) (h : k.val = o) :
    ix3 k d e ∈ (Rect.unit (s := S4x256x256) ![o, 0, 0] ![1, 256, 256] inb).set :=
  Rect.mem_set_unit.mpr fun a => by fin_cases a <;> simp [h]

/-- The states before chunk `s` of a point, from the states `S` before the point. -/
def before (c : Dev nD) (t : Fin cfg0.N) (s : Fin 2) (h : Fin 4) (S : Fin 256 → Fin 256 → EReal) :
    Fin 256 → Fin 256 → EReal :=
  if s = 0 then S else nextPt m c t 0 h S

theorem pay1_at (a : Fin 4) (b d : Fin 256) : k0_pay1 (F := Ideal) (ix3 a b d) = 0 := by
  pointwise [k0_pay1]

/-- The states left by the first point of a sequence. -/
theorem scratchA (c : Dev nD) (t : Fin cfg0.N) (h : t.val % 8 = 0) (k : Fin 4) (d e : Fin 256) :
    (outsAt0 m c t.val t.isLt).2 (ix3 k d e) = nextPt m c t 1 k (nextPt m c t 0 k (fun _ _ => 0)) d e := by
  rw [outsAt0_A m c t h]; frame_out
  simp (disch := decide) only [↓ View.readCov_skip, ↓ View.readCov_cons_toLoadRect, ↓ View.readCov_fill]
  simp only [state00, state01, state02, state03, state10, state11, state12, state13, read_unread_whole]
  refine (canon_four _ _ _ _ _ _ ?_).trans ?_
  · rcases (by omega : k.val = 3 ∨ k.val = 2 ∨ k.val = 1 ∨ k.val = 0) with h | h | h | h
    · exact .inl (mem_state 3 (by decide) _ _ _ h)
    · exact .inr (.inl (mem_state 2 (by decide) _ _ _ h))
    · exact .inr (.inr (.inl (mem_state 1 (by decide) _ _ _ h)))
    · exact .inr (.inr (.inr (mem_state 0 (by decide) _ _ _ h)))
  canon_tiles x g
  case piece0 =>
    obtain rfl : k = 3 := Fin.ext (by have := x0_lt; have := g0; simp at this ⊢; omega)
    obtain rfl : x = ix3 0 d e := by idx_ext
    rw [stateV_at]
    simp only [stateV_at, View.ld, pay1_at, ld_head, ld_angle, ld_state, ld_dec, ld_cd]
    rfl
  case piece1 =>
    obtain rfl : k = 2 := Fin.ext (by have := x0_lt; have := g0; simp at this ⊢; omega)
    obtain rfl : x = ix3 0 d e := by idx_ext
    rw [stateV_at]
    simp only [stateV_at, View.ld, pay1_at, ld_head, ld_angle, ld_state, ld_dec, ld_cd]
    rfl
  case piece2 =>
    obtain rfl : k = 1 := Fin.ext (by have := x0_lt; have := g0; simp at this ⊢; omega)
    obtain rfl : x = ix3 0 d e := by idx_ext
    rw [stateV_at]
    simp only [stateV_at, View.ld, pay1_at, ld_head, ld_angle, ld_state, ld_dec, ld_cd]
    rfl
  case piece3 =>
    obtain rfl : k = 0 := Fin.ext (by have := x0_lt; have := g0; simp at this ⊢; omega)
    obtain rfl : x = ix3 0 d e := by idx_ext
    rw [stateV_at]
    simp only [stateV_at, View.ld, pay1_at, ld_head, ld_angle, ld_state, ld_dec, ld_cd]
    rfl

/-- The states left by a point that is not the first of its sequence. -/
theorem scratchB (c : Dev nD) (t : Fin cfg0.N) (h : ¬ t.val % 8 = 0) (k : Fin 4) (d e : Fin 256) :
    (outsAt0 m c t.val t.isLt).2 (ix3 k d e) = nextPt m c t 1 k (nextPt m c t 0 k (fun d e => (outsAt0 m c (t.val - 1) (by omega)).2 (ix3 k d e))) d e := by
  rw [outsAt0_B m c t h]; frame_out
  simp (disch := decide) only [↓ View.readCov_skip, ↓ View.readCov_cons_toLoadRect, ↓ View.readCov_fill]
  simp only [state00, state01, state02, state03, state10, state11, state12, state13, read_unread_whole]
  refine (canon_four _ _ _ _ _ _ ?_).trans ?_
  · rcases (by omega : k.val = 3 ∨ k.val = 2 ∨ k.val = 1 ∨ k.val = 0) with h | h | h | h
    · exact .inl (mem_state 3 (by decide) _ _ _ h)
    · exact .inr (.inl (mem_state 2 (by decide) _ _ _ h))
    · exact .inr (.inr (.inl (mem_state 1 (by decide) _ _ _ h)))
    · exact .inr (.inr (.inr (mem_state 0 (by decide) _ _ _ h)))
  canon_tiles x g
  case piece0 =>
    obtain rfl : k = 3 := Fin.ext (by have := x0_lt; have := g0; simp at this ⊢; omega)
    obtain rfl : x = ix3 0 d e := by idx_ext
    rw [stateV_at]
    simp only [stateV_at, View.ld, ld_head, ld_angle, ld_state, ld_dec, ld_cd]
    rfl
  case piece1 =>
    obtain rfl : k = 2 := Fin.ext (by have := x0_lt; have := g0; simp at this ⊢; omega)
    obtain rfl : x = ix3 0 d e := by idx_ext
    rw [stateV_at]
    simp only [stateV_at, View.ld, ld_head, ld_angle, ld_state, ld_dec, ld_cd]
    rfl
  case piece2 =>
    obtain rfl : k = 1 := Fin.ext (by have := x0_lt; have := g0; simp at this ⊢; omega)
    obtain rfl : x = ix3 0 d e := by idx_ext
    rw [stateV_at]
    simp only [stateV_at, View.ld, ld_head, ld_angle, ld_state, ld_dec, ld_cd]
    rfl
  case piece3 =>
    obtain rfl : k = 0 := Fin.ext (by have := x0_lt; have := g0; simp at this ⊢; omega)
    obtain rfl : x = ix3 0 d e := by idx_ext
    rw [stateV_at]
    simp only [stateV_at, View.ld, ld_head, ld_angle, ld_state, ld_dec, ld_cd]
    rfl

/-- What the first point of a sequence writes. -/
theorem outA (c : Dev nD) (t : Fin cfg0.N) (h : t.val % 8 = 0) (s : Fin 2) (k : Fin 4) (i : Fin 128) (e : Fin 256) :
    (outsAt0 m c t.val t.isLt).1 (ix2 (row2 s i) (col4 k e))
      = outPt m c t s k (before m c t s k (fun _ _ => 0)) i e := by
  rw [outsAt0_A m c t h]; frame_out
  simp (disch := decide) only [↓ View.readCov_skip, ↓ View.readCov_cons_toLoadRect, ↓ View.readCov_fill]
  simp only [out00, out01, out02, out03, out10, out11, out12, out13, state00, state01, state02, state03,
    read_unread_whole]
  canon_tiles x g
  case piece0 =>
    have a : 128 * s.val + i.val = 128 + (x 0).val := g0
    have b : 256 * k.val + e.val = 768 + (x 1).val := g1
    have x0 : (x 0).val < 128 := x0_lt
    have x1 : (x 1).val < 256 := x1_lt
    obtain ⟨rfl, rfl⟩ : s = 1 ∧ k = 3 := ⟨Fin.ext (by simp; omega), Fin.ext (by simp; omega)⟩
    obtain rfl : x = ix2 i e := by
      simp only [Fin.val_zero, Fin.val_one, Fin.val_two] at a b
      idx_ext
    rw [outV_at]
    simp only [stateV_at, View.ld, pay1_at, ld_head, ld_angle, ld_state, ld_dec, ld_cd, ld_din, ld_gn]
    rfl
  case piece1 =>
    have a : 128 * s.val + i.val = 128 + (x 0).val := g0
    have b : 256 * k.val + e.val = 512 + (x 1).val := g1
    have x0 : (x 0).val < 128 := x0_lt
    have x1 : (x 1).val < 256 := x1_lt
    obtain ⟨rfl, rfl⟩ : s = 1 ∧ k = 2 := ⟨Fin.ext (by simp; omega), Fin.ext (by simp; omega)⟩
    obtain rfl : x = ix2 i e := by
      simp only [Fin.val_zero, Fin.val_one, Fin.val_two] at a b
      idx_ext
    rw [outV_at]
    simp only [stateV_at, View.ld, pay1_at, ld_head, ld_angle, ld_state, ld_dec, ld_cd, ld_din, ld_gn]
    rfl
  case piece2 =>
    have a : 128 * s.val + i.val = 128 + (x 0).val := g0
    have b : 256 * k.val + e.val = 256 + (x 1).val := g1
    have x0 : (x 0).val < 128 := x0_lt
    have x1 : (x 1).val < 256 := x1_lt
    obtain ⟨rfl, rfl⟩ : s = 1 ∧ k = 1 := ⟨Fin.ext (by simp; omega), Fin.ext (by simp; omega)⟩
    obtain rfl : x = ix2 i e := by
      simp only [Fin.val_zero, Fin.val_one, Fin.val_two] at a b
      idx_ext
    rw [outV_at]
    simp only [stateV_at, View.ld, pay1_at, ld_head, ld_angle, ld_state, ld_dec, ld_cd, ld_din, ld_gn]
    rfl
  case piece3 =>
    have a : 128 * s.val + i.val = 128 + (x 0).val := g0
    have b : 256 * k.val + e.val = (x 1).val := g1
    have x0 : (x 0).val < 128 := x0_lt
    have x1 : (x 1).val < 256 := x1_lt
    obtain ⟨rfl, rfl⟩ : s = 1 ∧ k = 0 := ⟨Fin.ext (by simp; omega), Fin.ext (by simp; omega)⟩
    obtain rfl : x = ix2 i e := by
      simp only [Fin.val_zero, Fin.val_one, Fin.val_two] at a b
      idx_ext
    rw [outV_at]
    simp only [stateV_at, View.ld, pay1_at, ld_head, ld_angle, ld_state, ld_dec, ld_cd, ld_din, ld_gn]
    rfl
  case piece4 =>
    have a : 128 * s.val + i.val = (x 0).val := g0
    have b : 256 * k.val + e.val = 768 + (x 1).val := g1
    have x0 : (x 0).val < 128 := x0_lt
    have x1 : (x 1).val < 256 := x1_lt
    obtain ⟨rfl, rfl⟩ : s = 0 ∧ k = 3 := ⟨Fin.ext (by simp; omega), Fin.ext (by simp; omega)⟩
    obtain rfl : x = ix2 i e := by
      simp only [Fin.val_zero, Fin.val_one, Fin.val_two] at a b
      idx_ext
    rw [outV_at]
    simp only [stateV_at, View.ld, pay1_at, ld_head, ld_angle, ld_state, ld_dec, ld_cd, ld_din, ld_gn]
    rfl
  case piece5 =>
    have a : 128 * s.val + i.val = (x 0).val := g0
    have b : 256 * k.val + e.val = 512 + (x 1).val := g1
    have x0 : (x 0).val < 128 := x0_lt
    have x1 : (x 1).val < 256 := x1_lt
    obtain ⟨rfl, rfl⟩ : s = 0 ∧ k = 2 := ⟨Fin.ext (by simp; omega), Fin.ext (by simp; omega)⟩
    obtain rfl : x = ix2 i e := by
      simp only [Fin.val_zero, Fin.val_one, Fin.val_two] at a b
      idx_ext
    rw [outV_at]
    simp only [stateV_at, View.ld, pay1_at, ld_head, ld_angle, ld_state, ld_dec, ld_cd, ld_din, ld_gn]
    rfl
  case piece6 =>
    have a : 128 * s.val + i.val = (x 0).val := g0
    have b : 256 * k.val + e.val = 256 + (x 1).val := g1
    have x0 : (x 0).val < 128 := x0_lt
    have x1 : (x 1).val < 256 := x1_lt
    obtain ⟨rfl, rfl⟩ : s = 0 ∧ k = 1 := ⟨Fin.ext (by simp; omega), Fin.ext (by simp; omega)⟩
    obtain rfl : x = ix2 i e := by
      simp only [Fin.val_zero, Fin.val_one, Fin.val_two] at a b
      idx_ext
    rw [outV_at]
    simp only [stateV_at, View.ld, pay1_at, ld_head, ld_angle, ld_state, ld_dec, ld_cd, ld_din, ld_gn]
    rfl
  case piece7 =>
    have a : 128 * s.val + i.val = (x 0).val := g0
    have b : 256 * k.val + e.val = (x 1).val := g1
    have x0 : (x 0).val < 128 := x0_lt
    have x1 : (x 1).val < 256 := x1_lt
    obtain ⟨rfl, rfl⟩ : s = 0 ∧ k = 0 := ⟨Fin.ext (by simp; omega), Fin.ext (by simp; omega)⟩
    obtain rfl : x = ix2 i e := by
      simp only [Fin.val_zero, Fin.val_one, Fin.val_two] at a b
      idx_ext
    rw [outV_at]
    simp only [stateV_at, View.ld, pay1_at, ld_head, ld_angle, ld_state, ld_dec, ld_cd, ld_din, ld_gn]
    rfl

/-- What a point that is not the first of its sequence writes. -/
theorem outB (c : Dev nD) (t : Fin cfg0.N) (h : ¬ t.val % 8 = 0) (s : Fin 2) (k : Fin 4) (i : Fin 128) (e : Fin 256) :
    (outsAt0 m c t.val t.isLt).1 (ix2 (row2 s i) (col4 k e))
      = outPt m c t s k (before m c t s k (fun d e => (outsAt0 m c (t.val - 1) (by omega)).2 (ix3 k d e))) i e := by
  rw [outsAt0_B m c t h]; frame_out
  simp (disch := decide) only [↓ View.readCov_skip, ↓ View.readCov_cons_toLoadRect, ↓ View.readCov_fill]
  simp only [out00, out01, out02, out03, out10, out11, out12, out13, state00, state01, state02, state03,
    read_unread_whole]
  canon_tiles x g
  case piece0 =>
    have a : 128 * s.val + i.val = 128 + (x 0).val := g0
    have b : 256 * k.val + e.val = 768 + (x 1).val := g1
    have x0 : (x 0).val < 128 := x0_lt
    have x1 : (x 1).val < 256 := x1_lt
    obtain ⟨rfl, rfl⟩ : s = 1 ∧ k = 3 := ⟨Fin.ext (by simp; omega), Fin.ext (by simp; omega)⟩
    obtain rfl : x = ix2 i e := by
      simp only [Fin.val_zero, Fin.val_one, Fin.val_two] at a b
      idx_ext
    rw [outV_at]
    simp only [stateV_at, View.ld, ld_head, ld_angle, ld_state, ld_dec, ld_cd, ld_din, ld_gn]
    rfl
  case piece1 =>
    have a : 128 * s.val + i.val = 128 + (x 0).val := g0
    have b : 256 * k.val + e.val = 512 + (x 1).val := g1
    have x0 : (x 0).val < 128 := x0_lt
    have x1 : (x 1).val < 256 := x1_lt
    obtain ⟨rfl, rfl⟩ : s = 1 ∧ k = 2 := ⟨Fin.ext (by simp; omega), Fin.ext (by simp; omega)⟩
    obtain rfl : x = ix2 i e := by
      simp only [Fin.val_zero, Fin.val_one, Fin.val_two] at a b
      idx_ext
    rw [outV_at]
    simp only [stateV_at, View.ld, ld_head, ld_angle, ld_state, ld_dec, ld_cd, ld_din, ld_gn]
    rfl
  case piece2 =>
    have a : 128 * s.val + i.val = 128 + (x 0).val := g0
    have b : 256 * k.val + e.val = 256 + (x 1).val := g1
    have x0 : (x 0).val < 128 := x0_lt
    have x1 : (x 1).val < 256 := x1_lt
    obtain ⟨rfl, rfl⟩ : s = 1 ∧ k = 1 := ⟨Fin.ext (by simp; omega), Fin.ext (by simp; omega)⟩
    obtain rfl : x = ix2 i e := by
      simp only [Fin.val_zero, Fin.val_one, Fin.val_two] at a b
      idx_ext
    rw [outV_at]
    simp only [stateV_at, View.ld, ld_head, ld_angle, ld_state, ld_dec, ld_cd, ld_din, ld_gn]
    rfl
  case piece3 =>
    have a : 128 * s.val + i.val = 128 + (x 0).val := g0
    have b : 256 * k.val + e.val = (x 1).val := g1
    have x0 : (x 0).val < 128 := x0_lt
    have x1 : (x 1).val < 256 := x1_lt
    obtain ⟨rfl, rfl⟩ : s = 1 ∧ k = 0 := ⟨Fin.ext (by simp; omega), Fin.ext (by simp; omega)⟩
    obtain rfl : x = ix2 i e := by
      simp only [Fin.val_zero, Fin.val_one, Fin.val_two] at a b
      idx_ext
    rw [outV_at]
    simp only [stateV_at, View.ld, ld_head, ld_angle, ld_state, ld_dec, ld_cd, ld_din, ld_gn]
    rfl
  case piece4 =>
    have a : 128 * s.val + i.val = (x 0).val := g0
    have b : 256 * k.val + e.val = 768 + (x 1).val := g1
    have x0 : (x 0).val < 128 := x0_lt
    have x1 : (x 1).val < 256 := x1_lt
    obtain ⟨rfl, rfl⟩ : s = 0 ∧ k = 3 := ⟨Fin.ext (by simp; omega), Fin.ext (by simp; omega)⟩
    obtain rfl : x = ix2 i e := by
      simp only [Fin.val_zero, Fin.val_one, Fin.val_two] at a b
      idx_ext
    rw [outV_at]
    simp only [stateV_at, View.ld, ld_head, ld_angle, ld_state, ld_dec, ld_cd, ld_din, ld_gn]
    rfl
  case piece5 =>
    have a : 128 * s.val + i.val = (x 0).val := g0
    have b : 256 * k.val + e.val = 512 + (x 1).val := g1
    have x0 : (x 0).val < 128 := x0_lt
    have x1 : (x 1).val < 256 := x1_lt
    obtain ⟨rfl, rfl⟩ : s = 0 ∧ k = 2 := ⟨Fin.ext (by simp; omega), Fin.ext (by simp; omega)⟩
    obtain rfl : x = ix2 i e := by
      simp only [Fin.val_zero, Fin.val_one, Fin.val_two] at a b
      idx_ext
    rw [outV_at]
    simp only [stateV_at, View.ld, ld_head, ld_angle, ld_state, ld_dec, ld_cd, ld_din, ld_gn]
    rfl
  case piece6 =>
    have a : 128 * s.val + i.val = (x 0).val := g0
    have b : 256 * k.val + e.val = 256 + (x 1).val := g1
    have x0 : (x 0).val < 128 := x0_lt
    have x1 : (x 1).val < 256 := x1_lt
    obtain ⟨rfl, rfl⟩ : s = 0 ∧ k = 1 := ⟨Fin.ext (by simp; omega), Fin.ext (by simp; omega)⟩
    obtain rfl : x = ix2 i e := by
      simp only [Fin.val_zero, Fin.val_one, Fin.val_two] at a b
      idx_ext
    rw [outV_at]
    simp only [stateV_at, View.ld, ld_head, ld_angle, ld_state, ld_dec, ld_cd, ld_din, ld_gn]
    rfl
  case piece7 =>
    have a : 128 * s.val + i.val = (x 0).val := g0
    have b : 256 * k.val + e.val = (x 1).val := g1
    have x0 : (x 0).val < 128 := x0_lt
    have x1 : (x 1).val < 256 := x1_lt
    obtain ⟨rfl, rfl⟩ : s = 0 ∧ k = 0 := ⟨Fin.ext (by simp; omega), Fin.ext (by simp; omega)⟩
    obtain rfl : x = ix2 i e := by
      simp only [Fin.val_zero, Fin.val_one, Fin.val_two] at a b
      idx_ext
    rw [outV_at]
    simp only [stateV_at, View.ld, ld_head, ld_angle, ld_state, ld_dec, ld_cd, ld_din, ld_gn]
    rfl

end Cert.KernelIdeal.Value

end
-- ==== Proof.Tables.lean ====
module

public import proofs.«01_k».proof.Proof.Step
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Retention

variable (m : (ℓ : Loc nD τ sig) → Buf (Elt Ideal) ℓ)

theorem V_cos (c : Dev nD) (r : Fin 2048) (j : Fin 128) : V m c main_v12 (ix2 r j) = Ideal.cos (theta r j) := by
  unfold V
  simp only [hostOps0, hostOps0_1, hostOps0_2, List.flatten_cons, List.flatten_nil, List.append_nil, List.cons_append,
    List.nil_append]
  after_results
  pointwise
  rfl

theorem V_sin (c : Dev nD) (r : Fin 2048) (j : Fin 128) : V m c main_v13 (ix2 r j) = Ideal.sin (theta r j) := by
  unfold V
  simp only [hostOps0, hostOps0_1, hostOps0_2, List.flatten_cons, List.flatten_nil, List.append_nil, List.cons_append,
    List.nil_append]
  after_results
  pointwise
  rfl

theorem V_din (c : Dev nD) (h : Fin 4) (i j : Fin 128) : V m c main_v38 (ix3 h i j) = decayIn h i j := by
  unfold V
  simp only [hostOps0, hostOps0_1, hostOps0_2, List.flatten_cons, List.flatten_nil, List.append_nil, List.cons_append,
    List.nil_append]
  after_results
  simp only [StableHlo.TRef.ofBuf, StableHlo.TRef.toBuf, cast_eq]
  pointwise
  simp only [show FloatOps.sitofp (F := Ideal) .f32 (BitVec.ofNat 32 i.val) = num i.val from rfl,
    show FloatOps.sitofp (F := Ideal) .f32 (BitVec.ofNat 32 j.val) = num j.val from rfl,
    num_sub_nonneg i.val j.val (by omega) (by omega)]
  unfold decayIn
  congr 1
  exact Ideal.ofBits_zero_f32

theorem V_zeta (c : Dev nD) (h : Fin 4) (i : Fin 128) : V m c main_v47 (ix3 h i 0) = zeta h i := by
  unfold V
  simp only [hostOps0, hostOps0_1, hostOps0_2, List.flatten_cons, List.flatten_nil, List.append_nil, List.cons_append,
    List.nil_append]
  after_results
  pointwise
  rfl

theorem V_qdec (c : Dev nD) (h : Fin 4) (i : Fin 128) : V m c main_v56 (ix3 h i 0) = queryDecay h i := by
  unfold V
  simp only [hostOps0, hostOps0_1, hostOps0_2, List.flatten_cons, List.flatten_nil, List.append_nil, List.cons_append,
    List.nil_append]
  after_results
  pointwise
  rfl

theorem V_cdec (c : Dev nD) (h : Fin 4) : V m c main_v60 (ix3 h 0 0) = chunkDecay h := by
  unfold V
  simp only [hostOps0, hostOps0_1, hostOps0_2, List.flatten_cons, List.flatten_nil, List.append_nil, List.cons_append,
    List.nil_append]
  after_results
  pointwise
  rfl

theorem V_gn (c : Dev nD) (e : Fin 1024) :
    V m c main_v61 (ix2 0 e) = m ((c : Thread nD τ).loc main_arg1) (ix1 e) := by
  unfold V
  simp only [hostOps0, hostOps0_1, hostOps0_2, List.flatten_cons, List.flatten_nil, List.append_nil, List.cons_append,
    List.nil_append]
  after_results
  pointwise

theorem idx (t : Fin cfg0.N) : (win0_0.index t 0 = t.val ∧ win0_0.index t 1 = 0)
    ∧ (win0_1.index t 0 = t.val ∧ win0_1.index t 1 = 1) ∧ (win0_2.index t 0 = t.val ∧ win0_2.index t 1 = 2)
    ∧ (win0_3.index t 0 = t.val ∧ win0_3.index t 1 = 3) ∧ (win0_4.index t 0 = t.val % 8 ∧ win0_4.index t 1 = 0)
    ∧ (win0_5.index t 0 = t.val % 8 ∧ win0_5.index t 1 = 0) ∧ (∀ a, win0_6.index t a = 0) ∧ (∀ a, win0_7.index t a = 0)
    ∧ (∀ a, win0_8.index t a = 0) ∧ (∀ a, win0_9.index t a = 0) ∧ (∀ a, win0_10.index t a = 0)
    ∧ (win0_11.index t 0 = t.val ∧ win0_11.index t 1 = 0) := by
  revert t; decide +kernel

/-- The projected columns, as numbers. -/
def XC (c : Dev nD) (r : Fin 16384) (k : Fin 6656) : EReal :=
  (m ((c : Thread nD τ).loc main_arg0) : Vec Ideal S16384x6656 .bf16) (ix2 r k)
/-- The channel gains, as numbers. -/
def GC (c : Dev nD) (e : Fin 1024) : EReal :=
  (m ((c : Thread nD τ).loc main_arg1) : Vec Ideal S1024 .f32) (ix1 e)

theorem rows_lt (t : Fin cfg0.N) (r : Fin 256) : 256 * t.val + r.val < 16384 := by
  have h : t.val < 64 := lt_of_lt_of_eq t.isLt N_0
  omega
/-- Row `r` of the block of point `t`. -/
abbrev rowG (t : Fin cfg0.N) (r : Fin 256) : Fin 16384 := ⟨256 * t.val + r.val, rows_lt t r⟩
/-- Column `k` of block `o`. -/
abbrev colG (o : Fin 4) (k : Fin 1024) : Fin 6656 := ⟨1024 * o.val + k.val, by omega⟩

theorem X_0 (c : Dev nD) (t : Fin cfg0.N) (r : Fin 256) (k : Fin 1024) : X0_0 m c t (ix2 r k) = XC m c (rowG t r) (colG 0 k) := by
  unfold X0_0 Pipeline.Window.fill XC
  rw [dif_pos (moved0_0 t _)]
  rw [iblk, ← V_main_arg0 m c]
  blk_ext [idx t]

theorem X_1 (c : Dev nD) (t : Fin cfg0.N) (r : Fin 256) (k : Fin 1024) : X0_1 m c t (ix2 r k) = XC m c (rowG t r) (colG 1 k) := by
  unfold X0_1 Pipeline.Window.fill XC
  rw [dif_pos (moved0_1 t _)]
  rw [iblk, ← V_main_arg0 m c]
  blk_ext [idx t]

theorem X_2 (c : Dev nD) (t : Fin cfg0.N) (r : Fin 256) (k : Fin 1024) : X0_2 m c t (ix2 r k) = XC m c (rowG t r) (colG 2 k) := by
  unfold X0_2 Pipeline.Window.fill XC
  rw [dif_pos (moved0_2 t _)]
  rw [iblk, ← V_main_arg0 m c]
  blk_ext [idx t]

theorem X_3 (c : Dev nD) (t : Fin cfg0.N) (r : Fin 256) (k : Fin 1024) : X0_3 m c t (ix2 r k) = XC m c (rowG t r) (colG 3 k) := by
  unfold X0_3 Pipeline.Window.fill XC
  rw [dif_pos (moved0_3 t _)]
  rw [iblk, ← V_main_arg0 m c]
  blk_ext [idx t]

/-- Place `p` of 2048 of row `r` of point `t`. -/
abbrev place (t : Fin cfg0.N) (r : Fin 256) : Fin 2048 := ⟨256 * (t.val % 8) + r.val, by omega⟩

theorem I_cos (c : Dev nD) (t : Fin cfg0.N) (r : Fin 256) (j : Fin 128) : iblk m c 4 t (ix2 r j) = Ideal.cos (theta (place t r) j) := by
  refine Eq.trans ?_ (V_cos m c (place t r) j)
  blk_ext [iblk, idx t]

theorem I_sin (c : Dev nD) (t : Fin cfg0.N) (r : Fin 256) (j : Fin 128) : iblk m c 5 t (ix2 r j) = Ideal.sin (theta (place t r) j) := by
  refine Eq.trans ?_ (V_sin m c (place t r) j)
  blk_ext [iblk, idx t]

theorem I_din (c : Dev nD) (t : Fin cfg0.N) (h : Fin 4) (i j : Fin 128) : iblk m c 6 t (ix3 h i j) = decayIn h i j := by
  refine Eq.trans ?_ (V_din m c h i j)
  blk_ext [iblk, idx t]

theorem I_zeta (c : Dev nD) (t : Fin cfg0.N) (h : Fin 4) (i : Fin 128) : iblk m c 7 t (ix3 h i 0) = zeta h i := by
  refine Eq.trans ?_ (V_zeta m c h i)
  blk_ext [iblk, idx t]

theorem I_qdec (c : Dev nD) (t : Fin cfg0.N) (h : Fin 4) (i : Fin 128) : iblk m c 8 t (ix3 h i 0) = queryDecay h i := by
  refine Eq.trans ?_ (V_qdec m c h i)
  blk_ext [iblk, idx t]

theorem I_cdec (c : Dev nD) (t : Fin cfg0.N) (h : Fin 4) : iblk m c 9 t (ix3 h 0 0) = chunkDecay h := by
  refine Eq.trans ?_ (V_cdec m c h)
  blk_ext [iblk, idx t]

theorem I_gn (c : Dev nD) (t : Fin cfg0.N) (e : Fin 1024) : iblk m c 10 t (ix2 0 e) = GC m c e := by
  refine Eq.trans ?_ (V_gn m c e)
  blk_ext [iblk, idx t]

end Cert.KernelIdeal.Value

end
-- ==== Proof.Seq.lean ====
/-  The kernel's result: the states carried from point to point are the retention states, so every block written is the
    retention of its rows. -/
module

public import proofs.«01_k».proof.Proof.Tables

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Retention

variable (m : (ℓ : Loc nD τ sig) → Buf (Elt Ideal) ℓ)

/-- The sequence point `t` works on. -/
def bOf (t : Fin cfg0.N) : Fin 8 := ⟨t.val / 8, by have h : t.val < 64 := lt_of_lt_of_eq t.isLt N_0; omega⟩
/-- The chunk of its sequence that is chunk `s` of point `t`. -/
def nOf (t : Fin cfg0.N) (s : Fin 2) : Fin 16 := ⟨2 * (t.val % 8) + s.val, by omega⟩

theorem head_col (c : Dev nD) (t : Fin cfg0.N) (s : Fin 2) (o h : Fin 4) (x : Vec Ideal S256x1024 .bf16)
    (hx : ∀ r k, x (ix2 r k) = XC m c (rowG t r) (colG o k)) : head x s h = col (XC m c) (bOf t) (nOf t s) o h := by
  funext i d
  unfold head
  rw [hx]
  unfold col
  congr 1
  · exact Fin.ext (by simp only [bOf, nOf]; omega)
  · exact Fin.ext (by simp only []; omega)

theorem angle_cos (c : Dev nD) (t : Fin cfg0.N) (s : Fin 2) : angle (iblk m c 4 t) s = cosAt (nOf t s) := by
  funext i j
  unfold angle cosAt
  rw [I_cos]
  congr 2
  exact Fin.ext (by simp only [nOf]; omega)
theorem angle_sin (c : Dev nD) (t : Fin cfg0.N) (s : Fin 2) : angle (iblk m c 5 t) s = sinAt (nOf t s) := by
  funext i j
  unfold angle sinAt
  rw [I_sin]
  congr 2
  exact Fin.ext (by simp only [nOf]; omega)

/-- What a point adds to the state of a head is what the chunk adds. -/
theorem kvPt_eq (c : Dev nD) (t : Fin cfg0.N) (s : Fin 2) (h : Fin 4) :
    kvPt m c t s h = kvAt (XC m c) (bOf t) (nOf t s) h := by
  unfold kvPt kvAt
  rw [head_col m c t s 1 h _ (X_1 m c t), head_col m c t s 2 h _ (X_2 m c t), angle_cos, angle_sin,
    show (fun i => iblk m c 7 t (ix3 h i 0)) = zeta h from funext fun i => I_zeta m c t h i]

/-- The state moves from a chunk to the next. -/
theorem nextPt_eq (c : Dev nD) (t : Fin cfg0.N) (s : Fin 2) (h : Fin 4) (n : ℕ) (hn : n = (nOf t s).val) :
    nextPt m c t s h (state (XC m c) (bOf t) h n) = state (XC m c) (bOf t) h (n + 1) := by
  subst hn
  unfold nextPt
  rw [kvPt_eq, I_cdec, state, dif_pos (nOf t s).isLt]

/-- What a point writes from the state before its chunk is the result there. -/
theorem outPt_eq (c : Dev nD) (t : Fin cfg0.N) (s : Fin 2) (h : Fin 4) (i : Fin 128) (e : Fin 256) :
    outPt m c t s h (state (XC m c) (bOf t) h (nOf t s).val) i e
      = result (XC m c) (GC m c) (bOf t) (nOf t s) h i e := by
  unfold outPt result
  rw [head_col m c t s 0 h _ (X_0 m c t), head_col m c t s 1 h _ (X_1 m c t), head_col m c t s 2 h _ (X_2 m c t),
    head_col m c t s 3 h _ (X_3 m c t), angle_cos, angle_sin,
    show (fun i j => iblk m c 6 t (ix3 h i j)) = decayIn h from funext fun i => funext fun j => I_din m c t h i j,
    show (fun i => iblk m c 8 t (ix3 h i 0)) = queryDecay h from funext fun i => I_qdec m c t h i,
    show (fun e => iblk m c 10 t (ix2 0 (col4 h e))) = fun e => GC m c (col4 h e) from
      funext fun e => I_gn m c t (col4 h e)]

/-- After a point the scratch holds the state after its second chunk. -/
theorem scratch_eq (c : Dev nD) : ∀ (n : ℕ) (hn : n < cfg0.N) (k : Fin 4) (d e : Fin 256),
    (outsAt0 m c n hn).2 (ix3 k d e) = state (XC m c) (bOf ⟨n, hn⟩) k (2 * (n % 8) + 2) d e := by
  intro n
  induction n with
  | zero =>
    intro hn k d e
    refine (scratchA m c ⟨0, hn⟩ rfl k d e).trans ?_
    rw [show (fun _ _ => (0 : EReal)) = state (XC m c) (bOf ⟨0, hn⟩) k 0 from rfl, nextPt_eq m c ⟨0, hn⟩ 0 k 0 rfl,
      nextPt_eq m c ⟨0, hn⟩ 1 k 1 rfl]
  | succ n ih =>
    intro hn k d e
    by_cases h : (n + 1) % 8 = 0
    · refine (scratchA m c ⟨n + 1, hn⟩ h k d e).trans ?_
      rw [show (fun _ _ => (0 : EReal)) = state (XC m c) (bOf ⟨n + 1, hn⟩) k 0 from rfl,
        nextPt_eq m c ⟨n + 1, hn⟩ 0 k 0 (by simp [nOf, h]), nextPt_eq m c ⟨n + 1, hn⟩ 1 k 1 (by simp [nOf, h]), h]
    · refine (scratchB m c ⟨n + 1, hn⟩ h k d e).trans ?_
      have hS : (fun d e => (outsAt0 m c ((⟨n + 1, hn⟩ : Fin cfg0.N).val - 1) (by omega)).2 (ix3 k d e))
          = state (XC m c) (bOf ⟨n + 1, hn⟩) k (2 * ((n + 1) % 8)) := by
        funext d e
        refine (ih (by omega) k d e).trans ?_
        rw [show bOf ⟨n, by omega⟩ = bOf ⟨n + 1, hn⟩ from Fin.ext (by simp only [bOf]; omega),
          show 2 * (n % 8) + 2 = 2 * ((n + 1) % 8) by omega]
      rw [hS, nextPt_eq m c ⟨n + 1, hn⟩ 0 k _ (by simp [nOf]), nextPt_eq m c ⟨n + 1, hn⟩ 1 k _ (by simp [nOf])]

/-- The state before chunk `s` of a point, from the state before the point. -/
theorem before_eq (c : Dev nD) (t : Fin cfg0.N) (s : Fin 2) (h : Fin 4) :
    before m c t s h (state (XC m c) (bOf t) h (2 * (t.val % 8))) = state (XC m c) (bOf t) h (nOf t s).val := by
  unfold before
  fin_cases s
  · simp [nOf]
  · simp only [nOf]
    rw [nextPt_eq m c t 0 h _ (by simp [nOf])]
    rfl

/-- What a point writes to its block of the result. -/
theorem out_eq (c : Dev nD) (t : Fin cfg0.N) (s : Fin 2) (k : Fin 4) (i : Fin 128) (e : Fin 256) :
    (outsAt0 m c t.val t.isLt).1 (ix2 (row2 s i) (col4 k e))
      = result (XC m c) (GC m c) (bOf t) (nOf t s) k i e := by
  by_cases h : t.val % 8 = 0
  · rw [outA m c t h, show (fun _ _ => (0 : EReal)) = state (XC m c) (bOf t) k (2 * (t.val % 8)) by rw [h]; rfl,
      before_eq, outPt_eq]
  · rw [outB m c t h]
    have hS : (fun d e => (outsAt0 m c (t.val - 1) (by omega)).2 (ix3 k d e))
        = state (XC m c) (bOf t) k (2 * (t.val % 8)) := by
      funext d e
      refine (scratch_eq m c (t.val - 1) (by omega) k d e).trans ?_
      rw [show bOf ⟨t.val - 1, by omega⟩ = bOf t from Fin.ext (by simp only [bOf]; omega),
          show 2 * ((t.val - 1) % 8) + 2 = 2 * (t.val % 8) by omega]
    rw [hS, before_eq, outPt_eq]

/-- The same, at an index of the block. -/
theorem out_at (c : Dev nD) (t : Fin cfg0.N) (y : S256x1024.Idx) :
    (outsAt0 m c t.val t.isLt).1 y = resultAt (XC m c) (GC m c) (rowG t (y 0)) (y 1) := by
  have h0 : (y 0).val < 256 := (y 0).isLt
  have h1 : (y 1).val < 1024 := (y 1).isLt
  have hy : y = ix2 (row2 ⟨(y 0).val / 128, by omega⟩ ⟨(y 0).val % 128, by omega⟩)
      (col4 ⟨(y 1).val / 256, by omega⟩ ⟨(y 1).val % 256, by omega⟩) := by
    funext a
    refine Fin.ext ?_
    fin_cases a
    · show (y 0).val = 128 * ((y 0).val / 128) + (y 0).val % 128
      omega
    · show (y 1).val = 256 * ((y 1).val / 256) + (y 1).val % 256
      omega
  refine (congrArg _ hy).trans ((out_eq m c t _ _ _ _).trans ?_)
  have ht : t.val < 64 := lt_of_lt_of_eq t.isLt N_0
  unfold resultAt
  congr 1
  · exact Fin.ext (by simp only [bOf]; omega)
  · exact Fin.ext (by simp only [nOf]; omega)
  · exact Fin.ext (by simp only []; omega)

/-- The kernel's result is the retention of its arguments. -/
theorem kernel_eq (c : Dev nD) : (dats m 0 c).arrAt 11 cfg0.N
    = fun y => resultAt (XC m c) (GC m c) (y 0) (y 1) := by
  refine (dats m 0 c).arrAt_eq_of_covers 11 _ (by decide +kernel) fun t hf y => ?_
  blk_simp
  rw [after0_11]
  refine (out_at m c t y).trans ?_
  congr 1
  · refine Fin.ext ?_
    blk_simp [idx t]
    have h : (rowG t (y 0)).val = 256 * t.val + (y 0).val := rfl
    omega
  · refine Fin.ext ?_
    blk_simp [idx t]

end Cert.KernelIdeal.Value

end
-- ==== Proof.RefTerms.lean ====
/-  The reference's result as named terms over its arguments. -/
module

public import proofs.«01_k».proof.Proof.Chunk
public import proofs.«01_k».proof.Proof.Gen.ReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem Idealize.ShloMosaic.StableHlo

namespace Cert.ReferenceIdeal.Value

open Cert.ReferenceIdeal Cert.ReferenceIdeal.Gen Cert.Retention

/-- The projected columns by sequence and place. -/
def rowsR (X : FVec Ideal S16384x6656 .bf16) : FVec Ideal S8x2048x6656 .f32 :=
  shapeCast S8x2048x6656 (extf .f32 X bitsLt_bf16_f32) shapeCasts_S16384x6656_S8x2048x6656
/-- The queries, the keys, the values by head, and the gates. -/
def qR (X : FVec Ideal S16384x6656 .bf16) : FVec Ideal S8x2048x4x256 .f32 :=
  shapeCast S8x2048x4x256 (extractStridedSlice S8x2048x1024 ![0, 0, 0] (rowsR X) slices_S8x2048x6656_S8x2048x1024_0_0_0)
    shapeCasts_S8x2048x1024_S8x2048x4x256
def kR (X : FVec Ideal S16384x6656 .bf16) : FVec Ideal S8x2048x4x256 .f32 :=
  shapeCast S8x2048x4x256 (extractStridedSlice S8x2048x1024 ![0, 0, 1024] (rowsR X) slices_S8x2048x6656_S8x2048x1024_0_0_1024)
    shapeCasts_S8x2048x1024_S8x2048x4x256
def vR (X : FVec Ideal S16384x6656 .bf16) : FVec Ideal S8x2048x4x256 .f32 :=
  shapeCast S8x2048x4x256 (extractStridedSlice S8x2048x1024 ![0, 0, 2048] (rowsR X) slices_S8x2048x6656_S8x2048x1024_0_0_2048)
    shapeCasts_S8x2048x1024_S8x2048x4x256
def gR (X : FVec Ideal S16384x6656 .bf16) : FVec Ideal S8x2048x1024 .f32 :=
  extractStridedSlice S8x2048x1024 ![0, 0, 3072] (rowsR X) slices_S8x2048x6656_S8x2048x1024_0_0_3072

/-- The rotary angles. -/
def angR : FVec Ideal S2048x128 .f32 :=
  mulf (broadcastInDim S2048x128 ![0, 1] bcast_S2048x1_S2048x128_0_1
      (broadcastInDim S2048x1 ![0] bcast_S2048_S2048x1_0 (sitofp .f32 (iotaInDim S2048 32 0))))
    (broadcastInDim S2048x128 ![0, 1] bcast_S1x128_S2048x128_0_1 (broadcastInDim S1x128 ![1] bcast_S128_S1x128_1
      (Host.powf (broadcastInDim S128 ![] bcast_S_S128 (constant S_ .f32 0x461C4000#32))
        (Host.divf (Host.negf (sitofp .f32 (iotaInDim S128 32 0)))
          (broadcastInDim S128 ![] bcast_S_S128 (constant S_ .f32 0x43000000#32))))))
/-- A table of angles over sequences and heads. -/
def wideR (a : FVec Ideal S2048x128 .f32) : FVec Ideal S8x2048x4x128 .f32 :=
  broadcastInDim S8x2048x4x128 ![0, 1, 2, 3] bcast_S1x2048x1x128_S8x2048x4x128_0_1_2_3
    (broadcastInDim S1x2048x1x128 ![1, 3] bcast_S2048x128_S1x2048x1x128_1_3 a)
/-- The two halves of the channels. -/
def loR (x : FVec Ideal S8x2048x4x256 .f32) : FVec Ideal S8x2048x4x128 .f32 :=
  extractStridedSlice S8x2048x4x128 ![0, 0, 0, 0] x slices_S8x2048x4x256_S8x2048x4x128_0_0_0_0
def hiR (x : FVec Ideal S8x2048x4x256 .f32) : FVec Ideal S8x2048x4x128 .f32 :=
  extractStridedSlice S8x2048x4x128 ![0, 0, 0, 128] x slices_S8x2048x4x256_S8x2048x4x128_0_0_0_128
/-- The rotary embedding. -/
def rotR (x : FVec Ideal S8x2048x4x256 .f32) : FVec Ideal S8x2048x4x256 .f32 :=
  concatenate S8x2048x4x256 3
    [⟨S8x2048x4x128, subf (mulf (loR x) (wideR (Host.cos angR))) (mulf (hiR x) (wideR (Host.sin angR)))⟩,
      ⟨S8x2048x4x128, addf (mulf (loR x) (wideR (Host.sin angR))) (mulf (hiR x) (wideR (Host.cos angR)))⟩]
    concatenates_S8x2048x4x128_S8x2048x4x128_S8x2048x4x256_d3
/-- The rotated and scaled keys. -/
def keyR (X : FVec Ideal S16384x6656 .bf16) : FVec Ideal S8x2048x4x256 .f32 :=
  mulf (rotR (kR X)) (broadcastInDim S8x2048x4x256 ![] bcast_S_S8x2048x4x256 (constant S_ .f32 0x3D800000#32))
/-- Rows by head and chunk. -/
def chunksR (x : FVec Ideal S8x2048x4x256 .f32) : FVec Ideal S8x4x16x128x256 .f32 :=
  transpose S8x4x16x128x256 [0, 3, 1, 2, 4] (shapeCast S8x16x128x4x256 x shapeCasts_S8x2048x4x256_S8x16x128x4x256)
    transposes_S8x16x128x4x256_S8x4x16x128x256_0_3_1_2_4

/-- The logarithm of the decay. -/
def lgR : FVec Ideal S4 .f32 :=
  Host.log1p (Host.negf (Host.exp (mulf (broadcastInDim S4 ![] bcast_S_S4 (constant S_ .f32 0x3F317218#32))
    (subf (broadcastInDim S4 ![] bcast_S_S4 (constant S_ .f32 0xC0A00000#32)) (sitofp .f32 (iotaInDim S4 32 0))))))
/-- The decay between two places of a chunk. -/
def dinR : FVec Ideal S4x128x128 .f32 :=
  select (broadcastInDim S4x128x128 ![1, 2] bcast_S128x128_S4x128x128_1_2 (cmpi .sge
      (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))))
    (Host.exp (mulf (broadcastInDim S4x128x128 ![0, 1, 2] bcast_S4x1x1_S4x128x128_0_1_2 (broadcastInDim S4x1x1 ![0] bcast_S4_S4x1x1_0 lgR))
      (broadcastInDim S4x128x128 ![0, 1, 2] bcast_S1x128x128_S4x128x128_0_1_2 (broadcastInDim S1x128x128 ![1, 2] bcast_S128x128_S1x128x128_1_2
        (maximumf (subf
          (broadcastInDim S128x128 ![0, 1] bcast_S128x1_S128x128_0_1 (broadcastInDim S128x1 ![0] bcast_S128_S128x1_0 (sitofp .f32 (iotaInDim S128 32 0))))
          (broadcastInDim S128x128 ![0, 1] bcast_S1x128_S128x128_0_1 (broadcastInDim S1x128 ![1] bcast_S128_S1x128_1 (sitofp .f32 (iotaInDim S128 32 0)))))
          (broadcastInDim S128x128 ![] bcast_S_S128x128 (constant S_ .f32 0x00000000#32)))))))
    (broadcastInDim S4x128x128 ![] bcast_S_S4x128x128 (id (constant S_ .f32 0x00000000#32)))
/-- The decay of a key to the end of its chunk. -/
def zetaR : FVec Ideal S4x128 .f32 :=
  Host.exp (mulf (broadcastInDim S4x128 ![0, 1] bcast_S4x1_S4x128_0_1 (broadcastInDim S4x1 ![0] bcast_S4_S4x1_0 lgR))
    (broadcastInDim S4x128 ![0, 1] bcast_S1x128_S4x128_0_1 (broadcastInDim S1x128 ![1] bcast_S128_S1x128_1
      (subf (broadcastInDim S128 ![] bcast_S_S128 (constant S_ .f32 0x42FE0000#32)) (sitofp .f32 (iotaInDim S128 32 0))))))
/-- The decay of the state before a chunk to a place in it. -/
def qdecR : FVec Ideal S4x128 .f32 :=
  Host.exp (mulf (broadcastInDim S4x128 ![0, 1] bcast_S4x1_S4x128_0_1 (broadcastInDim S4x1 ![0] bcast_S4_S4x1_0 lgR))
    (broadcastInDim S4x128 ![0, 1] bcast_S1x128_S4x128_0_1 (broadcastInDim S1x128 ![1] bcast_S128_S1x128_1
      (addf (sitofp .f32 (iotaInDim S128 32 0)) (broadcastInDim S128 ![] bcast_S_S128 (constant S_ .f32 0x3F800000#32))))))
/-- The decay over a chunk. -/
def cdecR : FVec Ideal S4 .f32 :=
  Host.exp (mulf lgR (broadcastInDim S4 ![] bcast_S_S4 (constant S_ .f32 0x43000000#32)))
/-- A decay by place over sequences, chunks and channels. -/
def spreadR (a : FVec Ideal S4x128 .f32) : FVec Ideal S8x4x16x128x256 .f32 :=
  broadcastInDim S8x4x16x128x256 ![0, 1, 2, 3, 4] bcast_S1x4x1x128x1_S8x4x16x128x256_0_1_2_3_4
    (broadcastInDim S1x4x1x128x1 ![1, 3] bcast_S4x128_S1x4x1x128x1_1_3 a)

/-- What every chunk adds to the state. -/
def kvR (X : FVec Ideal S16384x6656 .bf16) : FVec Ideal S16x8x4x256x256 .f32 :=
  Host.dotGeneral dot_S8x4x16x128x256_S8x4x16x128x256_S16x8x4x256x256_3_3_4_4_201_201 none
    (mulf (chunksR (keyR X)) (spreadR zetaR)) (chunksR (vR X))

/-- The decayed scores. -/
def scoreR (X : FVec Ideal S16384x6656 .bf16) : FVec Ideal S8x4x16x128x128 .f32 :=
  mulf (Host.dotGeneral dot_S8x4x16x128x256_S8x4x16x128x256_S8x4x16x128x128_4_4_3_3_012_012 none (chunksR (rotR (qR X))) (chunksR (keyR X)))
    (broadcastInDim S8x4x16x128x128 ![0, 1, 2, 3, 4] bcast_S1x4x1x128x128_S8x4x16x128x128_0_1_2_3_4
      (broadcastInDim S1x4x1x128x128 ![1, 3, 4] bcast_S4x128x128_S1x4x1x128x128_1_3_4 dinR))
/-- The output before the normalisation, from the states before the chunks. -/
def mixR (X : FVec Ideal S16384x6656 .bf16) (S : FVec Ideal S16x8x4x256x256 .f32) : FVec Ideal S8x4x16x128x256 .f32 :=
  addf (Host.dotGeneral dot_S8x4x16x128x128_S8x4x16x128x256_S8x4x16x128x256_4_3_3_4_012_012 none (scoreR X) (chunksR (vR X)))
    (mulf (Host.dotGeneral dot_S8x4x16x128x256_S16x8x4x256x256_S8x4x16x128x256_4_3_3_4_012_120 none (chunksR (rotR (qR X))) S)
      (spreadR qdecR))
/-- Rows by sequence and place again. -/
def placesR (x : FVec Ideal S8x4x16x128x256 .f32) : FVec Ideal S8x2048x4x256 .f32 :=
  shapeCast S8x2048x4x256 (transpose S8x16x128x4x256 [0, 2, 3, 1, 4] x transposes_S8x4x16x128x256_S8x16x128x4x256_0_2_3_1_4)
    shapeCasts_S8x16x128x4x256_S8x2048x4x256
/-- The mean over the channels of a head, kept as an axis. -/
def meanR (o : FVec Ideal S8x2048x4x256 .f32) : FVec Ideal S8x2048x4x1 .f32 :=
  Host.divf (broadcastInDim S8x2048x4x1 ![0, 1, 2] bcast_S8x2048x4_S8x2048x4x1_0_1_2
      (Host.reduceAdd o (constant S_ .f32 0x00000000#32) reducesTo_S8x2048x4x256_S8x2048x4_d3 h_S_))
    (broadcastInDim S8x2048x4x1 ![] bcast_S_S8x2048x4x1 (constant S_ .f32 0x43800000#32))
def alongR (a : FVec Ideal S8x2048x4x1 .f32) : FVec Ideal S8x2048x4x256 .f32 :=
  broadcastInDim S8x2048x4x256 ![0, 1, 2, 3] bcast_S8x2048x4x1_S8x2048x4x256_0_1_2_3 a
def centredR (o : FVec Ideal S8x2048x4x256 .f32) : FVec Ideal S8x2048x4x256 .f32 := subf o (alongR (meanR o))
def normR (o : FVec Ideal S8x2048x4x256 .f32) : FVec Ideal S8x2048x4x256 .f32 :=
  mulf (centredR o) (alongR (Host.rsqrt (addf (meanR (mulf (centredR o) (centredR o)))
    (broadcastInDim S8x2048x4x1 ![] bcast_S_S8x2048x4x1 (constant S_ .f32 0x358637BD#32)))))
def swishR (g : FVec Ideal S8x2048x1024 .f32) : FVec Ideal S8x2048x1024 .f32 :=
  mulf g (Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf g))))
/-- The whole result from the arguments and the states before the chunks. -/
def outR (X : FVec Ideal S16384x6656 .bf16) (G : FVec Ideal S1024 .f32) (S : FVec Ideal S16x8x4x256x256 .f32) :
    FVec Ideal S16384x1024 .bf16 :=
  truncf .bf16 (shapeCast S16384x1024 (mulf (mulf
      (shapeCast S8x2048x1024 (normR (placesR (mixR X S))) shapeCasts_S8x2048x4x256_S8x2048x1024)
      (broadcastInDim S8x2048x1024 ![0, 1, 2] bcast_S1x1x1024_S8x2048x1024_0_1_2 (broadcastInDim S1x1x1024 ![2] bcast_S1024_S1x1x1024_2 G)))
    (swishR (gR X))) shapeCasts_S8x2048x1024_S16384x1024) bitsLt_bf16_f32

theorem out_eq (V0 : Valuation τ sig (Elt Ideal)) : out_main_v263 V0
    = outR (V0 (Proc.devRef .tc main_arg0)) (V0 (Proc.devRef .tc main_arg1)) (V0 (Proc.devRef .tc main_v100_4)) := rfl

variable (m : (ℓ : Loc nD τ sig) → Buf (Elt Ideal) ℓ)

theorem entry_kv (c : Dev nD) : entryContents preI m c (Proc.devRef .tc main_v100_0)
    = kvR (m ((c : Thread nD τ).loc main_arg0)) := by
  simp only [entryContents, afterL_cons, afterL_nil]
  after_reads_simp
  rfl
theorem entry_cdec (c : Dev nD) : entryContents preI m c (Proc.devRef .tc main_v100_1) = cdecR := by
  simp only [entryContents, afterL_cons, afterL_nil]
  after_reads_simp
  rfl
theorem entry_state (c : Dev nD) (b h d e) : entryContents preI m c (Proc.devRef .tc main_v100_3) (ix4 b h d e) = (0 : EReal) := by
  simp only [entryContents, afterL_cons, afterL_nil]
  after_reads_simp
  exact Ideal.ofBits_zero_f32

end Cert.ReferenceIdeal.Value

end
-- ==== Proof.RefRead.lean ====
/-  The reference's terms read at an index: they are the retention formulas. -/
module

public import proofs.«01_k».proof.Proof.RefTerms

@[expose] public section

set_option maxRecDepth 16384

noncomputable section

open Idealize.ShloMosaic Idealize.ShloMosaic.TcCoe Idealize.ShloMosaic.Tactic Idealize.SL.Sem Idealize.ShloMosaic.StableHlo

namespace Cert.ReferenceIdeal.Value

open Cert.ReferenceIdeal Cert.ReferenceIdeal.Gen Cert.Retention

/-- The projected columns, as numbers. -/
def xOf (X : FVec Ideal S16384x6656 .bf16) (r : Fin 16384) (k : Fin 6656) : EReal := X (ix2 r k)

/-- Place `i` of chunk `n`. -/
abbrev pl (n : Fin 16) (i : Fin 128) : Fin 2048 := ⟨128 * n.val + i.val, by omega⟩

theorem qR_at (X : FVec Ideal S16384x6656 .bf16) (b : Fin 8) (n : Fin 16) (i : Fin 128) (h : Fin 4) (d : Fin 256) :
    qR X (ix4 b (pl n i) h d) = col (xOf X) b n 0 h i d := by
  pointwise [qR, rowsR, col, xOf]
  blk_ext []
theorem kR_at (X : FVec Ideal S16384x6656 .bf16) (b : Fin 8) (n : Fin 16) (i : Fin 128) (h : Fin 4) (d : Fin 256) :
    kR X (ix4 b (pl n i) h d) = col (xOf X) b n 1 h i d := by
  pointwise [kR, rowsR, col, xOf]
  blk_ext []
theorem vR_at (X : FVec Ideal S16384x6656 .bf16) (b : Fin 8) (n : Fin 16) (i : Fin 128) (h : Fin 4) (d : Fin 256) :
    vR X (ix4 b (pl n i) h d) = col (xOf X) b n 2 h i d := by
  pointwise [vR, rowsR, col, xOf]
  blk_ext []
theorem gR_at (X : FVec Ideal S16384x6656 .bf16) (b : Fin 8) (n : Fin 16) (i : Fin 128) (h : Fin 4) (d : Fin 256) :
    gR X (ix3 b (pl n i) (⟨256 * h.val + d.val, by omega⟩ : Fin 1024)) = col (xOf X) b n 3 h i d := by
  pointwise [gR, rowsR, col, xOf]
  blk_ext []

theorem cos_at (b : Fin 8) (n : Fin 16) (i : Fin 128) (h : Fin 4) (j : Fin 128) :
    wideR (Host.cos angR) (ix4 b (pl n i) h j) = cosAt n i j := by
  pointwise [wideR, angR]
  rfl
theorem sin_at (b : Fin 8) (n : Fin 16) (i : Fin 128) (h : Fin 4) (j : Fin 128) :
    wideR (Host.sin angR) (ix4 b (pl n i) h j) = sinAt n i j := by
  pointwise [wideR, angR]
  rfl

theorem rotR_at (x : FVec Ideal S8x2048x4x256 .f32) (b : Fin 8) (n : Fin 16) (i : Fin 128) (h : Fin 4) (d : Fin 256) :
    rotR x (ix4 b (pl n i) h d) = rot (fun d => x (ix4 b (pl n i) h d)) (cosAt n i) (sinAt n i) d := by
  pointwise [rotR, loR, hiR, rot]
  simp only [cos_at, sin_at]
  by_cases h : (d : ℕ) < 128
  · simp only [dif_pos h]
  · simp only [dif_neg h]
    rw [show (⟨128 + (d.val - 128), by omega⟩ : Fin 256) = d from Fin.ext (by show 128 + (d.val - 128) = d.val; omega)]

theorem keyR_at (X : FVec Ideal S16384x6656 .bf16) (b : Fin 8) (n : Fin 16) (i : Fin 128) (h : Fin 4) (d : Fin 256) :
    keyR X (ix4 b (pl n i) h d) = rot (col (xOf X) b n 1 h i) (cosAt n i) (sinAt n i) d * scale := by
  pointwise [keyR, scale]
  rw [rotR_at]
  simp only [kR_at]

theorem chunksR_at (x : FVec Ideal S8x2048x4x256 .f32) (b : Fin 8) (h : Fin 4) (n : Fin 16) (i : Fin 128) (d : Fin 256) :
    chunksR x (ix5 b h n i d) = x (ix4 b (pl n i) h d) := by
  pointwise [chunksR]
  blk_ext []

theorem lgR_at (h : Fin 4) : lgR (ix1 h) = logGamma h := by
  pointwise [lgR]
  rfl
/-- Two places compared as words. -/
theorem cmp_places (i j : Fin 128) : IntOp.cmpi CmpIPredicate.sge (BitVec.ofNat 32 i.val) (BitVec.ofNat 32 j.val)
    = if j.val ≤ i.val then 1#1 else 0#1 := by
  revert i j
  decide +kernel
theorem dinR_at (h : Fin 4) (i j : Fin 128) : dinR (ix3 h i j) = decayIn h i j := by
  pointwise [dinR]
  simp only [lgR_at]
  unfold decayIn
  rw [show IntOp.cmpi CmpIPredicate.sge (BitVec.ofNat 32 i.val) (BitVec.ofNat 32 j.val)
    = if j.val ≤ i.val then 1#1 else 0#1 from cmp_places i j]
  by_cases hij : j.val ≤ i.val
  · rw [if_pos hij, if_pos hij]
    rfl
  · rw [if_neg hij, if_neg hij]
    exact Ideal.ofBits_zero_f32
theorem zetaR_at (h : Fin 4) (i : Fin 128) : zetaR (ix2 h i) = zeta h i := by
  pointwise [zetaR]
  simp only [lgR_at]
  rfl
theorem qdecR_at (h : Fin 4) (i : Fin 128) : qdecR (ix2 h i) = queryDecay h i := by
  pointwise [qdecR]
  simp only [lgR_at]
  rfl
theorem cdecR_at (h : Fin 4) : cdecR (ix1 h) = chunkDecay h := by
  pointwise [cdecR]
  simp only [lgR_at]
  rfl
theorem spreadR_at (a : FVec Ideal S4x128 .f32) (b : Fin 8) (h : Fin 4) (n : Fin 16) (i : Fin 128) (d : Fin 256) :
    spreadR a (ix5 b h n i d) = a (ix2 h i) := by
  pointwise [spreadR]

theorem dot_kv (k z v : FVec Ideal S8x4x16x128x256 .f32) (n : Fin 16) (b : Fin 8) (h : Fin 4) (d e : Fin 256) :
    (Host.dotGeneral dot_S8x4x16x128x256_S8x4x16x128x256_S16x8x4x256x256_3_3_4_4_201_201 none (mulf k z) v :
      FVec Ideal S16x8x4x256x256 .f32) (ix5 n b h d e)
      = ∑ j : Fin 128, k (ix5 b h n j d) * z (ix5 b h n j d) * v (ix5 b h n j e) := by
  pointwise
theorem dot_score (q k : FVec Ideal S8x4x16x128x256 .f32) (z : FVec Ideal S4x128x128 .f32) (n : Fin 16) (b : Fin 8)
    (h : Fin 4) (i j : Fin 128) :
    (mulf (Host.dotGeneral dot_S8x4x16x128x256_S8x4x16x128x256_S8x4x16x128x128_4_4_3_3_012_012 none q k)
      (broadcastInDim S8x4x16x128x128 ![0, 1, 2, 3, 4] bcast_S1x4x1x128x128_S8x4x16x128x128_0_1_2_3_4
      (broadcastInDim S1x4x1x128x128 ![1, 3, 4] bcast_S4x128x128_S1x4x1x128x128_1_3_4 z)) :
      FVec Ideal S8x4x16x128x128 .f32) (ix5 b h n i j)
      = (∑ d : Fin 256, q (ix5 b h n i d) * k (ix5 b h n j d)) * z (ix3 h i j) := by
  pointwise
theorem dot_mix (s : FVec Ideal S8x4x16x128x128 .f32) (v q z : FVec Ideal S8x4x16x128x256 .f32)
    (S : FVec Ideal S16x8x4x256x256 .f32) (n : Fin 16) (b : Fin 8) (h : Fin 4) (i : Fin 128) (e : Fin 256) :
    (addf (Host.dotGeneral dot_S8x4x16x128x128_S8x4x16x128x256_S8x4x16x128x256_4_3_3_4_012_012 none s v)
      (mulf (Host.dotGeneral dot_S8x4x16x128x256_S16x8x4x256x256_S8x4x16x128x256_4_3_3_4_012_120 none q S) z) :
      FVec Ideal S8x4x16x128x256 .f32) (ix5 b h n i e)
      = (∑ j : Fin 128, s (ix5 b h n i j) * v (ix5 b h n j e))
        + (∑ d : Fin 256, q (ix5 b h n i d) * S (ix5 n b h d e)) * z (ix5 b h n i e) := by
  pointwise

/-- What every chunk adds to the state. -/
theorem kvR_at (X : FVec Ideal S16384x6656 .bf16) (n : Fin 16) (b : Fin 8) (h : Fin 4) (d e : Fin 256) :
    kvR X (ix5 n b h d e) = kvAt (xOf X) b n h d e := by
  unfold kvR kvAt kv
  rw [dot_kv]
  simp only [chunksR_at, spreadR_at, keyR_at, vR_at, zetaR_at]

theorem scoreR_at (X : FVec Ideal S16384x6656 .bf16) (b : Fin 8) (h : Fin 4) (n : Fin 16) (i j : Fin 128) :
    scoreR X (ix5 b h n i j) = (∑ d, rot (col (xOf X) b n 0 h i) (cosAt n i) (sinAt n i) d
      * (rot (col (xOf X) b n 1 h j) (cosAt n j) (sinAt n j) d * scale)) * decayIn h i j := by
  unfold scoreR
  rw [dot_score]
  simp only [chunksR_at, keyR_at, rotR_at, qR_at, dinR_at]

theorem mixR_at (X : FVec Ideal S16384x6656 .bf16) (S : FVec Ideal S16x8x4x256x256 .f32) (b : Fin 8) (h : Fin 4) (n : Fin 16)
    (i : Fin 128) (e : Fin 256) :
    mixR X S (ix5 b h n i e) = mix (col (xOf X) b n 0 h) (col (xOf X) b n 1 h) (col (xOf X) b n 2 h) (cosAt n) (sinAt n)
      (decayIn h) (queryDecay h) (fun d e => S (ix5 n b h d e)) i e := by
  unfold mixR mix
  rw [dot_mix]
  simp only [chunksR_at, scoreR_at, rotR_at, qR_at, vR_at, spreadR_at, qdecR_at]

theorem placesR_at (x : FVec Ideal S8x4x16x128x256 .f32) (b : Fin 8) (n : Fin 16) (i : Fin 128) (h : Fin 4) (e : Fin 256) :
    placesR x (ix4 b (pl n i) h e) = x (ix5 b h n i e) := by
  pointwise [placesR]
  blk_ext []

theorem centredR_at (o : FVec Ideal S8x2048x4x256 .f32) (b : Fin 8) (p : Fin 2048) (h : Fin 4) (e : Fin 256) :
    centredR o (ix4 b p h e) = centred (fun e => o (ix4 b p h e)) e := by
  pointwise [centredR, meanR, alongR, centred]

theorem normR_at (o : FVec Ideal S8x2048x4x256 .f32) (b : Fin 8) (p : Fin 2048) (h : Fin 4) (e : Fin 256) :
    normR o (ix4 b p h e) = centred (fun e => o (ix4 b p h e)) e * Ideal.rsqrt (Ideal.div
      (∑ l, centred (fun e => o (ix4 b p h e)) l * centred (fun e => o (ix4 b p h e)) l) (Ideal.ofBits .f32 0x43800000#32)
        + Ideal.ofBits .f32 0x358637BD#32) := by
  pointwise [normR, meanR, alongR]
  simp only [centredR_at]

theorem swishR_at (g : FVec Ideal S8x2048x1024 .f32) (b : Fin 8) (p : Fin 2048) (k : Fin 1024) :
    swishR g (ix3 b p k) = g (ix3 b p k) * Ideal.logistic (g (ix3 b p k)) := by
  pointwise [swishR]
  unfold Ideal.logistic
  rfl

/-- The last steps over any normalised rows and swished gates. -/
theorem tail_at (x : FVec Ideal S8x2048x4x256 .f32) (G : FVec Ideal S1024 .f32) (w : FVec Ideal S8x2048x1024 .f32)
    (b : Fin 8) (n : Fin 16) (i : Fin 128) (h : Fin 4) (e : Fin 256) :
    (truncf .bf16 (shapeCast S16384x1024 (mulf (mulf
      (shapeCast S8x2048x1024 x shapeCasts_S8x2048x4x256_S8x2048x1024)
      (broadcastInDim S8x2048x1024 ![0, 1, 2] bcast_S1x1x1024_S8x2048x1024_0_1_2 (broadcastInDim S1x1x1024 ![2] bcast_S1024_S1x1x1024_2 G)))
      w) shapeCasts_S8x2048x1024_S16384x1024) bitsLt_bf16_f32 : FVec Ideal S16384x1024 .bf16)
        (ix2 (⟨2048 * b.val + 128 * n.val + i.val, by omega⟩ : Fin 16384) (⟨256 * h.val + e.val, by omega⟩ : Fin 1024))
      = x (ix4 b (pl n i) h e) * G (ix1 (⟨256 * h.val + e.val, by omega⟩ : Fin 1024))
        * w (ix3 b (pl n i) (⟨256 * h.val + e.val, by omega⟩ : Fin 1024)) := by
  pointwise
  blk_point []

theorem outR_at (X : FVec Ideal S16384x6656 .bf16) (G : FVec Ideal S1024 .f32) (S : FVec Ideal S16x8x4x256x256 .f32)
    (b : Fin 8) (n : Fin 16) (i : Fin 128) (h : Fin 4) (e : Fin 256) :
    outR X G S (ix2 (⟨2048 * b.val + 128 * n.val + i.val, by omega⟩ : Fin 16384) (⟨256 * h.val + e.val, by omega⟩ : Fin 1024))
      = gated (mix (col (xOf X) b n 0 h) (col (xOf X) b n 1 h) (col (xOf X) b n 2 h) (cosAt n) (sinAt n)
      (decayIn h) (queryDecay h) (fun d e => S (ix5 n b h d e)) i) (fun e => G (ix1 (⟨256 * h.val + e.val, by omega⟩ : Fin 1024)))
      (col (xOf X) b n 3 h i) e := by
  unfold outR gated
  rw [tail_at, normR_at, swishR_at, gR_at]
  simp only [placesR_at, mixR_at]

end Cert.ReferenceIdeal.Value

end
-- ==== Proof.RefLoop.lean ====
/-  The reference's loop over the chunks: after `k` rounds the carried state is the retention state before chunk `k`, and
    the states before the earlier chunks are stored. -/
module

public import proofs.«01_k».proof.Proof.RefRead
public import Idealize.ShloMosaic.Lib.DynamicIndex
public import Idealize.ShloMosaic.Lib.Pipeline.Value

@[expose] public section

set_option maxRecDepth 16384

noncomputable section

open Idealize.ShloMosaic Idealize.ShloMosaic.TcCoe Idealize.ShloMosaic.Tactic Idealize.SL.Sem Idealize.ShloMosaic.StableHlo

namespace Cert.ReferenceIdeal.Value

open Cert.ReferenceIdeal Cert.ReferenceIdeal.Gen Cert.Retention

variable (m : (ℓ : Loc nD τ sig) → Buf (Elt Ideal) ℓ)

theorem slices_at (k : Fin 16) : S16x8x4x256x256.Slices ![k.val, 0, 0, 0, 0] S1x8x4x256x256 := by
  refine ⟨rfl, fun a => ?_⟩
  fin_cases a
  · show k.val + 1 ≤ 16
    omega
  · exact (by decide : 0 + 8 ≤ 8)
  · exact (by decide : 0 + 4 ≤ 4)
  · exact (by decide : 0 + 256 ≤ 256)
  · exact (by decide : 0 + 256 ≤ 256)

/-- The slice of chunk `k`. -/
theorem slice_at (Y : FVec Ideal S16x8x4x256x256 .f32) (st : Fin 5 → Int) (k : Fin 16)
    (hst : ∀ a, st a = ((![k.val, 0, 0, 0, 0] : Fin 5 → ℕ) a : Int)) (b : Fin 8) (h : Fin 4) (d e : Fin 256) :
    shapeCast S8x4x256x256 (Host.dynamicSlice S1x8x4x256x256 Y st sliceFits_S16x8x4x256x256_S1x8x4x256x256)
      shapeCasts_S1x8x4x256x256_S8x4x256x256 (ix4 b h d e) = Y (ix5 k b h d e) := by
  rw [Host.dynamicSlice_eq_extractStridedSlice _ _ _ ![k.val, 0, 0, 0, 0] _ (slices_at k) hst]
  pointwise
  blk_ext []

/-- The stored states after the write of chunk `k`. -/
theorem update_at (Y : FVec Ideal S16x8x4x256x256 .f32) (U : FVec Ideal S8x4x256x256 .f32) (st : Fin 5 → Int) (k : Fin 16)
    (hst : ∀ a, st a = ((![k.val, 0, 0, 0, 0] : Fin 5 → ℕ) a : Int)) (n : Fin 16) (b : Fin 8) (h : Fin 4) (d e : Fin 256) :
    Host.dynamicUpdateSlice Y (broadcastInDim S1x8x4x256x256 ![1, 2, 3, 4] bcast_S8x4x256x256_S1x8x4x256x256_1_2_3_4 U) st
      updateFits_S16x8x4x256x256_S1x8x4x256x256 (ix5 n b h d e) = if n = k then U (ix4 b h d e) else Y (ix5 n b h d e) := by
  rw [Host.dynamicUpdateSlice_eq_updateSlice _ _ _ _ ![k.val, 0, 0, 0, 0] (fun a => by
    rw [hst]
    have := (slices_at k).2 a
    omega) (slices_at k)]
  pointwise
  by_cases hn : n = k
  · rw [dif_pos (by rw [hn]; omega), if_pos hn]
  · rw [dif_neg (fun hh => hn (Fin.ext (by omega))), if_neg hn]

/-- The loop's valuation after `k` rounds. -/
abbrev at_ (c : Dev nD) (k : ℕ) : Valuation τ sig (Elt Ideal) := STEP^[k] (entryContents preI m c)

theorem at_succ (c : Dev nD) (k : ℕ) : at_ m c (k + 1) = STEP (at_ m c k) := Function.iterate_succ_apply' _ _ _

theorem at_kv (c : Dev nD) (k : ℕ) : at_ m c k (Proc.devRef .tc main_v100_0) = kvR (m ((c : Thread nD τ).loc main_arg0)) := by
  induction k with
  | zero => exact entry_kv m c
  | succ k ih => rw [at_succ, STEP_main_v100_0, ih]
theorem at_cdec (c : Dev nD) (k : ℕ) : at_ m c k (Proc.devRef .tc main_v100_1) = cdecR := by
  induction k with
  | zero => exact entry_cdec m c
  | succ k ih => rw [at_succ, STEP_main_v100_1, ih]
theorem at_ctr (c : Dev nD) (k : ℕ) : at_ m c k (Proc.devRef .tc main_v100_2) = fun _ => BitVec.ofNat 32 k := by
  induction k with
  | zero => exact ctr_entry m c
  | succ k ih =>
    rw [at_succ, STEP_main_v100_2]
    unfold step_main_v100_2
    rw [ih]
    funext _
    show BitVec.ofNat 32 k + 1#32 = BitVec.ofNat 32 (k + 1)
    rw [BitVec.ofNat_add]

theorem start_eq (c : Dev nD) (k : ℕ) (hk : k < 16) (a : Fin 5) :
    (((![at_ m c k (Proc.devRef .tc main_v100_2), constantI S_ 32 0#32, constantI S_ 32 0#32, constantI S_ 32 0#32,
      constantI S_ 32 0#32] : Fin 5 → (⟨S_, .i32⟩ : BufTy).Contents (Elt Ideal))) a (Shape.Idx.first h_S_)).toInt
      = ((![k, 0, 0, 0, 0] : Fin 5 → ℕ) a : Int) := by
  rw [at_ctr]
  fin_cases a
  · show (BitVec.ofNat 32 k).toInt = (k : ℤ)
    rw [BitVec.toInt_eq_toNat_cond, BitVec.toNat_ofNat, Nat.mod_eq_of_lt (by omega), if_pos (by omega)]
  all_goals rfl

/-- One round on the state, at an index. -/
theorem step_at (C : FVec Ideal S4 .f32) (S W : FVec Ideal S8x4x256x256 .f32) (b : Fin 8) (h : Fin 4) (d e : Fin 256) :
    (addf (mulf (broadcastInDim S8x4x256x256 ![0, 1, 2, 3] bcast_S1x4x1x1_S8x4x256x256_0_1_2_3
      (broadcastInDim S1x4x1x1 ![1] bcast_S4_S1x4x1x1_1 C)) S) W : FVec Ideal S8x4x256x256 .f32) (ix4 b h d e)
      = C (ix1 h) * S (ix4 b h d e) + W (ix4 b h d e) := by
  pointwise

/-- The state carried into round `k` is the state before chunk `k`. -/
theorem at_state (c : Dev nD) (b : Fin 8) (h : Fin 4) : ∀ (k : ℕ) (hk : k ≤ 16) (d e : Fin 256),
    (at_ m c k (Proc.devRef .tc main_v100_3) : FVec Ideal S8x4x256x256 .f32) (ix4 b h d e)
      = state (xOf (m ((c : Thread nD τ).loc main_arg0))) b h k d e := by
  intro k
  induction k with
  | zero => exact fun _ d e => entry_state m c b h d e
  | succ k ih =>
    intro hk d e
    rw [at_succ, STEP_main_v100_3]
    unfold step_main_v100_3
    refine (step_at _ _ _ b h d e).trans ?_
    rw [state, dif_pos (by omega : k < 16)]
    refine congrArg₂ (· + ·) (congrArg₂ (· * ·) ?_ (ih (by omega) d e)) ?_
    · rw [at_cdec]
      exact cdecR_at h
    · refine (slice_at _ _ ⟨k, by omega⟩ (start_eq m c k (by omega)) b h d e).trans ?_
      rw [at_kv]
      exact kvR_at _ _ b h d e

/-- The state before every chunk passed is stored. -/
theorem at_states (c : Dev nD) (n : Fin 16) (b : Fin 8) (h : Fin 4) : ∀ (k : ℕ) (hk : k ≤ 16) (hn : n.val < k) (d e : Fin 256),
    (at_ m c k (Proc.devRef .tc main_v100_4) : FVec Ideal S16x8x4x256x256 .f32) (ix5 n b h d e)
      = state (xOf (m ((c : Thread nD τ).loc main_arg0))) b h n.val d e := by
  intro k
  induction k with
  | zero => exact fun _ hn => absurd hn (by omega)
  | succ k ih =>
    intro hk hn d e
    rw [at_succ, STEP_main_v100_4]
    unfold step_main_v100_4
    refine (update_at _ _ _ ⟨k, by omega⟩ (start_eq m c k (by omega)) n b h d e).trans ?_
    by_cases h' : n = ⟨k, by omega⟩
    · rw [if_pos h', at_state m c b h k (by omega), h']
    · rw [if_neg h']
      exact ih (by omega) (by have : n.val ≠ k := fun hh => h' (Fin.ext hh); omega) d e

/-- The channel gains, as numbers. -/
def gOf (G : FVec Ideal S1024 .f32) (e : Fin 1024) : EReal := G (ix1 e)

/-- The result from the right states is the retention. -/
theorem outR_result (X : FVec Ideal S16384x6656 .bf16) (G : FVec Ideal S1024 .f32) (S : FVec Ideal S16x8x4x256x256 .f32)
    (hS : ∀ (n : Fin 16) (b : Fin 8) (h : Fin 4) (d e : Fin 256), S (ix5 n b h d e) = state (xOf X) b h n.val d e)
    (r : Fin 16384) (k : Fin 1024) : outR X G S (ix2 r k) = resultAt (xOf X) (gOf G) r k := by
  have hr : r = (⟨2048 * (r.val / 2048) + 128 * (r.val % 2048 / 128) + r.val % 128, by omega⟩ : Fin 16384) :=
    Fin.ext (by show r.val = 2048 * (r.val / 2048) + 128 * (r.val % 2048 / 128) + r.val % 128; omega)
  have hk : k = (⟨256 * (k.val / 256) + k.val % 256, by omega⟩ : Fin 1024) :=
    Fin.ext (by show k.val = 256 * (k.val / 256) + k.val % 256; omega)
  refine (congrArg₂ (fun a b => outR X G S (ix2 a b)) hr hk).trans ?_
  refine (outR_at X G S ⟨r.val / 2048, by omega⟩ ⟨r.val % 2048 / 128, by omega⟩ ⟨r.val % 128, by omega⟩
    ⟨k.val / 256, by omega⟩ ⟨k.val % 256, by omega⟩).trans ?_
  unfold resultAt result
  rw [show (fun d e => S (ix5 ⟨r.val % 2048 / 128, by omega⟩ ⟨r.val / 2048, by omega⟩ ⟨k.val / 256, by omega⟩ d e))
    = state (xOf X) ⟨r.val / 2048, by omega⟩ ⟨k.val / 256, by omega⟩ (r.val % 2048 / 128) from
      funext fun d => funext fun e => hS _ _ _ d e]
  rfl

/-- The reference's result is the retention of its arguments. -/
theorem reference_eq (c : Dev nD) (r : Fin 16384) (k : Fin 1024) :
    (out_main_v263 (at_ m c 16) : FVec Ideal S16384x1024 .bf16) (ix2 r k)
      = resultAt (xOf (m ((c : Thread nD τ).loc main_arg0))) (gOf (m ((c : Thread nD τ).loc main_arg1))) r k := by
  refine (congrFun (out_eq (at_ m c 16)) (ix2 r k)).trans ?_
  rw [show at_ m c 16 (Proc.devRef .tc main_arg0) = _ from iter_main_arg0 m c 16,
    show at_ m c 16 (Proc.devRef .tc main_arg1) = _ from iter_main_arg1 m c 16]
  exact outR_result _ _ _ (fun n b h d e => at_states m c n b h 16 le_rfl n.isLt d e) r k

end Cert.ReferenceIdeal.Value

end
-- ==== Proof.Retention.lean ====
/-  The retention: kernel and reference end with the same result. -/
module

public import proofs.«01_k».proof.Defs
public import proofs.«01_k».proof.Proof.Seq
public import proofs.«01_k».proof.Proof.RefLoop
public import proofs.«01_k».proof.Proof.Gen.Kernel
public import proofs.«01_k».proof.Proof.Gen.Kernel.Frame
public import Idealize.ShloMosaic.Adequacy
public import Idealize.ShloMosaic.Lib.Claim

@[expose] public section

noncomputable section

namespace Cert.Retention

open Idealize.ShloMosaic Idealize.SL.Sem

/-- The two programs, idealized, compute the same array from the same arguments. -/
theorem algebraic : Cert.algebraic_KernelIdeal_ReferenceIdeal := by
  pair_intro
  · run_from Cert.KernelIdeal.Value.run_blocks m g
  · run_from Cert.ReferenceIdeal.Value.run m' g'
    refine Eq.trans ?_ (Cert.KernelIdeal.Value.kernel_eq m c).symm
    funext y
    have hy : y = ix2 (y 0) (y 1) := by funext a; fin_cases a <;> rfl
    have hx : Cert.KernelIdeal.Value.XC m c = Cert.ReferenceIdeal.Value.xOf (m' ((c.tc : Thread _ _).loc Cert.ReferenceIdeal.main_arg0)) := by
      funext r k
      rw [(hagree c).1]
      rfl
    have hg : Cert.KernelIdeal.Value.GC m c = Cert.ReferenceIdeal.Value.gOf (m' ((c.tc : Thread _ _).loc Cert.ReferenceIdeal.main_arg1)) := by
      funext e
      rw [(hagree c).2]
      rfl
    rw [hx, hg]
    exact (congrArg _ hy).trans (Cert.ReferenceIdeal.Value.reference_eq m' c (y 0) (y 1))

/-- The reference ends with its arguments unchanged and every counter at zero. -/
theorem frame_reference : Cert.quiescent_ReferenceIdeal := by
  intro m g _
  run_from Cert.ReferenceIdeal.Value.run m g
  all_goals first
    | exact sem_eq_zero_of_no_sems rfl _
    | exact fun _ => ⟨trivial, trivial⟩

end Cert.Retention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Inproj
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Outproj
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Pre_tables_ok
public import proofs.«01_k».proof.Proof.Experts
public import proofs.«01_k».proof.Proof.Retention
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_tables_ok.Gen.facts,
  fun m ρ _ => Cert.Kernel.Gen.frame m ρ,
  fun m ρ _ => Cert.KernelIdeal.Gen.frame m ρ,
  Cert.Retention.frame_reference,
  Cert.Inproj.frame_kernel,
  Cert.Inproj.frame_ideal,
  Cert.Inproj.frame_reference,
  fun m ρ _ => Cert.Kernel3.Gen.frame m ρ,
  fun m ρ _ => Cert.Kernel3Ideal.Gen.frame m ρ,
  Cert.Outproj.frame_reference,
  Cert.Experts.frame_kernel,
  Cert.Experts.frame_ideal,
  Cert.Experts.frame_reference,
  Cert.Experts.frame_reference_routed,
  trivial,
  Cert.Retention.algebraic,
  trivial,
  Cert.Inproj.algebraic,
  trivial,
  Cert.Outproj.algebraic,
  trivial,
  Cert.Experts.algebraic⟩

end Cert.Proof

end
